-- ==== Defs.lean ====
def Pre_Moba (m : (ℓ : Loc Cert.Moba.nD Cert.Moba.τ Cert.Moba.sig) → Buf (Elt Bits) ℓ) : Prop :=
  True

def Pre_MobaIdeal (m : (ℓ : Loc Cert.MobaIdeal.nD Cert.MobaIdeal.τ Cert.MobaIdeal.sig) → Buf (Elt Ideal) ℓ) : Prop :=
  True

def Pre_MobaIdeal_finite [hPre_finite : Cert.Pre_finite.Facts] (m : (ℓ : Loc Cert.MobaIdeal.nD Cert.MobaIdeal.τ Cert.MobaIdeal.sig) → Buf (Elt Ideal) ℓ) : Prop :=
  ∀ c : Dev Cert.MobaIdeal.nD,
    (Cert.Pre_finite.fn (F := Ideal) (m ((c.tc : Thread Cert.MobaIdeal.nD Cert.MobaIdeal.τ).loc Cert.MobaIdeal.main_arg0)) (m ((c.tc : Thread Cert.MobaIdeal.nD Cert.MobaIdeal.τ).loc Cert.MobaIdeal.main_arg1)) (m ((c.tc : Thread Cert.MobaIdeal.nD Cert.MobaIdeal.τ).loc Cert.MobaIdeal.main_arg2)) (m ((c.tc : Thread Cert.MobaIdeal.nD Cert.MobaIdeal.τ).loc Cert.MobaIdeal.main_arg3)) (m ((c.tc : Thread Cert.MobaIdeal.nD Cert.MobaIdeal.τ).loc Cert.MobaIdeal.main_arg4))) = (fun _ => 1#1)

def Pre_MobaRefIdeal (m : (ℓ : Loc Cert.MobaRefIdeal.nD Cert.MobaRefIdeal.τ Cert.MobaRefIdeal.sig) → Buf (Elt Ideal) ℓ) : Prop :=
  True

def Pre_MobaRefIdeal_finite [hPre_finite : Cert.Pre_finite.Facts] (m : (ℓ : Loc Cert.MobaRefIdeal.nD Cert.MobaRefIdeal.τ Cert.MobaRefIdeal.sig) → Buf (Elt Ideal) ℓ) : Prop :=
  ∀ c : Dev Cert.MobaRefIdeal.nD,
    (Cert.Pre_finite.fn (F := Ideal) (m ((c.tc : Thread Cert.MobaRefIdeal.nD Cert.MobaRefIdeal.τ).loc Cert.MobaRefIdeal.main_arg0)) (m ((c.tc : Thread Cert.MobaRefIdeal.nD Cert.MobaRefIdeal.τ).loc Cert.MobaRefIdeal.main_arg1)) (m ((c.tc : Thread Cert.MobaRefIdeal.nD Cert.MobaRefIdeal.τ).loc Cert.MobaRefIdeal.main_arg2)) (m ((c.tc : Thread Cert.MobaRefIdeal.nD Cert.MobaRefIdeal.τ).loc Cert.MobaRefIdeal.main_arg3)) (m ((c.tc : Thread Cert.MobaRefIdeal.nD Cert.MobaRefIdeal.τ).loc Cert.MobaRefIdeal.main_arg4))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def quiescent_Moba [hMoba : Cert.Moba.Facts] : Prop :=
  ∀ (m : (ℓ : Loc Cert.Moba.nD Cert.Moba.τ Cert.Moba.sig) → Buf (Elt Bits) ℓ) (g : Dev Cert.Moba.nD → PrngReg), Pre_Moba m →
    θ_run (Cert.Moba.defs (F := Bits)) (onTc (τ := Cert.Moba.τ) (Cert.Moba.main (F := Bits))) ⟨m, fun _ => 0, g⟩ (fun r => (∀ c : Dev Cert.Moba.nD,
      r.2.mem ((c.tc : Thread Cert.Moba.nD Cert.Moba.τ).loc Cert.Moba.main_arg0) = m ((c.tc : Thread Cert.Moba.nD Cert.Moba.τ).loc Cert.Moba.main_arg0)
      ∧ r.2.mem ((c.tc : Thread Cert.Moba.nD Cert.Moba.τ).loc Cert.Moba.main_arg1) = m ((c.tc : Thread Cert.Moba.nD Cert.Moba.τ).loc Cert.Moba.main_arg1)
      ∧ r.2.mem ((c.tc : Thread Cert.Moba.nD Cert.Moba.τ).loc Cert.Moba.main_arg2) = m ((c.tc : Thread Cert.Moba.nD Cert.Moba.τ).loc Cert.Moba.main_arg2)
      ∧ r.2.mem ((c.tc : Thread Cert.Moba.nD Cert.Moba.τ).loc Cert.Moba.main_arg3) = m ((c.tc : Thread Cert.Moba.nD Cert.Moba.τ).loc Cert.Moba.main_arg3)
      ∧ r.2.mem ((c.tc : Thread Cert.Moba.nD Cert.Moba.τ).loc Cert.Moba.main_arg4) = m ((c.tc : Thread Cert.Moba.nD Cert.Moba.τ).loc Cert.Moba.main_arg4))
      ∧ r.2.sem = fun _ => 0)

def quiescent_MobaIdeal [hMobaIdeal : Cert.MobaIdeal.Facts] : Prop :=
  ∀ (m : (ℓ : Loc Cert.MobaIdeal.nD Cert.MobaIdeal.τ Cert.MobaIdeal.sig) → Buf (Elt Ideal) ℓ) (g : Dev Cert.MobaIdeal.nD → PrngReg), Pre_MobaIdeal m →
    θ_run (Cert.MobaIdeal.defs (F := Ideal)) (onTc (τ := Cert.MobaIdeal.τ) (Cert.MobaIdeal.main (F := Ideal))) ⟨m, fun _ => 0, g⟩ (fun r => (∀ c : Dev Cert.MobaIdeal.nD,
      r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0)
      ∧ r.2.mem ((c.tc : Thread Cert.MobaIdeal.nD Cert.MobaIdeal.τ).loc Cert.MobaIdeal.main_arg1) = m ((c.tc : Thread Cert.MobaIdeal.nD Cert.MobaIdeal.τ).loc Cert.MobaIdeal.main_arg1)
      ∧ r.2.mem ((c.tc : Thread Cert.MobaIdeal.nD Cert.MobaIdeal.τ).loc Cert.MobaIdeal.main_arg2) = m ((c.tc : Thread Cert.MobaIdeal.nD Cert.MobaIdeal.τ).loc Cert.MobaIdeal.main_arg2)
      ∧ r.2.mem ((c.tc : Thread Cert.MobaIdeal.nD Cert.MobaIdeal.τ).loc Cert.MobaIdeal.main_arg3) = m ((c.tc : Thread Cert.MobaIdeal.nD Cert.MobaIdeal.τ).loc Cert.MobaIdeal.main_arg3)
      ∧ r.2.mem ((c.tc : Thread Cert.MobaIdeal.nD Cert.MobaIdeal.τ).loc Cert.MobaIdeal.main_arg4) = m ((c.tc : Thread Cert.MobaIdeal.nD Cert.MobaIdeal.τ).loc Cert.MobaIdeal.main_arg4))
      ∧ r.2.sem = fun _ => 0)

def quiescent_MobaIdeal_pre_finite [hMobaIdeal : Cert.MobaIdeal.Facts] [hPre_finite : Cert.Pre_finite.Facts] : Prop :=
  ∀ (m : (ℓ : Loc Cert.MobaIdeal.nD Cert.MobaIdeal.τ Cert.MobaIdeal.sig) → Buf (Elt Ideal) ℓ) (g : Dev Cert.MobaIdeal.nD → PrngReg), Pre_MobaIdeal_finite m →
    θ_run (Cert.MobaIdeal.defs (F := Ideal)) (onTc (τ := Cert.MobaIdeal.τ) (Cert.MobaIdeal.main (F := Ideal))) ⟨m, fun _ => 0, g⟩ (fun r => (∀ c : Dev Cert.MobaIdeal.nD,
      r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0)
      ∧ r.2.mem ((c.tc : Thread Cert.MobaIdeal.nD Cert.MobaIdeal.τ).loc Cert.MobaIdeal.main_arg1) = m ((c.tc : Thread Cert.MobaIdeal.nD Cert.MobaIdeal.τ).loc Cert.MobaIdeal.main_arg1)
      ∧ r.2.mem ((c.tc : Thread Cert.MobaIdeal.nD Cert.MobaIdeal.τ).loc Cert.MobaIdeal.main_arg2) = m ((c.tc : Thread Cert.MobaIdeal.nD Cert.MobaIdeal.τ).loc Cert.MobaIdeal.main_arg2)
      ∧ r.2.mem ((c.tc : Thread Cert.MobaIdeal.nD Cert.MobaIdeal.τ).loc Cert.MobaIdeal.main_arg3) = m ((c.tc : Thread Cert.MobaIdeal.nD Cert.MobaIdeal.τ).loc Cert.MobaIdeal.main_arg3)
      ∧ r.2.mem ((c.tc : Thread Cert.MobaIdeal.nD Cert.MobaIdeal.τ).loc Cert.MobaIdeal.main_arg4) = m ((c.tc : Thread Cert.MobaIdeal.nD Cert.MobaIdeal.τ).loc Cert.MobaIdeal.main_arg4))
      ∧ r.2.sem = fun _ => 0)

def quiescent_MobaRefIdeal [hMobaRefIdeal : Cert.MobaRefIdeal.Facts] : Prop :=
  ∀ (m : (ℓ : Loc Cert.MobaRefIdeal.nD Cert.MobaRefIdeal.τ Cert.MobaRefIdeal.sig) → Buf (Elt Ideal) ℓ) (g : Dev Cert.MobaRefIdeal.nD → PrngReg), Pre_MobaRefIdeal m →
    θ_run (Cert.MobaRefIdeal.defs (F := Ideal)) (onTc (τ := Cert.MobaRefIdeal.τ) (Cert.MobaRefIdeal.main (F := Ideal))) ⟨m, fun _ => 0, g⟩ (fun r => (∀ c : Dev Cert.MobaRefIdeal.nD,
      r.2.mem ((c.tc : Thread Cert.MobaRefIdeal.nD Cert.MobaRefIdeal.τ).loc Cert.MobaRefIdeal.main_arg0) = m ((c.tc : Thread Cert.MobaRefIdeal.nD Cert.MobaRefIdeal.τ).loc Cert.MobaRefIdeal.main_arg0)
      ∧ r.2.mem ((c.tc : Thread Cert.MobaRefIdeal.nD Cert.MobaRefIdeal.τ).loc Cert.MobaRefIdeal.main_arg1) = m ((c.tc : Thread Cert.MobaRefIdeal.nD Cert.MobaRefIdeal.τ).loc Cert.MobaRefIdeal.main_arg1)
      ∧ r.2.mem ((c.tc : Thread Cert.MobaRefIdeal.nD Cert.MobaRefIdeal.τ).loc Cert.MobaRefIdeal.main_arg2) = m ((c.tc : Thread Cert.MobaRefIdeal.nD Cert.MobaRefIdeal.τ).loc Cert.MobaRefIdeal.main_arg2)
      ∧ r.2.mem ((c.tc : Thread Cert.MobaRefIdeal.nD Cert.MobaRefIdeal.τ).loc Cert.MobaRefIdeal.main_arg3) = m ((c.tc : Thread Cert.MobaRefIdeal.nD Cert.MobaRefIdeal.τ).loc Cert.MobaRefIdeal.main_arg3)
      ∧ r.2.mem ((c.tc : Thread Cert.MobaRefIdeal.nD Cert.MobaRefIdeal.τ).loc Cert.MobaRefIdeal.main_arg4) = m ((c.tc : Thread Cert.MobaRefIdeal.nD Cert.MobaRefIdeal.τ).loc Cert.MobaRefIdeal.main_arg4))
      ∧ r.2.sem = fun _ => 0)

def quiescent_MobaRefIdeal_pre_finite [hMobaRefIdeal : Cert.MobaRefIdeal.Facts] [hPre_finite : Cert.Pre_finite.Facts] : Prop :=
  ∀ (m : (ℓ : Loc Cert.MobaRefIdeal.nD Cert.MobaRefIdeal.τ Cert.MobaRefIdeal.sig) → Buf (Elt Ideal) ℓ) (g : Dev Cert.MobaRefIdeal.nD → PrngReg), Pre_MobaRefIdeal_finite m →
    θ_run (Cert.MobaRefIdeal.defs (F := Ideal)) (onTc (τ := Cert.MobaRefIdeal.τ) (Cert.MobaRefIdeal.main (F := Ideal))) ⟨m, fun _ => 0, g⟩ (fun r => (∀ c : Dev Cert.MobaRefIdeal.nD,
      r.2.mem ((c.tc : Thread Cert.MobaRefIdeal.nD Cert.MobaRefIdeal.τ).loc Cert.MobaRefIdeal.main_arg0) = m ((c.tc : Thread Cert.MobaRefIdeal.nD Cert.MobaRefIdeal.τ).loc Cert.MobaRefIdeal.main_arg0)
      ∧ r.2.mem ((c.tc : Thread Cert.MobaRefIdeal.nD Cert.MobaRefIdeal.τ).loc Cert.MobaRefIdeal.main_arg1) = m ((c.tc : Thread Cert.MobaRefIdeal.nD Cert.MobaRefIdeal.τ).loc Cert.MobaRefIdeal.main_arg1)
      ∧ r.2.mem ((c.tc : Thread Cert.MobaRefIdeal.nD Cert.MobaRefIdeal.τ).loc Cert.MobaRefIdeal.main_arg2) = m ((c.tc : Thread Cert.MobaRefIdeal.nD Cert.MobaRefIdeal.τ).loc Cert.MobaRefIdeal.main_arg2)
      ∧ r.2.mem ((c.tc : Thread Cert.MobaRefIdeal.nD Cert.MobaRefIdeal.τ).loc Cert.MobaRefIdeal.main_arg3) = m ((c.tc : Thread Cert.MobaRefIdeal.nD Cert.MobaRefIdeal.τ).loc Cert.MobaRefIdeal.main_arg3)
      ∧ r.2.mem ((c.tc : Thread Cert.MobaRefIdeal.nD Cert.MobaRefIdeal.τ).loc Cert.MobaRefIdeal.main_arg4) = m ((c.tc : Thread Cert.MobaRefIdeal.nD Cert.MobaRefIdeal.τ).loc Cert.MobaRefIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7))
      ∧ r.2.sem = fun _ => 0)

def preserves_Moba_MobaIdeal : Prop :=
  IdealRules.named_const.Statement Cert.MobaIdeal.κ "mask" .f32 0xF149F2CA#32 ⊥

def algebraic_MobaIdeal_MobaRefIdeal_pre_finite [hMobaIdeal : Cert.MobaIdeal.Facts] [hMobaRefIdeal : Cert.MobaRefIdeal.Facts] [hPre_finite : Cert.Pre_finite.Facts] : Prop :=
  ∀ (m : (ℓ : Loc Cert.MobaIdeal.nD Cert.MobaIdeal.τ Cert.MobaIdeal.sig) → Buf (Elt Ideal) ℓ) (g : Dev Cert.MobaIdeal.nD → PrngReg)
    (m' : (ℓ : Loc Cert.MobaRefIdeal.nD Cert.MobaRefIdeal.τ Cert.MobaRefIdeal.sig) → Buf (Elt Ideal) ℓ) (g' : Dev Cert.MobaRefIdeal.nD → PrngReg), Pre_MobaIdeal_finite m →
    (∀ c : Dev Cert.MobaIdeal.nD,
      m' ((c.tc : Thread Cert.MobaRefIdeal.nD Cert.MobaRefIdeal.τ).loc Cert.MobaRefIdeal.main_arg0) = m ((c.tc : Thread Cert.MobaIdeal.nD Cert.MobaIdeal.τ).loc Cert.MobaIdeal.main_arg0)
      ∧ m' ((c.tc : Thread Cert.MobaRefIdeal.nD Cert.MobaRefIdeal.τ).loc Cert.MobaRefIdeal.main_arg1) = m ((c.tc : Thread Cert.MobaIdeal.nD Cert.MobaIdeal.τ).loc Cert.MobaIdeal.main_arg1)
      ∧ m' ((c.tc : Thread Cert.MobaRefIdeal.nD Cert.MobaRefIdeal.τ).loc Cert.MobaRefIdeal.main_arg2) = m ((c.tc : Thread Cert.MobaIdeal.nD Cert.MobaIdeal.τ).loc Cert.MobaIdeal.main_arg2)
      ∧ m' ((c.tc : Thread Cert.MobaRefIdeal.nD Cert.MobaRefIdeal.τ).loc Cert.MobaRefIdeal.main_arg3) = m ((c.tc : Thread Cert.MobaIdeal.nD Cert.MobaIdeal.τ).loc Cert.MobaIdeal.main_arg3)
      ∧ m' ((c.tc : Thread Cert.MobaRefIdeal.nD Cert.MobaRefIdeal.τ).loc Cert.MobaRefIdeal.main_arg4) = m ((c.tc : Thread Cert.MobaIdeal.nD Cert.MobaIdeal.τ).loc Cert.MobaIdeal.main_arg4)) →
    ∃ (v0 : (c : Dev Cert.MobaIdeal.nD) → Buf (Elt Ideal) ((c.tc : Thread Cert.MobaIdeal.nD Cert.MobaIdeal.τ).loc Cert.MobaIdeal.main_v2)),
      θ_run (Cert.MobaIdeal.defs (F := Ideal)) (onTc (τ := Cert.MobaIdeal.τ) (Cert.MobaIdeal.main (F := Ideal))) ⟨m, fun _ => 0, g⟩ (fun r => ∀ c : Dev Cert.MobaIdeal.nD,
          r.2.mem ((c.tc : Thread Cert.MobaIdeal.nD Cert.MobaIdeal.τ).loc Cert.MobaIdeal.main_v2) = v0 c
          ∧ r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0)
          ∧ r.2.mem ((c.tc : Thread Cert.MobaIdeal.nD Cert.MobaIdeal.τ).loc Cert.MobaIdeal.main_arg1) = m ((c.tc : Thread Cert.MobaIdeal.nD Cert.MobaIdeal.τ).loc Cert.MobaIdeal.main_arg1)
          ∧ r.2.mem ((c.tc : Thread Cert.MobaIdeal.nD Cert.MobaIdeal.τ).loc Cert.MobaIdeal.main_arg2) = m ((c.tc : Thread Cert.MobaIdeal.nD Cert.MobaIdeal.τ).loc Cert.MobaIdeal.main_arg2)
          ∧ r.2.mem ((c.tc : Thread Cert.MobaIdeal.nD Cert.MobaIdeal.τ).loc Cert.MobaIdeal.main_arg3) = m ((c.tc : Thread Cert.MobaIdeal.nD Cert.MobaIdeal.τ).loc Cert.MobaIdeal.main_arg3)
          ∧ r.2.mem ((c.tc : Thread Cert.MobaIdeal.nD Cert.MobaIdeal.τ).loc Cert.MobaIdeal.main_arg4) = m ((c.tc : Thread Cert.MobaIdeal.nD Cert.MobaIdeal.τ).loc Cert.MobaIdeal.main_arg4))
      ∧ θ_run (Cert.MobaRefIdeal.defs (F := Ideal)) (onTc (τ := Cert.MobaRefIdeal.τ) (Cert.MobaRefIdeal.main (F := Ideal))) ⟨m', fun _ => 0, g'⟩ (fun r => ∀ c : Dev Cert.MobaRefIdeal.nD,
          r.2.mem ((c.tc : Thread Cert.MobaRefIdeal.nD Cert.MobaRefIdeal.τ).loc Cert.MobaRefIdeal.main_v115) = v0 c
          ∧ r.2.mem ((c.tc : Thread Cert.MobaRefIdeal.nD Cert.MobaRefIdeal.τ).loc Cert.MobaRefIdeal.main_arg0) = m' ((c.tc : Thread Cert.MobaRefIdeal.nD Cert.MobaRefIdeal.τ).loc Cert.MobaRefIdeal.main_arg0)
          ∧ r.2.mem ((c.tc : Thread Cert.MobaRefIdeal.nD Cert.MobaRefIdeal.τ).loc Cert.MobaRefIdeal.main_arg1) = m' ((c.tc : Thread Cert.MobaRefIdeal.nD Cert.MobaRefIdeal.τ).loc Cert.MobaRefIdeal.main_arg1)
          ∧ r.2.mem ((c.tc : Thread Cert.MobaRefIdeal.nD Cert.MobaRefIdeal.τ).loc Cert.MobaRefIdeal.main_arg2) = m' ((c.tc : Thread Cert.MobaRefIdeal.nD Cert.MobaRefIdeal.τ).loc Cert.MobaRefIdeal.main_arg2)
          ∧ r.2.mem ((c.tc : Thread Cert.MobaRefIdeal.nD Cert.MobaRefIdeal.τ).loc Cert.MobaRefIdeal.main_arg3) = m' ((c.tc : Thread Cert.MobaRefIdeal.nD Cert.MobaRefIdeal.τ).loc Cert.MobaRefIdeal.main_arg3)
          ∧ r.2.mem ((c.tc : Thread Cert.MobaRefIdeal.nD Cert.MobaRefIdeal.τ).loc Cert.MobaRefIdeal.main_arg4) = m' ((c.tc : Thread Cert.MobaRefIdeal.nD Cert.MobaRefIdeal.τ).loc Cert.MobaRefIdeal.main_arg4))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v2) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v2) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v18) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v15) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_Post_PostIdeal : Prop :=
  IdealRules.named_const.Statement Cert.PostIdeal.κ "scale" .f32 0x3DB504F3#32 (((Real.sqrt 128)⁻¹ : ℝ) : EReal)

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)) →
    ∃ (v0 : (c : Dev Cert.PostIdeal.nD) → Buf (Elt Ideal) ((c.tc : Thread Cert.PostIdeal.nD Cert.PostIdeal.τ).loc Cert.PostIdeal.main_v3_0)) (v1 : (c : Dev Cert.PostIdeal.nD) → Buf (Elt Ideal) ((c.tc : Thread Cert.PostIdeal.nD Cert.PostIdeal.τ).loc Cert.PostIdeal.main_v3_1)) (v2 : (c : Dev Cert.PostIdeal.nD) → Buf (Elt Ideal) ((c.tc : Thread Cert.PostIdeal.nD Cert.PostIdeal.τ).loc Cert.PostIdeal.main_v3_2)) (v3 : (c : Dev Cert.PostIdeal.nD) → Buf (Elt Ideal) ((c.tc : Thread Cert.PostIdeal.nD Cert.PostIdeal.τ).loc Cert.PostIdeal.main_v3_3)) (v4 : (c : Dev Cert.PostIdeal.nD) → Buf (Elt Ideal) ((c.tc : Thread Cert.PostIdeal.nD Cert.PostIdeal.τ).loc Cert.PostIdeal.main_v3_4)) (v5 : (c : Dev Cert.PostIdeal.nD) → Buf (Elt Ideal) ((c.tc : Thread Cert.PostIdeal.nD Cert.PostIdeal.τ).loc Cert.PostIdeal.main_v3_5)) (v6 : (c : Dev Cert.PostIdeal.nD) → Buf (Elt Ideal) ((c.tc : Thread Cert.PostIdeal.nD Cert.PostIdeal.τ).loc Cert.PostIdeal.main_v3_6)) (v7 : (c : Dev Cert.PostIdeal.nD) → Buf (Elt Ideal) ((c.tc : Thread Cert.PostIdeal.nD Cert.PostIdeal.τ).loc Cert.PostIdeal.main_v3_7)) (v8 : (c : Dev Cert.PostIdeal.nD) → Buf (Elt Ideal) ((c.tc : Thread Cert.PostIdeal.nD Cert.PostIdeal.τ).loc Cert.PostIdeal.main_v3_8)) (v9 : (c : Dev Cert.PostIdeal.nD) → Buf (Elt Ideal) ((c.tc : Thread Cert.PostIdeal.nD Cert.PostIdeal.τ).loc Cert.PostIdeal.main_v3_9)) (v10 : (c : Dev Cert.PostIdeal.nD) → Buf (Elt Ideal) ((c.tc : Thread Cert.PostIdeal.nD Cert.PostIdeal.τ).loc Cert.PostIdeal.main_v3_10)) (v11 : (c : Dev Cert.PostIdeal.nD) → Buf (Elt Ideal) ((c.tc : Thread Cert.PostIdeal.nD Cert.PostIdeal.τ).loc Cert.PostIdeal.main_v3_11)) (v12 : (c : Dev Cert.PostIdeal.nD) → Buf (Elt Ideal) ((c.tc : Thread Cert.PostIdeal.nD Cert.PostIdeal.τ).loc Cert.PostIdeal.main_v3_12)) (v13 : (c : Dev Cert.PostIdeal.nD) → Buf (Elt Ideal) ((c.tc : Thread Cert.PostIdeal.nD Cert.PostIdeal.τ).loc Cert.PostIdeal.main_v3_13)) (v14 : (c : Dev Cert.PostIdeal.nD) → Buf (Elt Ideal) ((c.tc : Thread Cert.PostIdeal.nD Cert.PostIdeal.τ).loc Cert.PostIdeal.main_v3_14)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v3_0) = v0 c
          ∧ r.2.mem ((c.tc : Thread Cert.PostIdeal.nD Cert.PostIdeal.τ).loc Cert.PostIdeal.main_v3_1) = v1 c
          ∧ r.2.mem ((c.tc : Thread Cert.PostIdeal.nD Cert.PostIdeal.τ).loc Cert.PostIdeal.main_v3_2) = v2 c
          ∧ r.2.mem ((c.tc : Thread Cert.PostIdeal.nD Cert.PostIdeal.τ).loc Cert.PostIdeal.main_v3_3) = v3 c
          ∧ r.2.mem ((c.tc : Thread Cert.PostIdeal.nD Cert.PostIdeal.τ).loc Cert.PostIdeal.main_v3_4) = v4 c
          ∧ r.2.mem ((c.tc : Thread Cert.PostIdeal.nD Cert.PostIdeal.τ).loc Cert.PostIdeal.main_v3_5) = v5 c
          ∧ r.2.mem ((c.tc : Thread Cert.PostIdeal.nD Cert.PostIdeal.τ).loc Cert.PostIdeal.main_v3_6) = v6 c
          ∧ r.2.mem ((c.tc : Thread Cert.PostIdeal.nD Cert.PostIdeal.τ).loc Cert.PostIdeal.main_v3_7) = v7 c
          ∧ r.2.mem ((c.tc : Thread Cert.PostIdeal.nD Cert.PostIdeal.τ).loc Cert.PostIdeal.main_v3_8) = v8 c
          ∧ r.2.mem ((c.tc : Thread Cert.PostIdeal.nD Cert.PostIdeal.τ).loc Cert.PostIdeal.main_v3_9) = v9 c
          ∧ r.2.mem ((c.tc : Thread Cert.PostIdeal.nD Cert.PostIdeal.τ).loc Cert.PostIdeal.main_v3_10) = v10 c
          ∧ r.2.mem ((c.tc : Thread Cert.PostIdeal.nD Cert.PostIdeal.τ).loc Cert.PostIdeal.main_v3_11) = v11 c
          ∧ r.2.mem ((c.tc : Thread Cert.PostIdeal.nD Cert.PostIdeal.τ).loc Cert.PostIdeal.main_v3_12) = v12 c
          ∧ r.2.mem ((c.tc : Thread Cert.PostIdeal.nD Cert.PostIdeal.τ).loc Cert.PostIdeal.main_v3_13) = v13 c
          ∧ r.2.mem ((c.tc : Thread Cert.PostIdeal.nD Cert.PostIdeal.τ).loc Cert.PostIdeal.main_v3_14) = v14 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v201) = v0 c
          ∧ r.2.mem ((c.tc : Thread Cert.PostRefIdeal.nD Cert.PostRefIdeal.τ).loc Cert.PostRefIdeal.main_v202) = v1 c
          ∧ r.2.mem ((c.tc : Thread Cert.PostRefIdeal.nD Cert.PostRefIdeal.τ).loc Cert.PostRefIdeal.main_v204) = v2 c
          ∧ r.2.mem ((c.tc : Thread Cert.PostRefIdeal.nD Cert.PostRefIdeal.τ).loc Cert.PostRefIdeal.main_v205) = v3 c
          ∧ r.2.mem ((c.tc : Thread Cert.PostRefIdeal.nD Cert.PostRefIdeal.τ).loc Cert.PostRefIdeal.main_v207) = v4 c
          ∧ r.2.mem ((c.tc : Thread Cert.PostRefIdeal.nD Cert.PostRefIdeal.τ).loc Cert.PostRefIdeal.main_v209) = v5 c
          ∧ r.2.mem ((c.tc : Thread Cert.PostRefIdeal.nD Cert.PostRefIdeal.τ).loc Cert.PostRefIdeal.main_v210) = v6 c
          ∧ r.2.mem ((c.tc : Thread Cert.PostRefIdeal.nD Cert.PostRefIdeal.τ).loc Cert.PostRefIdeal.main_v212) = v7 c
          ∧ r.2.mem ((c.tc : Thread Cert.PostRefIdeal.nD Cert.PostRefIdeal.τ).loc Cert.PostRefIdeal.main_v213) = v8 c
          ∧ r.2.mem ((c.tc : Thread Cert.PostRefIdeal.nD Cert.PostRefIdeal.τ).loc Cert.PostRefIdeal.main_v215) = v9 c
          ∧ r.2.mem ((c.tc : Thread Cert.PostRefIdeal.nD Cert.PostRefIdeal.τ).loc Cert.PostRefIdeal.main_v216) = v10 c
          ∧ r.2.mem ((c.tc : Thread Cert.PostRefIdeal.nD Cert.PostRefIdeal.τ).loc Cert.PostRefIdeal.main_v218) = v11 c
          ∧ r.2.mem ((c.tc : Thread Cert.PostRefIdeal.nD Cert.PostRefIdeal.τ).loc Cert.PostRefIdeal.main_v219) = v12 c
          ∧ r.2.mem ((c.tc : Thread Cert.PostRefIdeal.nD Cert.PostRefIdeal.τ).loc Cert.PostRefIdeal.main_v221) = v13 c
          ∧ r.2.mem ((c.tc : Thread Cert.PostRefIdeal.nD Cert.PostRefIdeal.τ).loc Cert.PostRefIdeal.main_v199) = v14 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7))

def Claim : Prop :=
  ∃ (hMoba : Cert.Moba.Facts) (hMobaIdeal : Cert.MobaIdeal.Facts) (hMobaRefIdeal : Cert.MobaRefIdeal.Facts) (hProj : Cert.Proj.Facts) (hProjIdeal : Cert.ProjIdeal.Facts) (hProjRefIdeal : Cert.ProjRefIdeal.Facts) (hMerge : Cert.Merge.Facts) (hMergeIdeal : Cert.MergeIdeal.Facts) (hMergeRefIdeal : Cert.MergeRefIdeal.Facts) (hNorm : Cert.Norm.Facts) (hNormIdeal : Cert.NormIdeal.Facts) (hNormRefIdeal : Cert.NormRefIdeal.Facts) (hPost : Cert.Post.Facts) (hPostIdeal : Cert.PostIdeal.Facts) (hPostRefIdeal : Cert.PostRefIdeal.Facts) (hPre_finite : Cert.Pre_finite.Facts),
    quiescent_Moba (hMoba := hMoba)
    ∧ quiescent_MobaIdeal (hMobaIdeal := hMobaIdeal)
    ∧ quiescent_MobaIdeal_pre_finite (hMobaIdeal := hMobaIdeal) (hPre_finite := hPre_finite)
    ∧ quiescent_MobaRefIdeal (hMobaRefIdeal := hMobaRefIdeal)
    ∧ quiescent_MobaRefIdeal_pre_finite (hMobaRefIdeal := hMobaRefIdeal) (hPre_finite := hPre_finite)
    ∧ quiescent_Proj (hProj := hProj)
    ∧ quiescent_ProjIdeal (hProjIdeal := hProjIdeal)
    ∧ quiescent_ProjRefIdeal (hProjRefIdeal := hProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_Norm (hNorm := hNorm)
    ∧ quiescent_NormIdeal (hNormIdeal := hNormIdeal)
    ∧ quiescent_NormRefIdeal (hNormRefIdeal := hNormRefIdeal)
    ∧ quiescent_Post (hPost := hPost)
    ∧ quiescent_PostIdeal (hPostIdeal := hPostIdeal)
    ∧ quiescent_PostRefIdeal (hPostRefIdeal := hPostRefIdeal)
    ∧ preserves_Moba_MobaIdeal
    ∧ algebraic_MobaIdeal_MobaRefIdeal_pre_finite (hMobaIdeal := hMobaIdeal) (hMobaRefIdeal := hMobaRefIdeal) (hPre_finite := hPre_finite)
    ∧ preserves_Proj_ProjIdeal
    ∧ algebraic_ProjIdeal_ProjRefIdeal (hProjIdeal := hProjIdeal) (hProjRefIdeal := hProjRefIdeal)
    ∧ preserves_Merge_MergeIdeal
    ∧ algebraic_MergeIdeal_MergeRefIdeal (hMergeIdeal := hMergeIdeal) (hMergeRefIdeal := hMergeRefIdeal)
    ∧ preserves_Norm_NormIdeal
    ∧ algebraic_NormIdeal_NormRefIdeal (hNormIdeal := hNormIdeal) (hNormRefIdeal := hNormRefIdeal)
    ∧ preserves_Post_PostIdeal
    ∧ algebraic_PostIdeal_PostRefIdeal (hPostIdeal := hPostIdeal) (hPostRefIdeal := hPostRefIdeal)
-- ==== Pre_finite.lean ====
abbrev S8192x2048 : Shape := ⟨2, ![8192, 2048]⟩
abbrev S8192x1024 : Shape := ⟨2, ![8192, 1024]⟩
abbrev S32x1x1024 : Shape := ⟨3, ![32, 1, 1024]⟩
abbrev S8192x24576 : Shape := ⟨2, ![8192, 24576]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S32x1x1024 : S_.BroadcastsInDim S32x1x1024 (![] : Fin 0 → Fin S32x1x1024.rank)
  reducesTo_S32x1x1024_S_d0_1_2 : S32x1x1024.ReducesTo [0, 1, 2] S_

variable [Facts]

def fn {F : FTy → Type} [FloatOps F] (main_arg0 : FVec F S8192x2048 .bf16) (main_arg1 : FVec F S8192x1024 .bf16) (main_arg2 : FVec F S8192x1024 .bf16) (main_arg3 : FVec F S32x1x1024 .f32) (main_arg4 : FVec F S8192x24576 .f32) : IVec S_ 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_c : IVec S_ 1 := constantI S_ 1 1#1
  let main_v4 : IVec S_ 1 := (fun x v => Host.reduce IntOp.andi x v reducesTo_S8192x2048_S_d0_1 h_S_) main_v3 main_c
  let main_v5 : FVec F S8192x1024 .f32 := (extf .f32 · bitsLt_bf16_f32) main_arg1
  let main_v6 : FVec F S8192x1024 .f32 := Host.absf main_v5
  let main_cst_0 : FVec F S_ .f32 := constant S_ .f32 0x7F800000#32
  let main_v7 : FVec F S8192x1024 .f32 := broadcastInDim S8192x1024 ![] bcast_S_S8192x1024 main_cst_0
  let main_v8 : IVec S8192x1024 1 := cmpf .olt main_v6 main_v7
  let main_c_1 : IVec S_ 1 := constantI S_ 1 1#1
  let main_v9 : IVec S_ 1 := (fun x v => Host.reduce IntOp.andi x v reducesTo_S8192x1024_S_d0_1 h_S_) main_v8 main_c_1
  let main_v10 : IVec S_ 1 := andi main_v4 main_v9
  let main_v11 : FVec F S32x1x1024 .f32 := Host.absf main_arg3
  let main_cst_2 : FVec F S_ .f32 := constant S_ .f32 0x7F800000#32
  let main_v12 : FVec F S32x1x1024 .f32 := broadcastInDim S32x1x1024 ![] bcast_S_S32x1x1024 main_cst_2
  let main_v13 : IVec S32x1x1024 1 := cmpf .olt main_v11 main_v12
  let main_c_3 : IVec S_ 1 := constantI S_ 1 1#1
  let main_v14 : IVec S_ 1 := (fun x v => Host.reduce IntOp.andi x v reducesTo_S32x1x1024_S_d0_1_2 h_S_) main_v13 main_c_3
  let main_v15 : IVec S_ 1 := andi main_v10 main_v14
  main_v15
-- ==== Moba.lean ====
abbrev S8192x2048 : Shape := ⟨2, ![8192, 2048]⟩
abbrev S8192x1024 : Shape := ⟨2, ![8192, 1024]⟩
abbrev S32x1x1024 : Shape := ⟨3, ![32, 1, 1024]⟩
abbrev S8192x24576 : Shape := ⟨2, ![8192, 24576]⟩
abbrev S2x16x1024 : Shape := ⟨3, ![2, 16, 1024]⟩
abbrev S_ : Shape := ⟨0, ![]⟩
abbrev S2x128x1024 : Shape := ⟨3, ![2, 128, 1024]⟩
abbrev S256x256 : Shape := ⟨2, ![256, 256]⟩
abbrev S4096x128 : Shape := ⟨2, ![4096, 128]⟩
abbrev S1x128x128 : Shape := ⟨3, ![1, 128, 128]⟩
abbrev S256x128 : Shape := ⟨2, ![256, 128]⟩
abbrev S128x128 : Shape := ⟨2, ![128, 128]⟩
abbrev S256 : Shape := ⟨1, ![256]⟩
abbrev S256x1 : Shape := ⟨2, ![256, 1]⟩

abbrev nBuf : Space → Nat
  | .hbm => 10
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x1024, .bf16⟩
  | .hbm, ⟨3, _⟩ => ⟨S32x1x1024, .f32⟩
  | .hbm, ⟨4, _⟩ => ⟨S8192x24576, .f32⟩
  | .hbm, ⟨5, _⟩ => ⟨S2x16x1024, .f32⟩
  | .hbm, ⟨6, _⟩ => ⟨S_, .i32⟩
  | .hbm, ⟨7, _⟩ => ⟨S_, .f32⟩
  | .hbm, ⟨8, _⟩ => ⟨S2x128x1024, .f32⟩
  | .hbm, ⟨9, _⟩ => ⟨S8192x2048, .bf16⟩
  | .local _ .vmem, ⟨0, _⟩ => ⟨S256x256, .bf16⟩
  | .local _ .vmem, ⟨1, _⟩ => ⟨S256x256, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S1x128x128, .f32⟩
  | .local _ .vmem, ⟨7, _⟩ => ⟨S1x128x128, .f32⟩
  | .local _ .vmem, ⟨8, _⟩ => ⟨S256x256, .f32⟩
  | .local _ .vmem, ⟨9, _⟩ => ⟨S256x256, .f32⟩
  | .local _ .vmem, ⟨10, _⟩ => ⟨S256x256, .bf16⟩
  | .local _ .vmem, ⟨11, _⟩ => ⟨S256x256, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 16, 8], ![false, false, false]⟩

@[reducible] def k0_t1_loop (i : grid0.Coords) : Scf.Loop 32 :=
  let c0_i32 : BitVec 32 := 0#32
  let arg1 : BitVec 32 := BitVec.ofNat 32 (i 1).val
  let v65 : BitVec 32 := Scalar.subi arg1 c0_i32
  let c1_i32 : BitVec 32 := 1#32
  let v67 : BitVec 32 := Scalar.divsi v65 c1_i32
  let v68 : BitVec 32 := Scalar.muli v67 c1_i32
  let v69 : BitVec 32 := Scalar.addi c0_i32 v68
  let c1_i32_26 : BitVec 32 := 1#32
  ⟨c0_i32, v69, c1_i32_26⟩
def k0_mult1 (i : grid0.Coords) (k0_t1 : Fin (k0_t1_loop i).trips) : BitVec 32 :=
  let c0_i32 : BitVec 32 := 0#32
  let c1_i32_26 : BitVec 32 := 1#32
  let arg9 : BitVec 32 := Scf.iv c0_i32 c1_i32_26 k0_t1
  let c256_i32_75 : BitVec 32 := 256#32
  let v200 : BitVec 32 := Scalar.muli arg9 c256_i32_75
  v200
def k0_off1 (i : grid0.Coords) (k0_t1 : Fin (k0_t1_loop i).trips) : Fin 2 → Nat :=
  let c0_i32 : BitVec 32 := 0#32
  let c1_i32_26 : BitVec 32 := 1#32
  let arg9 : BitVec 32 := Scf.iv c0_i32 c1_i32_26 k0_t1
  let c256_i32_75 : BitVec 32 := 256#32
  let v200 : BitVec 32 := Scalar.muli arg9 c256_i32_75
  let v201 : BitVec 32 := v200
  let v213 : Index := Scalar.indexCast v201
  let c0_81 : Index := 0#32
  ![v213.toNat, 0]
@[reducible] def k0_t2_loop (i : grid0.Coords) : Scf.Loop 32 :=
  let c0_i32 : BitVec 32 := 0#32
  let arg1 : BitVec 32 := BitVec.ofNat 32 (i 1).val
  let v65 : BitVec 32 := Scalar.subi arg1 c0_i32
  let c1_i32 : BitVec 32 := 1#32
  let v67 : BitVec 32 := Scalar.divsi v65 c1_i32
  let v68 : BitVec 32 := Scalar.muli v67 c1_i32
  let v69 : BitVec 32 := Scalar.addi c0_i32 v68
  let v66 : BitVec 32 := Scalar.addi c0_i32 v65
  let c1_i32_27 : BitVec 32 := 1#32
  ⟨v69, v66, c1_i32_27⟩
def k0_mult2 (i : grid0.Coords) (k0_t2 : Fin (k0_t2_loop i).trips) : BitVec 32 :=
  let c0_i32 : BitVec 32 := 0#32
  let arg1 : BitVec 32 := BitVec.ofNat 32 (i 1).val
  let v65 : BitVec 32 := Scalar.subi arg1 c0_i32
  let c1_i32 : BitVec 32 := 1#32
  let v67 : BitVec 32 := Scalar.divsi v65 c1_i32
  let v68 : BitVec 32 := Scalar.muli v67 c1_i32
  let v69 : BitVec 32 := Scalar.addi c0_i32 v68
  let c1_i32_27 : BitVec 32 := 1#32
  let arg9 : BitVec 32 := Scf.iv v69 c1_i32_27 k0_t2
  let c256_i32_75 : BitVec 32 := 256#32
  let v200 : BitVec 32 := Scalar.muli arg9 c256_i32_75
  v200
def k0_off2 (i : grid0.Coords) (k0_t2 : Fin (k0_t2_loop i).trips) : Fin 2 → Nat :=
  let c0_i32 : BitVec 32 := 0#32
  let arg1 : BitVec 32 := BitVec.ofNat 32 (i 1).val
  let v65 : BitVec 32 := Scalar.subi arg1 c0_i32
  let c1_i32 : BitVec 32 := 1#32
  let v67 : BitVec 32 := Scalar.divsi v65 c1_i32
  let v68 : BitVec 32 := Scalar.muli v67 c1_i32
  let v69 : BitVec 32 := Scalar.addi c0_i32 v68
  let c1_i32_27 : BitVec 32 := 1#32
  let arg9 : BitVec 32 := Scf.iv v69 c1_i32_27 k0_t2
  let c256_i32_75 : BitVec 32 := 256#32
  let v200 : BitVec 32 := Scalar.muli arg9 c256_i32_75
  let v201 : BitVec 32 := v200
  let v213 : Index := Scalar.indexCast v201
  let c0_81 : Index := 0#32
  ![v213.toNat, 0]
def k0_mult3 (i : grid0.Coords) : BitVec 32 :=
  let arg1 : BitVec 32 := BitVec.ofNat 32 (i 1).val
  let c256_i32 : BitVec 32 := 256#32
  let v72 : BitVec 32 := Scalar.muli arg1 c256_i32
  v72
def k0_off3 (i : grid0.Coords) : Fin 2 → Nat :=
  let arg1 : BitVec 32 := BitVec.ofNat 32 (i 1).val
  let c256_i32 : BitVec 32 := 256#32
  let v72 : BitVec 32 := Scalar.muli arg1 c256_i32
  let v73 : BitVec 32 := v72
  let v74 : Index := Scalar.indexCast v73
  let c0_28 : Index := 0#32
  ![v74.toNat, 0]
@[reducible] def k0_t3_loop (i : grid0.Coords) : Scf.Loop 32 :=
  let c0_i32_60 : BitVec 32 := 0#32
  let arg1 : BitVec 32 := BitVec.ofNat 32 (i 1).val
  let v160 : BitVec 32 := Scalar.subi arg1 c0_i32_60
  let c1_i32_61 : BitVec 32 := 1#32
  let v162 : BitVec 32 := Scalar.divsi v160 c1_i32_61
  let v163 : BitVec 32 := Scalar.muli v162 c1_i32_61
  let v164 : BitVec 32 := Scalar.addi c0_i32_60 v163
  let c1_i32_62 : BitVec 32 := 1#32
  ⟨c0_i32_60, v164, c1_i32_62⟩
def k0_mult4 (i : grid0.Coords) (k0_t3 : Fin (k0_t3_loop i).trips) : BitVec 32 :=
  let c0_i32_60 : BitVec 32 := 0#32
  let c1_i32_62 : BitVec 32 := 1#32
  let arg9 : BitVec 32 := Scf.iv c0_i32_60 c1_i32_62 k0_t3
  let c256_i32_75 : BitVec 32 := 256#32
  let v200 : BitVec 32 := Scalar.muli arg9 c256_i32_75
  v200
def k0_off4 (i : grid0.Coords) (k0_t3 : Fin (k0_t3_loop i).trips) : Fin 2 → Nat :=
  let c0_i32_60 : BitVec 32 := 0#32
  let c1_i32_62 : BitVec 32 := 1#32
  let arg9 : BitVec 32 := Scf.iv c0_i32_60 c1_i32_62 k0_t3
  let c256_i32_75 : BitVec 32 := 256#32
  let v200 : BitVec 32 := Scalar.muli arg9 c256_i32_75
  let v201 : BitVec 32 := v200
  let v213 : Index := Scalar.indexCast v201
  let c0_81 : Index := 0#32
  ![v213.toNat, 0]
@[reducible] def k0_t4_loop (i : grid0.Coords) : Scf.Loop 32 :=
  let c0_i32_60 : BitVec 32 := 0#32
  let arg1 : BitVec 32 := BitVec.ofNat 32 (i 1).val
  let v160 : BitVec 32 := Scalar.subi arg1 c0_i32_60
  let c1_i32_61 : BitVec 32 := 1#32
  let v162 : BitVec 32 := Scalar.divsi v160 c1_i32_61
  let v163 : BitVec 32 := Scalar.muli v162 c1_i32_61
  let v164 : BitVec 32 := Scalar.addi c0_i32_60 v163
  let v161 : BitVec 32 := Scalar.addi c0_i32_60 v160
  let c1_i32_63 : BitVec 32 := 1#32
  ⟨v164, v161, c1_i32_63⟩
def k0_mult5 (i : grid0.Coords) (k0_t4 : Fin (k0_t4_loop i).trips) : BitVec 32 :=
  let c0_i32_60 : BitVec 32 := 0#32
  let arg1 : BitVec 32 := BitVec.ofNat 32 (i 1).val
  let v160 : BitVec 32 := Scalar.subi arg1 c0_i32_60
  let c1_i32_61 : BitVec 32 := 1#32
  let v162 : BitVec 32 := Scalar.divsi v160 c1_i32_61
  let v163 : BitVec 32 := Scalar.muli v162 c1_i32_61
  let v164 : BitVec 32 := Scalar.addi c0_i32_60 v163
  let c1_i32_63 : BitVec 32 := 1#32
  let arg9 : BitVec 32 := Scf.iv v164 c1_i32_63 k0_t4
  let c256_i32_75 : BitVec 32 := 256#32
  let v200 : BitVec 32 := Scalar.muli arg9 c256_i32_75
  v200
def k0_off5 (i : grid0.Coords) (k0_t4 : Fin (k0_t4_loop i).trips) : Fin 2 → Nat :=
  let c0_i32_60 : BitVec 32 := 0#32
  let arg1 : BitVec 32 := BitVec.ofNat 32 (i 1).val
  let v160 : BitVec 32 := Scalar.subi arg1 c0_i32_60
  let c1_i32_61 : BitVec 32 := 1#32
  let v162 : BitVec 32 := Scalar.divsi v160 c1_i32_61
  let v163 : BitVec 32 := Scalar.muli v162 c1_i32_61
  let v164 : BitVec 32 := Scalar.addi c0_i32_60 v163
  let c1_i32_63 : BitVec 32 := 1#32
  let arg9 : BitVec 32 := Scf.iv v164 c1_i32_63 k0_t4
  let c256_i32_75 : BitVec 32 := 256#32
  let v200 : BitVec 32 := Scalar.muli arg9 c256_i32_75
  let v201 : BitVec 32 := v200
  let v213 : Index := Scalar.indexCast v201
  let c0_81 : Index := 0#32
  ![v213.toNat, 0]
def k0_mult6 (i : grid0.Coords) : BitVec 32 :=
  let arg1 : BitVec 32 := BitVec.ofNat 32 (i 1).val
  let c256_i32_64 : BitVec 32 := 256#32
  let v167 : BitVec 32 := Scalar.muli arg1 c256_i32_64
  v167
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c0_i32 : BitVec 32 := 0#32
  ![v1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c56_i32 : BitVec 32 := 56#32
  let v2 : BitVec 32 := Scalar.addi c56_i32 arg2
  let c0_i32 : BitVec 32 := 0#32
  ![v1.toNat, v2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c0_i32 : BitVec 32 := 0#32
  ![v1.toNat, arg2.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== MobaIdeal.lean ====
variable {F : FTy → Type} [FloatOps F] [Named F]
def κ : String → Option EReal := fun
  | "mask" => some ⊥
  | _ => none
-- ==== MobaRefIdeal.lean ====
abbrev S8192x2048 : Shape := ⟨2, ![8192, 2048]⟩
abbrev S8192x1024 : Shape := ⟨2, ![8192, 1024]⟩
abbrev S32x1x1024 : Shape := ⟨3, ![32, 1, 1024]⟩
abbrev S8192x24576 : Shape := ⟨2, ![8192, 24576]⟩
abbrev S2x4096x16x128 : Shape := ⟨4, ![2, 4096, 16, 128]⟩
abbrev S2x16x256x8x128 : Shape := ⟨5, ![2, 16, 256, 8, 128]⟩
abbrev S2x16x8x128 : Shape := ⟨4, ![2, 16, 8, 128]⟩
abbrev S2 : Shape := ⟨1, ![2]⟩
abbrev S2x1x1x1 : Shape := ⟨4, ![2, 1, 1, 1]⟩
abbrev S16 : Shape := ⟨1, ![16]⟩
abbrev S_ : Shape := ⟨0, ![]⟩
abbrev S1x1x16x1 : Shape := ⟨4, ![1, 1, 16, 1]⟩
abbrev S4096 : Shape := ⟨1, ![4096]⟩
abbrev S1x4096x1x1 : Shape := ⟨4, ![1, 4096, 1, 1]⟩
abbrev S2x4096x8x2x128 : Shape := ⟨5, ![2, 4096, 8, 2, 128]⟩
abbrev S2x8x16x4096x2 : Shape := ⟨5, ![2, 8, 16, 4096, 2]⟩
abbrev S2x4096x8x2x16 : Shape := ⟨5, ![2, 4096, 8, 2, 16]⟩
abbrev S2x4096x16x16 : Shape := ⟨4, ![2, 4096, 16, 16]⟩
abbrev S1x1x1x16 : Shape := ⟨4, ![1, 1, 1, 16]⟩
abbrev S1x4096x1x16 : Shape := ⟨4, ![1, 4096, 1, 16]⟩
abbrev S2x4096x16x3 : Shape := ⟨4, ![2, 4096, 16, 3]⟩
abbrev S2x4096x16x3x1 : Shape := ⟨5, ![2, 4096, 16, 3, 1]⟩
abbrev S2x4096x16x3x3 : Shape := ⟨5, ![2, 4096, 16, 3, 3]⟩
abbrev S2x4096x16x3x256x128 : Shape := ⟨6, ![2, 4096, 16, 3, 256, 128]⟩
abbrev S2x4096x16x3x256 : Shape := ⟨5, ![2, 4096, 16, 3, 256]⟩
abbrev S2x16x256x8x2x128 : Shape := ⟨6, ![2, 16, 256, 8, 2, 128]⟩
abbrev S2x16x8x256x256x2 : Shape := ⟨6, ![2, 16, 8, 256, 256, 2]⟩
abbrev S2x16x256x8x2x256 : Shape := ⟨6, ![2, 16, 256, 8, 2, 256]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S1x1x256x1x1x256 : Shape := ⟨6, ![1, 1, 256, 1, 1, 256]⟩
abbrev S2x4096x16x768 : Shape := ⟨4, ![2, 4096, 16, 768]⟩
abbrev S2x4096x16x256 : Shape := ⟨4, ![2, 4096, 16, 256]⟩
abbrev S2x4096x16x1024 : Shape := ⟨4, ![2, 4096, 16, 1024]⟩
abbrev S2x4096x16 : Shape := ⟨3, ![2, 4096, 16]⟩
abbrev S2x4096x16x1 : Shape := ⟨4, ![2, 4096, 16, 1]⟩
abbrev S2x16x8x128x256x2 : Shape := ⟨6, ![2, 16, 8, 128, 256, 2]⟩

abbrev nBuf : Space → Nat
  | .hbm => 160
  | .vmem => 0
  | .smem => 0
  | _ => 0

abbrev hbmTy0_0 (i : Nat) : BufTy := match i % 128 with
  | 0 => ⟨S8192x2048, .bf16⟩
  | 1 => ⟨S8192x1024, .bf16⟩
  | 2 => ⟨S8192x1024, .bf16⟩
  | 3 => ⟨S32x1x1024, .f32⟩
  | 4 => ⟨S8192x24576, .f32⟩
  | 5 => ⟨S8192x2048, .f32⟩
  | 6 => ⟨S2x4096x16x128, .f32⟩
  | 7 => ⟨S8192x1024, .f32⟩
  | 8 => ⟨S2x16x256x8x128, .f32⟩
  | 9 => ⟨S8192x1024, .f32⟩
  | 10 => ⟨S2x16x256x8x128, .f32⟩
  | 11 => ⟨S2x16x8x128, .f32⟩
  | 12 => ⟨S2, .i32⟩
  | 13 => ⟨S2x1x1x1, .i32⟩
  | 14 => ⟨S16, .i32⟩
  | 15 => ⟨S_, .i32⟩
  | 16 => ⟨S16, .i32⟩
  | 17 => ⟨S16, .i32⟩
  | 18 => ⟨S1x1x16x1, .i32⟩
  | 19 => ⟨S4096, .i32⟩
  | 20 => ⟨S_, .i32⟩
  | 21 => ⟨S4096, .i32⟩
  | 22 => ⟨S4096, .i32⟩
  | 23 => ⟨S1x4096x1x1, .i32⟩
  | 24 => ⟨S2x4096x8x2x128, .f32⟩
  | 25 => ⟨S2x8x16x4096x2, .f32⟩
  | 26 => ⟨S2x4096x8x2x16, .f32⟩
  | 27 => ⟨S2x4096x16x16, .f32⟩
  | 28 => ⟨S16, .i32⟩
  | 29 => ⟨S1x1x1x16, .i32⟩
  | 30 => ⟨S1x4096x1x16, .i32⟩
  | 31 => ⟨S1x4096x1x16, .i32⟩
  | 32 => ⟨S1x4096x1x16, .i1⟩
  | 33 => ⟨S_, .f32⟩
  | 34 => ⟨S_, .f32⟩
  | 35 => ⟨S2x4096x16x16, .i1⟩
  | 36 => ⟨S2x4096x16x16, .f32⟩
  | 37 => ⟨S2x4096x16x16, .f32⟩
  | 38 => ⟨S2x4096x16x3, .f32⟩
  | 39 => ⟨S2x4096x16x3, .i32⟩
  | 40 => ⟨S_, .i32⟩
  | 41 => ⟨S2x1x1x1, .i32⟩
  | 42 => ⟨S2x1x1x1, .i1⟩
  | 43 => ⟨S_, .i32⟩
  | 44 => ⟨S2x1x1x1, .i32⟩
  | 45 => ⟨S2x1x1x1, .i32⟩
  | 46 => ⟨S2x1x1x1, .i32⟩
  | 47 => ⟨S_, .i32⟩
  | 48 => ⟨S2x4096x16x3, .i32⟩
  | 49 => ⟨S2x4096x16x3, .i1⟩
  | 50 => ⟨S_, .i32⟩
  | 51 => ⟨S2x4096x16x3, .i32⟩
  | 52 => ⟨S2x4096x16x3, .i32⟩
  | 53 => ⟨S2x4096x16x3, .i32⟩
  | 54 => ⟨S_, .i32⟩
  | 55 => ⟨S1x1x16x1, .i32⟩
  | 56 => ⟨S1x1x16x1, .i1⟩
  | 57 => ⟨S_, .i32⟩
  | 58 => ⟨S1x1x16x1, .i32⟩
  | 59 => ⟨S1x1x16x1, .i32⟩
  | 60 => ⟨S1x1x16x1, .i32⟩
  | 61 => ⟨S2x4096x16x3, .i32⟩
  | 62 => ⟨S2x4096x16x3, .i32⟩
  | 63 => ⟨S2x4096x16x3x1, .i32⟩
  | 64 => ⟨S2x4096x16x3x1, .i32⟩
  | 65 => ⟨S2x4096x16x3x1, .i32⟩
  | 66 => ⟨S2x4096x16x3x3, .i32⟩
  | 67 => ⟨S2x4096x16x3x256x128, .f32⟩
  | 68 => ⟨S_, .i32⟩
  | 69 => ⟨S2x1x1x1, .i32⟩
  | 70 => ⟨S2x1x1x1, .i1⟩
  | 71 => ⟨S_, .i32⟩
  | 72 => ⟨S2x1x1x1, .i32⟩
  | 73 => ⟨S2x1x1x1, .i32⟩
  | 74 => ⟨S2x1x1x1, .i32⟩
  | 75 => ⟨S_, .i32⟩
  | 76 => ⟨S2x4096x16x3, .i32⟩
  | 77 => ⟨S2x4096x16x3, .i1⟩
  | 78 => ⟨S_, .i32⟩
  | 79 => ⟨S2x4096x16x3, .i32⟩
  | 80 => ⟨S2x4096x16x3, .i32⟩
  | 81 => ⟨S2x4096x16x3, .i32⟩
  | 82 => ⟨S_, .i32⟩
  | 83 => ⟨S1x1x16x1, .i32⟩
  | 84 => ⟨S1x1x16x1, .i1⟩
  | 85 => ⟨S_, .i32⟩
  | 86 => ⟨S1x1x16x1, .i32⟩
  | 87 => ⟨S1x1x16x1, .i32⟩
  | 88 => ⟨S1x1x16x1, .i32⟩
  | 89 => ⟨S2x4096x16x3, .i32⟩
  | 90 => ⟨S2x4096x16x3, .i32⟩
  | 91 => ⟨S2x4096x16x3x1, .i32⟩
  | 92 => ⟨S2x4096x16x3x1, .i32⟩
  | 93 => ⟨S2x4096x16x3x1, .i32⟩
  | 94 => ⟨S2x4096x16x3x3, .i32⟩
  | 95 => ⟨S2x4096x16x3x256x128, .f32⟩
  | 96 => ⟨S2x4096x16x3x256, .f32⟩
  | 97 => ⟨S2x4096x16x3, .i32⟩
  | 98 => ⟨S2x4096x16x3, .i1⟩
  | 99 => ⟨S2x4096x16x3x1, .i1⟩
  | 100 => ⟨S_, .f32⟩
  | 101 => ⟨S_, .f32⟩
  | 102 => ⟨S2x4096x16x3x256, .i1⟩
  | 103 => ⟨S2x4096x16x3x256, .f32⟩
  | 104 => ⟨S2x4096x16x3x256, .f32⟩
  | 105 => ⟨S2x16x256x8x2x128, .f32⟩
  | 106 => ⟨S2x16x8x256x256x2, .f32⟩
  | 107 => ⟨S2x16x256x8x2x256, .f32⟩
  | 108 => ⟨S256, .i32⟩
  | 109 => ⟨S1x256, .i32⟩
  | 110 => ⟨S256, .i32⟩
  | 111 => ⟨S256x1, .i32⟩
  | 112 => ⟨S256x256, .i32⟩
  | 113 => ⟨S256x256, .i32⟩
  | 114 => ⟨S256x256, .i1⟩
  | 115 => ⟨S1x1x256x1x1x256, .i1⟩
  | 116 => ⟨S_, .f32⟩
  | 117 => ⟨S_, .f32⟩
  | 118 => ⟨S2x16x256x8x2x256, .i1⟩
  | 119 => ⟨S2x16x256x8x2x256, .f32⟩
  | 120 => ⟨S2x16x256x8x2x256, .f32⟩
  | 121 => ⟨S2x4096x16x768, .f32⟩
  | 122 => ⟨S2x4096x16x256, .f32⟩
  | 123 => ⟨S2x4096x16x1024, .f32⟩
  | 124 => ⟨S_, .f32⟩
  | 125 => ⟨S2x4096x16, .f32⟩
  | 126 => ⟨S_, .f32⟩
  | 127 => ⟨S2x4096x16, .f32⟩
  | _ => ⟨S8192x2048, .bf16⟩

abbrev hbmTy0_1 (i : Nat) : BufTy := match i % 128 with
  | 0 => ⟨S2x4096x16, .f32⟩
  | 1 => ⟨S2x4096x16x1, .f32⟩
  | 2 => ⟨S2x4096x16x1024, .f32⟩
  | 3 => ⟨S2x4096x16x1024, .f32⟩
  | 4 => ⟨S2x4096x16x1024, .f32⟩
  | 5 => ⟨S_, .f32⟩
  | 6 => ⟨S2x4096x16, .f32⟩
  | 7 => ⟨S2x4096x16x1, .f32⟩
  | 8 => ⟨S2x4096x16x1024, .f32⟩
  | 9 => ⟨S2x4096x16x1024, .f32⟩
  | 10 => ⟨S2x4096x16x768, .f32⟩
  | 11 => ⟨S2x4096x16x3x256, .f32⟩
  | 12 => ⟨S2x4096x16x256, .f32⟩
  | 13 => ⟨S2x16x256x8x2x256, .f32⟩
  | 14 => ⟨S2x4096x16x128, .f32⟩
  | 15 => ⟨S2x16x8x128x256x2, .f32⟩
  | 16 => ⟨S2x16x256x8x2x128, .f32⟩
  | 17 => ⟨S2x4096x16x128, .f32⟩
  | 18 => ⟨S2x4096x16x128, .f32⟩
  | 19 => ⟨S8192x2048, .f32⟩
  | 20 => ⟨S8192x2048, .f32⟩
  | 21 => ⟨S8192x2048, .f32⟩
  | 22 => ⟨S8192x2048, .f32⟩
  | 23 => ⟨S_, .f32⟩
  | 24 => ⟨S8192x2048, .f32⟩
  | 25 => ⟨S8192x2048, .f32⟩
  | 26 => ⟨S_, .f32⟩
  | 27 => ⟨S8192x2048, .f32⟩
  | 28 => ⟨S8192x2048, .f32⟩
  | 29 => ⟨S8192x2048, .f32⟩
  | 30 => ⟨S8192x2048, .f32⟩
  | 31 => ⟨S8192x2048, .bf16⟩
  | _ => ⟨S8192x2048, .bf16⟩

abbrev hbmTy (i : Nat) : BufTy := match i / 128 with
  | 0 => hbmTy0_0 i
  | 1 => hbmTy0_1 i
  | _ => ⟨S8192x2048, .bf16⟩

abbrev bufTy : (tb : Table) → Fin (tcTables nBuf tb) → BufTy
  | .hbm, ⟨i, _⟩ => hbmTy i
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v26 : Ref sig .tc := ⟨.hbm, 37, rfl⟩
abbrev main_values : Ref sig .tc := ⟨.hbm, 38, rfl⟩
abbrev main_indices : Ref sig .tc := ⟨.hbm, 39, rfl⟩
abbrev main_c_1 : Ref sig .tc := ⟨.hbm, 40, rfl⟩
abbrev main_v27 : Ref sig .tc := ⟨.hbm, 41, rfl⟩
abbrev main_v28 : Ref sig .tc := ⟨.hbm, 42, rfl⟩
abbrev main_c_2 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_3 : Ref sig .tc := ⟨.hbm, 47, rfl⟩
abbrev main_v32 : Ref sig .tc := ⟨.hbm, 48, rfl⟩
abbrev main_v33 : Ref sig .tc := ⟨.hbm, 49, rfl⟩
abbrev main_c_4 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_5 : Ref sig .tc := ⟨.hbm, 54, rfl⟩
abbrev main_v37 : Ref sig .tc := ⟨.hbm, 55, rfl⟩
abbrev main_v38 : Ref sig .tc := ⟨.hbm, 56, rfl⟩
abbrev main_c_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_c_7 : Ref sig .tc := ⟨.hbm, 68, rfl⟩
abbrev main_v49 : Ref sig .tc := ⟨.hbm, 69, rfl⟩
abbrev main_v50 : Ref sig .tc := ⟨.hbm, 70, rfl⟩
abbrev main_c_8 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c_9 : Ref sig .tc := ⟨.hbm, 75, rfl⟩
abbrev main_v54 : Ref sig .tc := ⟨.hbm, 76, rfl⟩
abbrev main_v55 : Ref sig .tc := ⟨.hbm, 77, rfl⟩
abbrev main_c_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_c_11 : Ref sig .tc := ⟨.hbm, 82, rfl⟩
abbrev main_v59 : Ref sig .tc := ⟨.hbm, 83, rfl⟩
abbrev main_v60 : Ref sig .tc := ⟨.hbm, 84, rfl⟩
abbrev main_c_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_13 : Ref sig .tc := ⟨.hbm, 100, rfl⟩
abbrev main_call1_v0 : Ref sig .tc := ⟨.hbm, 101, rfl⟩
abbrev main_call1_v1 : Ref sig .tc := ⟨.hbm, 102, rfl⟩
abbrev main_call1_v2 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_14 : Ref sig .tc := ⟨.hbm, 116, rfl⟩
abbrev main_call2_v0 : Ref sig .tc := ⟨.hbm, 117, rfl⟩
abbrev main_call2_v1 : Ref sig .tc := ⟨.hbm, 118, rfl⟩
abbrev main_call2_v2 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_15 : Ref sig .tc := ⟨.hbm, 124, rfl⟩
abbrev main_v91 : Ref sig .tc := ⟨.hbm, 125, rfl⟩
abbrev main_cst_16 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_cst_17 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_call3_v0 : Ref sig .tc := ⟨.hbm, 149, rfl⟩
abbrev main_call3_v1 : Ref sig .tc := ⟨.hbm, 150, rfl⟩
abbrev main_call3_cst : Ref sig .tc := ⟨.hbm, 151, rfl⟩
abbrev main_call3_v2 : Ref sig .tc := ⟨.hbm, 152, rfl⟩
abbrev main_call3_v3 : Ref sig .tc := ⟨.hbm, 153, rfl⟩
abbrev main_call3_cst_0 : Ref sig .tc := ⟨.hbm, 154, rfl⟩
abbrev main_call3_v4 : Ref sig .tc := ⟨.hbm, 155, rfl⟩
abbrev main_call3_v5 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩

abbrev nD : Nat := 1
abbrev τ : Topo := Topo.v7x

variable {F : FTy → Type} [FloatOps F]
-- ==== Proj.lean ====
abbrev S8192x4096 : Shape := ⟨2, ![8192, 4096]⟩
abbrev S4096x24576 : Shape := ⟨2, ![4096, 24576]⟩
abbrev S8192x24576 : Shape := ⟨2, ![8192, 24576]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4096x24576, .bf16⟩
  | .hbm, ⟨2, _⟩ => ⟨S8192x24576, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjRefIdeal.lean ====
abbrev S8192x4096 : Shape := ⟨2, ![8192, 4096]⟩
abbrev S4096x24576 : Shape := ⟨2, ![4096, 24576]⟩
abbrev S8192x24576 : Shape := ⟨2, ![8192, 24576]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x24576, .bf16⟩
  | .hbm, ⟨2, _⟩ => ⟨S8192x4096, .f32⟩
  | .hbm, ⟨3, _⟩ => ⟨S4096x24576, .f32⟩
  | .hbm, ⟨4, _⟩ => ⟨S8192x24576, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Merge.lean ====
abbrev S8192x4096 : Shape := ⟨2, ![8192, 4096]⟩
abbrev S8192x2048 : Shape := ⟨2, ![8192, 2048]⟩
abbrev S1x2x2048x4096 : Shape := ⟨4, ![1, 2, 2048, 4096]⟩
abbrev S8192x24576 : Shape := ⟨2, ![8192, 24576]⟩
abbrev S2x2048x4096 : Shape := ⟨3, ![2, 2048, 4096]⟩
abbrev S512x512 : Shape := ⟨2, ![512, 512]⟩
abbrev S512x2048 : Shape := ⟨2, ![512, 2048]⟩
abbrev S1x2048x512 : Shape := ⟨3, ![1, 2048, 512]⟩
abbrev S2048x512 : Shape := ⟨2, ![2048, 512]⟩

abbrev nBuf : Space → Nat
  | .hbm => 8
  | .vmem => 16
  | .smem => 0
  | _ => 0

abbrev bufTy : (tb : Table) → Fin (tcTables nBuf tb) → BufTy
  | .hbm, ⟨0, _⟩ => ⟨S8192x4096, .f32⟩
  | .hbm, ⟨1, _⟩ => ⟨S8192x2048, .bf16⟩
  | .hbm, ⟨2, _⟩ => ⟨S8192x2048, .bf16⟩
  | .hbm, ⟨3, _⟩ => ⟨S1x2x2048x4096, .f32⟩
  | .hbm, ⟨4, _⟩ => ⟨S8192x24576, .f32⟩
  | .hbm, ⟨5, _⟩ => ⟨S2x2048x4096, .f32⟩
  | .hbm, ⟨6, _⟩ => ⟨S2x2048x4096, .bf16⟩
  | .hbm, ⟨7, _⟩ => ⟨S8192x4096, .f32⟩
  | .local _ .vmem, ⟨0, _⟩ => ⟨S512x512, .f32⟩
  | .local _ .vmem, ⟨1, _⟩ => ⟨S512x512, .f32⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x2048x512, .bf16⟩
  | .local _ .vmem, ⟨9, _⟩ => ⟨S1x2048x512, .bf16⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MergeRefIdeal.lean ====
abbrev S8192x4096 : Shape := ⟨2, ![8192, 4096]⟩
abbrev S8192x2048 : Shape := ⟨2, ![8192, 2048]⟩
abbrev S1x2x2048x4096 : Shape := ⟨4, ![1, 2, 2048, 4096]⟩
abbrev S8192x24576 : Shape := ⟨2, ![8192, 24576]⟩
abbrev S8192x1x2048 : Shape := ⟨3, ![8192, 1, 2048]⟩
abbrev S8192x2x2048 : Shape := ⟨3, ![8192, 2, 2048]⟩
abbrev S2x2048x4096 : Shape := ⟨3, ![2, 2048, 4096]⟩
abbrev S2x4096x8192 : Shape := ⟨3, ![2, 4096, 8192]⟩
abbrev S8192x2x4096 : Shape := ⟨3, ![8192, 2, 4096]⟩
abbrev S8192x8192 : Shape := ⟨2, ![8192, 8192]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x2048, .bf16⟩
  | .hbm, ⟨2, _⟩ => ⟨S8192x2048, .bf16⟩
  | .hbm, ⟨3, _⟩ => ⟨S1x2x2048x4096, .f32⟩
  | .hbm, ⟨4, _⟩ => ⟨S8192x24576, .f32⟩
  | .hbm, ⟨5, _⟩ => ⟨S8192x2048, .f32⟩
  | .hbm, ⟨6, _⟩ => ⟨S8192x2048, .f32⟩
  | .hbm, ⟨7, _⟩ => ⟨S8192x1x2048, .f32⟩
  | .hbm, ⟨8, _⟩ => ⟨S8192x1x2048, .f32⟩
  | .hbm, ⟨9, _⟩ => ⟨S8192x2x2048, .f32⟩
  | .hbm, ⟨10, _⟩ => ⟨S2x2048x4096, .f32⟩
  | .hbm, ⟨11, _⟩ => ⟨S2x4096x8192, .f32⟩
  | .hbm, ⟨12, _⟩ => ⟨S8192x2x4096, .f32⟩
  | .hbm, ⟨13, _⟩ => ⟨S8192x8192, .f32⟩
  | .hbm, ⟨14, _⟩ => ⟨S8192x2x4096, .f32⟩
  | .hbm, ⟨15, _⟩ => ⟨S8192x2x4096, .f32⟩
  | .hbm, ⟨16, _⟩ => ⟨S8192x2x4096, .f32⟩
  | .hbm, ⟨17, _⟩ => ⟨S_, .f32⟩
  | .hbm, ⟨18, _⟩ => ⟨S8192x2x4096, .f32⟩
  | .hbm, ⟨19, _⟩ => ⟨S8192x2x4096, .f32⟩
  | .hbm, ⟨20, _⟩ => ⟨S_, .f32⟩
  | .hbm, ⟨21, _⟩ => ⟨S8192x2x4096, .f32⟩
  | .hbm, ⟨22, _⟩ => ⟨S8192x2x4096, .f32⟩
  | .hbm, ⟨23, _⟩ => ⟨S8192x2x4096, .f32⟩
  | .hbm, ⟨24, _⟩ => ⟨S_, .f32⟩
  | .hbm, ⟨25, _⟩ => ⟨S8192x4096, .f32⟩
  | .hbm, ⟨26, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Norm.lean ====
abbrev S2x4096x4096 : Shape := ⟨3, ![2, 4096, 4096]⟩
abbrev S1x4096 : Shape := ⟨2, ![1, 4096]⟩
abbrev S8192x4096 : Shape := ⟨2, ![8192, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S2x4096x4096, .f32⟩
  | .hbm, ⟨1, _⟩ => ⟨S1x4096, .f32⟩
  | .hbm, ⟨2, _⟩ => ⟨S8192x4096, .f32⟩
  | .hbm, ⟨3, _⟩ => ⟨S8192x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S2x4096x4096 : Shape := ⟨3, ![2, 4096, 4096]⟩
abbrev S1x4096 : Shape := ⟨2, ![1, 4096]⟩
abbrev S_ : Shape := ⟨0, ![]⟩
abbrev S2x4096 : Shape := ⟨2, ![2, 4096]⟩
abbrev S2x4096x1 : Shape := ⟨3, ![2, 4096, 1]⟩
abbrev S4096 : Shape := ⟨1, ![4096]⟩
abbrev S1x1x4096 : Shape := ⟨3, ![1, 1, 4096]⟩
abbrev S8192x4096 : Shape := ⟨2, ![8192, 4096]⟩

abbrev nBuf : Space → Nat
  | .hbm => 21
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S1x4096, .f32⟩
  | .hbm, ⟨2, _⟩ => ⟨S2x4096x4096, .f32⟩
  | .hbm, ⟨3, _⟩ => ⟨S_, .f32⟩
  | .hbm, ⟨4, _⟩ => ⟨S2x4096, .f32⟩
  | .hbm, ⟨5, _⟩ => ⟨S2x4096x1, .f32⟩
  | .hbm, ⟨6, _⟩ => ⟨S_, .f32⟩
  | .hbm, ⟨7, _⟩ => ⟨S2x4096x1, .f32⟩
  | .hbm, ⟨8, _⟩ => ⟨S2x4096x1, .f32⟩
  | .hbm, ⟨9, _⟩ => ⟨S_, .f32⟩
  | .hbm, ⟨10, _⟩ => ⟨S2x4096x1, .f32⟩
  | .hbm, ⟨11, _⟩ => ⟨S2x4096x1, .f32⟩
  | .hbm, ⟨12, _⟩ => ⟨S2x4096x1, .f32⟩
  | .hbm, ⟨13, _⟩ => ⟨S2x4096x4096, .f32⟩
  | .hbm, ⟨14, _⟩ => ⟨S2x4096x4096, .f32⟩
  | .hbm, ⟨15, _⟩ => ⟨S4096, .f32⟩
  | .hbm, ⟨16, _⟩ => ⟨S1x1x4096, .f32⟩
  | .hbm, ⟨17, _⟩ => ⟨S2x4096x4096, .f32⟩
  | .hbm, ⟨18, _⟩ => ⟨S2x4096x4096, .f32⟩
  | .hbm, ⟨19, _⟩ => ⟨S2x4096x4096, .bf16⟩
  | .hbm, ⟨20, _⟩ => ⟨S8192x4096, .bf16⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Post.lean ====
abbrev S8192x24576 : Shape := ⟨2, ![8192, 24576]⟩
abbrev S8192x256 : Shape := ⟨2, ![8192, 256]⟩
abbrev S4096x64 : Shape := ⟨2, ![4096, 64]⟩
abbrev S1x128 : Shape := ⟨2, ![1, 128]⟩
abbrev S4096x128 : Shape := ⟨2, ![4096, 128]⟩
abbrev S8192x2048 : Shape := ⟨2, ![8192, 2048]⟩
abbrev S8192x1024 : Shape := ⟨2, ![8192, 1024]⟩
abbrev S8192x4096 : Shape := ⟨2, ![8192, 4096]⟩
abbrev S8192x128 : Shape := ⟨2, ![8192, 128]⟩
abbrev S32x1x1024 : Shape := ⟨3, ![32, 1, 1024]⟩
abbrev S256x4096 : Shape := ⟨2, ![256, 4096]⟩
abbrev S256x2048 : Shape := ⟨2, ![256, 2048]⟩
abbrev S256x256 : Shape := ⟨2, ![256, 256]⟩
abbrev S256x128 : Shape := ⟨2, ![256, 128]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S128 : Shape := ⟨1, ![128]⟩
abbrev S1x1x128 : Shape := ⟨3, ![1, 1, 128]⟩

abbrev nBuf : Space → Nat
  | .hbm => 26
  | .vmem => 48
  | .smem => 0
  | _ => 0

abbrev bufTy : (tb : Table) → Fin (tcTables nBuf tb) → BufTy
  | .hbm, ⟨0, _⟩ => ⟨S8192x24576, .f32⟩
  | .hbm, ⟨1, _⟩ => ⟨S8192x256, .f32⟩
  | .hbm, ⟨2, _⟩ => ⟨S4096x64, .f32⟩
  | .hbm, ⟨3, _⟩ => ⟨S4096x64, .f32⟩
  | .hbm, ⟨4, _⟩ => ⟨S1x128, .f32⟩
  | .hbm, ⟨5, _⟩ => ⟨S1x128, .f32⟩
  | .hbm, ⟨6, _⟩ => ⟨S1x128, .f32⟩
  | .hbm, ⟨7, _⟩ => ⟨S1x128, .f32⟩
  | .hbm, ⟨8, _⟩ => ⟨S4096x128, .f32⟩
  | .hbm, ⟨9, _⟩ => ⟨S4096x64, .f32⟩
  | .hbm, ⟨10, _⟩ => ⟨S4096x128, .f32⟩
  | .hbm, ⟨11, _⟩ => ⟨S8192x2048, .bf16⟩
  | .hbm, ⟨12, _⟩ => ⟨S8192x1024, .f32⟩
  | .hbm, ⟨13, _⟩ => ⟨S8192x1024, .bf16⟩
  | .hbm, ⟨14, _⟩ => ⟨S8192x1024, .f32⟩
  | .hbm, ⟨15, _⟩ => ⟨S8192x1024, .bf16⟩
  | .hbm, ⟨16, _⟩ => ⟨S8192x4096, .bf16⟩
  | .hbm, ⟨17, _⟩ => ⟨S8192x128, .f32⟩
  | .hbm, ⟨18, _⟩ => ⟨S8192x128, .bf16⟩
  | .hbm, ⟨19, _⟩ => ⟨S8192x128, .f32⟩
  | .hbm, ⟨20, _⟩ => ⟨S8192x2048, .bf16⟩
  | .hbm, ⟨21, _⟩ => ⟨S8192x1024, .f32⟩
  | .hbm, ⟨22, _⟩ => ⟨S8192x1024, .bf16⟩
  | .hbm, ⟨23, _⟩ => ⟨S8192x1024, .f32⟩
  | .hbm, ⟨24, _⟩ => ⟨S8192x1024, .bf16⟩
  | .hbm, ⟨25, _⟩ => ⟨S32x1x1024, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x256, .f32⟩
  | .local _ .vmem, ⟨9, _⟩ => ⟨S256x256, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S256x2048, .bf16⟩
  | .local _ .vmem, ⟨19, _⟩ => ⟨S256x2048, .bf16⟩
  | .local _ .vmem, ⟨20, _⟩ => ⟨S256x1024, .f32⟩
  | .local _ .vmem, ⟨21, _⟩ => ⟨S256x1024, .f32⟩
  | .local _ .vmem, ⟨22, _⟩ => ⟨S256x1024, .bf16⟩
  | .local _ .vmem, ⟨23, _⟩ => ⟨S256x1024, .bf16⟩
  | .local _ .vmem, ⟨24, _⟩ => ⟨S256x1024, .f32⟩
  | .local _ .vmem, ⟨25, _⟩ => ⟨S256x1024, .f32⟩
  | .local _ .vmem, ⟨26, _⟩ => ⟨S256x1024, .bf16⟩
  | .local _ .vmem, ⟨27, _⟩ => ⟨S256x1024, .bf16⟩
  | .local _ .vmem, ⟨28, _⟩ => ⟨S256x4096, .bf16⟩
  | .local _ .vmem, ⟨29, _⟩ => ⟨S256x4096, .bf16⟩
  | .local _ .vmem, ⟨30, _⟩ => ⟨S256x128, .f32⟩
  | .local _ .vmem, ⟨31, _⟩ => ⟨S256x128, .f32⟩
  | .local _ .vmem, ⟨32, _⟩ => ⟨S256x128, .bf16⟩
  | .local _ .vmem, ⟨33, _⟩ => ⟨S256x128, .bf16⟩
  | .local _ .vmem, ⟨34, _⟩ => ⟨S256x128, .f32⟩
  | .local _ .vmem, ⟨35, _⟩ => ⟨S256x128, .f32⟩
  | .local _ .vmem, ⟨36, _⟩ => ⟨S256x2048, .bf16⟩
  | .local _ .vmem, ⟨37, _⟩ => ⟨S256x2048, .bf16⟩
  | .local _ .vmem, ⟨38, _⟩ => ⟨S256x1024, .f32⟩
  | .local _ .vmem, ⟨39, _⟩ => ⟨S256x1024, .f32⟩
  | .local _ .vmem, ⟨40, _⟩ => ⟨S256x1024, .bf16⟩
  | .local _ .vmem, ⟨41, _⟩ => ⟨S256x1024, .bf16⟩
  | .local _ .vmem, ⟨42, _⟩ => ⟨S256x1024, .f32⟩
  | .local _ .vmem, ⟨43, _⟩ => ⟨S256x1024, .f32⟩
  | .local _ .vmem, ⟨44, _⟩ => ⟨S256x1024, .bf16⟩
  | .local _ .vmem, ⟨45, _⟩ => ⟨S256x1024, .bf16⟩
  | .local _ .vmem, ⟨46, _⟩ => ⟨S1x1x1024, .f32⟩
  | .local _ .vmem, ⟨47, _⟩ => ⟨S1x1x1024, .f32⟩
  | _, _ => ⟨S8192x24576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v3_4 : Ref sig .tc := ⟨.hbm, 15, rfl⟩
abbrev main_v3_5 : Ref sig .tc := ⟨.hbm, 16, rfl⟩
abbrev main_v3_6 : Ref sig .tc := ⟨.hbm, 17, rfl⟩
abbrev main_v3_7 : Ref sig .tc := ⟨.hbm, 18, rfl⟩
abbrev main_v3_8 : Ref sig .tc := ⟨.hbm, 19, rfl⟩
abbrev main_v3_9 : Ref sig .tc := ⟨.hbm, 20, rfl⟩
abbrev main_v3_10 : Ref sig .tc := ⟨.hbm, 21, rfl⟩
abbrev main_v3_11 : Ref sig .tc := ⟨.hbm, 22, rfl⟩
abbrev main_v3_12 : Ref sig .tc := ⟨.hbm, 23, rfl⟩
abbrev main_v3_13 : Ref sig .tc := ⟨.hbm, 24, rfl⟩
abbrev main_v3_14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_stg20_0 : Ref sig .tc := ⟨.vmem, 36, rfl⟩
abbrev cc0_stg20_1 : Ref sig .tc := ⟨.vmem, 37, rfl⟩
abbrev cc0_stg21_0 : Ref sig .tc := ⟨.vmem, 38, rfl⟩
abbrev cc0_stg21_1 : Ref sig .tc := ⟨.vmem, 39, rfl⟩
abbrev cc0_stg22_0 : Ref sig .tc := ⟨.vmem, 40, rfl⟩
abbrev cc0_stg22_1 : Ref sig .tc := ⟨.vmem, 41, rfl⟩
abbrev cc0_stg23_0 : Ref sig .tc := ⟨.vmem, 42, rfl⟩
abbrev cc0_stg23_1 : Ref sig .tc := ⟨.vmem, 43, rfl⟩
abbrev cc0_stg24_0 : Ref sig .tc := ⟨.vmem, 44, rfl⟩
abbrev cc0_stg24_1 : Ref sig .tc := ⟨.vmem, 45, rfl⟩
abbrev cc0_stg25_0 : Ref sig .tc := ⟨.vmem, 46, rfl⟩
abbrev cc0_stg25_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35
abbrev cc0_sem20_0 : DmaSem sig := 36
abbrev cc0_sem20_1 : DmaSem sig := 37
abbrev cc0_sem21_0 : DmaSem sig := 38
abbrev cc0_sem21_1 : DmaSem sig := 39
abbrev cc0_sem22_0 : DmaSem sig := 40
abbrev cc0_sem22_1 : DmaSem sig := 41
abbrev cc0_sem23_0 : DmaSem sig := 42
abbrev cc0_sem23_1 : DmaSem sig := 43
abbrev cc0_sem24_0 : DmaSem sig := 44
abbrev cc0_sem24_1 : DmaSem sig := 45
abbrev cc0_sem25_0 : DmaSem sig := 46
abbrev cc0_sem25_1 : DmaSem sig := 47

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x4096 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x2048 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x1024 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1x1x1024 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]
-- ==== PostIdeal.lean ====
variable {F : FTy → Type} [FloatOps F] [Named F]
def κ : String → Option EReal := fun
  | "scale" => some (((Real.sqrt 128)⁻¹ : ℝ) : EReal)
  | _ => none
-- ==== PostRefIdeal.lean ====
abbrev S8192x24576 : Shape := ⟨2, ![8192, 24576]⟩
abbrev S8192x256 : Shape := ⟨2, ![8192, 256]⟩
abbrev S4096x64 : Shape := ⟨2, ![4096, 64]⟩
abbrev S1x128 : Shape := ⟨2, ![1, 128]⟩
abbrev S_ : Shape := ⟨0, ![]⟩
abbrev S2x4096x24576 : Shape := ⟨3, ![2, 4096, 24576]⟩
abbrev S2x4096x256 : Shape := ⟨3, ![2, 4096, 256]⟩
abbrev S2x4096x2048 : Shape := ⟨3, ![2, 4096, 2048]⟩
abbrev S2x4096x16x128 : Shape := ⟨4, ![2, 4096, 16, 128]⟩
abbrev S128 : Shape := ⟨1, ![128]⟩
abbrev S2x4096x16 : Shape := ⟨3, ![2, 4096, 16]⟩
abbrev S2x4096x16x1 : Shape := ⟨4, ![2, 4096, 16, 1]⟩
abbrev S1x1x1x128 : Shape := ⟨4, ![1, 1, 1, 128]⟩
abbrev S4096x1x64 : Shape := ⟨3, ![4096, 1, 64]⟩
abbrev S2x4096x16x64 : Shape := ⟨4, ![2, 4096, 16, 64]⟩
abbrev S1x4096x1x64 : Shape := ⟨4, ![1, 4096, 1, 64]⟩
abbrev S2x4096x1024 : Shape := ⟨3, ![2, 4096, 1024]⟩
abbrev S2x4096x8x128 : Shape := ⟨4, ![2, 4096, 8, 128]⟩
abbrev S2x4096x8 : Shape := ⟨3, ![2, 4096, 8]⟩
abbrev S2x4096x8x1 : Shape := ⟨4, ![2, 4096, 8, 1]⟩
abbrev S2x4096x8x64 : Shape := ⟨4, ![2, 4096, 8, 64]⟩
abbrev S2x4096x4096 : Shape := ⟨3, ![2, 4096, 4096]⟩
abbrev S2x4096x32x128 : Shape := ⟨4, ![2, 4096, 32, 128]⟩
abbrev S2x4096x32x64 : Shape := ⟨4, ![2, 4096, 32, 64]⟩
abbrev S2x4096x128 : Shape := ⟨3, ![2, 4096, 128]⟩
abbrev S2x4096x1x128 : Shape := ⟨4, ![2, 4096, 1, 128]⟩
abbrev S2x4096x1x64 : Shape := ⟨4, ![2, 4096, 1, 64]⟩
abbrev S32x256x1024 : Shape := ⟨3, ![32, 256, 1024]⟩
abbrev S32x1024 : Shape := ⟨2, ![32, 1024]⟩
abbrev S32x1x1024 : Shape := ⟨3, ![32, 1, 1024]⟩
abbrev S8192x2048 : Shape := ⟨2, ![8192, 2048]⟩
abbrev S8192x1024 : Shape := ⟨2, ![8192, 1024]⟩
abbrev S8192x4096 : Shape := ⟨2, ![8192, 4096]⟩
abbrev S8192x128 : Shape := ⟨2, ![8192, 128]⟩

abbrev nBuf : Space → Nat
  | .hbm => 246
  | .vmem => 0
  | .smem => 0
  | _ => 0

abbrev hbmTy0_0 (i : Nat) : BufTy := match i % 128 with
  | 0 => ⟨S8192x24576, .f32⟩
  | 1 => ⟨S8192x256, .f32⟩
  | 2 => ⟨S4096x64, .f32⟩
  | 3 => ⟨S4096x64, .f32⟩
  | 4 => ⟨S1x128, .f32⟩
  | 5 => ⟨S1x128, .f32⟩
  | 6 => ⟨S1x128, .f32⟩
  | 7 => ⟨S1x128, .f32⟩
  | 8 => ⟨S_, .f32⟩
  | 9 => ⟨S_, .f32⟩
  | 10 => ⟨S2x4096x24576, .f32⟩
  | 11 => ⟨S2x4096x256, .f32⟩
  | 12 => ⟨S2x4096x2048, .f32⟩
  | 13 => ⟨S2x4096x16x128, .f32⟩
  | 14 => ⟨S128, .f32⟩
  | 15 => ⟨S2x4096x16x128, .f32⟩
  | 16 => ⟨S_, .f32⟩
  | 17 => ⟨S2x4096x16, .f32⟩
  | 18 => ⟨S2x4096x16x1, .f32⟩
  | 19 => ⟨S_, .f32⟩
  | 20 => ⟨S2x4096x16x1, .f32⟩
  | 21 => ⟨S2x4096x16x1, .f32⟩
  | 22 => ⟨S_, .f32⟩
  | 23 => ⟨S2x4096x16x1, .f32⟩
  | 24 => ⟨S2x4096x16x1, .f32⟩
  | 25 => ⟨S2x4096x16x1, .f32⟩
  | 26 => ⟨S2x4096x16x128, .f32⟩
  | 27 => ⟨S2x4096x16x128, .f32⟩
  | 28 => ⟨S1x1x1x128, .f32⟩
  | 29 => ⟨S2x4096x16x128, .f32⟩
  | 30 => ⟨S2x4096x16x128, .f32⟩
  | 31 => ⟨S4096x1x64, .f32⟩
  | 32 => ⟨S4096x1x64, .f32⟩
  | 33 => ⟨S2x4096x16x64, .f32⟩
  | 34 => ⟨S2x4096x16x64, .f32⟩
  | 35 => ⟨S1x4096x1x64, .f32⟩
  | 36 => ⟨S2x4096x16x64, .f32⟩
  | 37 => ⟨S2x4096x16x64, .f32⟩
  | 38 => ⟨S1x4096x1x64, .f32⟩
  | 39 => ⟨S2x4096x16x64, .f32⟩
  | 40 => ⟨S2x4096x16x64, .f32⟩
  | 41 => ⟨S2x4096x16x64, .f32⟩
  | 42 => ⟨S1x4096x1x64, .f32⟩
  | 43 => ⟨S2x4096x16x64, .f32⟩
  | 44 => ⟨S2x4096x16x64, .f32⟩
  | 45 => ⟨S1x4096x1x64, .f32⟩
  | 46 => ⟨S2x4096x16x64, .f32⟩
  | 47 => ⟨S2x4096x16x64, .f32⟩
  | 48 => ⟨S2x4096x16x64, .f32⟩
  | 49 => ⟨S2x4096x16x128, .f32⟩
  | 50 => ⟨S2x4096x16x128, .f32⟩
  | 51 => ⟨S2x4096x16x128, .f32⟩
  | 52 => ⟨S2x4096x1024, .f32⟩
  | 53 => ⟨S2x4096x8x128, .f32⟩
  | 54 => ⟨S128, .f32⟩
  | 55 => ⟨S2x4096x8x128, .f32⟩
  | 56 => ⟨S_, .f32⟩
  | 57 => ⟨S2x4096x8, .f32⟩
  | 58 => ⟨S2x4096x8x1, .f32⟩
  | 59 => ⟨S_, .f32⟩
  | 60 => ⟨S2x4096x8x1, .f32⟩
  | 61 => ⟨S2x4096x8x1, .f32⟩
  | 62 => ⟨S_, .f32⟩
  | 63 => ⟨S2x4096x8x1, .f32⟩
  | 64 => ⟨S2x4096x8x1, .f32⟩
  | 65 => ⟨S2x4096x8x1, .f32⟩
  | 66 => ⟨S2x4096x8x128, .f32⟩
  | 67 => ⟨S2x4096x8x128, .f32⟩
  | 68 => ⟨S1x1x1x128, .f32⟩
  | 69 => ⟨S2x4096x8x128, .f32⟩
  | 70 => ⟨S2x4096x8x128, .f32⟩
  | 71 => ⟨S4096x1x64, .f32⟩
  | 72 => ⟨S4096x1x64, .f32⟩
  | 73 => ⟨S2x4096x8x64, .f32⟩
  | 74 => ⟨S2x4096x8x64, .f32⟩
  | 75 => ⟨S1x4096x1x64, .f32⟩
  | 76 => ⟨S2x4096x8x64, .f32⟩
  | 77 => ⟨S2x4096x8x64, .f32⟩
  | 78 => ⟨S1x4096x1x64, .f32⟩
  | 79 => ⟨S2x4096x8x64, .f32⟩
  | 80 => ⟨S2x4096x8x64, .f32⟩
  | 81 => ⟨S2x4096x8x64, .f32⟩
  | 82 => ⟨S1x4096x1x64, .f32⟩
  | 83 => ⟨S2x4096x8x64, .f32⟩
  | 84 => ⟨S2x4096x8x64, .f32⟩
  | 85 => ⟨S1x4096x1x64, .f32⟩
  | 86 => ⟨S2x4096x8x64, .f32⟩
  | 87 => ⟨S2x4096x8x64, .f32⟩
  | 88 => ⟨S2x4096x8x64, .f32⟩
  | 89 => ⟨S2x4096x8x128, .f32⟩
  | 90 => ⟨S2x4096x1024, .f32⟩
  | 91 => ⟨S2x4096x4096, .f32⟩
  | 92 => ⟨S2x4096x32x128, .f32⟩
  | 93 => ⟨S4096x1x64, .f32⟩
  | 94 => ⟨S4096x1x64, .f32⟩
  | 95 => ⟨S2x4096x32x64, .f32⟩
  | 96 => ⟨S2x4096x32x64, .f32⟩
  | 97 => ⟨S1x4096x1x64, .f32⟩
  | 98 => ⟨S2x4096x32x64, .f32⟩
  | 99 => ⟨S2x4096x32x64, .f32⟩
  | 100 => ⟨S1x4096x1x64, .f32⟩
  | 101 => ⟨S2x4096x32x64, .f32⟩
  | 102 => ⟨S2x4096x32x64, .f32⟩
  | 103 => ⟨S2x4096x32x64, .f32⟩
  | 104 => ⟨S1x4096x1x64, .f32⟩
  | 105 => ⟨S2x4096x32x64, .f32⟩
  | 106 => ⟨S2x4096x32x64, .f32⟩
  | 107 => ⟨S1x4096x1x64, .f32⟩
  | 108 => ⟨S2x4096x32x64, .f32⟩
  | 109 => ⟨S2x4096x32x64, .f32⟩
  | 110 => ⟨S2x4096x32x64, .f32⟩
  | 111 => ⟨S2x4096x32x128, .f32⟩
  | 112 => ⟨S2x4096x128, .f32⟩
  | 113 => ⟨S2x4096x1x128, .f32⟩
  | 114 => ⟨S4096x1x64, .f32⟩
  | 115 => ⟨S4096x1x64, .f32⟩
  | 116 => ⟨S2x4096x1x64, .f32⟩
  | 117 => ⟨S2x4096x1x64, .f32⟩
  | 118 => ⟨S1x4096x1x64, .f32⟩
  | 119 => ⟨S2x4096x1x64, .f32⟩
  | 120 => ⟨S2x4096x1x64, .f32⟩
  | 121 => ⟨S1x4096x1x64, .f32⟩
  | 122 => ⟨S2x4096x1x64, .f32⟩
  | 123 => ⟨S2x4096x1x64, .f32⟩
  | 124 => ⟨S2x4096x1x64, .f32⟩
  | 125 => ⟨S1x4096x1x64, .f32⟩
  | 126 => ⟨S2x4096x1x64, .f32⟩
  | 127 => ⟨S2x4096x1x64, .f32⟩
  | _ => ⟨S8192x24576, .f32⟩

abbrev hbmTy0_1 (i : Nat) : BufTy := match i % 128 with
  | 0 => ⟨S1x4096x1x64, .f32⟩
  | 1 => ⟨S2x4096x1x64, .f32⟩
  | 2 => ⟨S2x4096x1x64, .f32⟩
  | 3 => ⟨S2x4096x1x64, .f32⟩
  | 4 => ⟨S2x4096x1x128, .f32⟩
  | 5 => ⟨S2x4096x128, .f32⟩
  | 6 => ⟨S2x4096x128, .f32⟩
  | 7 => ⟨S_, .f32⟩
  | 8 => ⟨S2x4096x128, .f32⟩
  | 9 => ⟨S2x4096x128, .f32⟩
  | 10 => ⟨S2x4096x2048, .f32⟩
  | 11 => ⟨S2x4096x16x128, .f32⟩
  | 12 => ⟨S128, .f32⟩
  | 13 => ⟨S2x4096x16x128, .f32⟩
  | 14 => ⟨S_, .f32⟩
  | 15 => ⟨S2x4096x16, .f32⟩
  | 16 => ⟨S2x4096x16x1, .f32⟩
  | 17 => ⟨S_, .f32⟩
  | 18 => ⟨S2x4096x16x1, .f32⟩
  | 19 => ⟨S2x4096x16x1, .f32⟩
  | 20 => ⟨S_, .f32⟩
  | 21 => ⟨S2x4096x16x1, .f32⟩
  | 22 => ⟨S2x4096x16x1, .f32⟩
  | 23 => ⟨S2x4096x16x1, .f32⟩
  | 24 => ⟨S2x4096x16x128, .f32⟩
  | 25 => ⟨S2x4096x16x128, .f32⟩
  | 26 => ⟨S1x1x1x128, .f32⟩
  | 27 => ⟨S2x4096x16x128, .f32⟩
  | 28 => ⟨S2x4096x16x128, .f32⟩
  | 29 => ⟨S4096x1x64, .f32⟩
  | 30 => ⟨S4096x1x64, .f32⟩
  | 31 => ⟨S2x4096x16x64, .f32⟩
  | 32 => ⟨S2x4096x16x64, .f32⟩
  | 33 => ⟨S1x4096x1x64, .f32⟩
  | 34 => ⟨S2x4096x16x64, .f32⟩
  | 35 => ⟨S2x4096x16x64, .f32⟩
  | 36 => ⟨S1x4096x1x64, .f32⟩
  | 37 => ⟨S2x4096x16x64, .f32⟩
  | 38 => ⟨S2x4096x16x64, .f32⟩
  | 39 => ⟨S2x4096x16x64, .f32⟩
  | 40 => ⟨S1x4096x1x64, .f32⟩
  | 41 => ⟨S2x4096x16x64, .f32⟩
  | 42 => ⟨S2x4096x16x64, .f32⟩
  | 43 => ⟨S1x4096x1x64, .f32⟩
  | 44 => ⟨S2x4096x16x64, .f32⟩
  | 45 => ⟨S2x4096x16x64, .f32⟩
  | 46 => ⟨S2x4096x16x64, .f32⟩
  | 47 => ⟨S2x4096x16x128, .f32⟩
  | 48 => ⟨S2x4096x16x128, .f32⟩
  | 49 => ⟨S2x4096x16x128, .f32⟩
  | 50 => ⟨S2x4096x1024, .f32⟩
  | 51 => ⟨S2x4096x8x128, .f32⟩
  | 52 => ⟨S128, .f32⟩
  | 53 => ⟨S2x4096x8x128, .f32⟩
  | 54 => ⟨S_, .f32⟩
  | 55 => ⟨S2x4096x8, .f32⟩
  | 56 => ⟨S2x4096x8x1, .f32⟩
  | 57 => ⟨S_, .f32⟩
  | 58 => ⟨S2x4096x8x1, .f32⟩
  | 59 => ⟨S2x4096x8x1, .f32⟩
  | 60 => ⟨S_, .f32⟩
  | 61 => ⟨S2x4096x8x1, .f32⟩
  | 62 => ⟨S2x4096x8x1, .f32⟩
  | 63 => ⟨S2x4096x8x1, .f32⟩
  | 64 => ⟨S2x4096x8x128, .f32⟩
  | 65 => ⟨S2x4096x8x128, .f32⟩
  | 66 => ⟨S1x1x1x128, .f32⟩
  | 67 => ⟨S2x4096x8x128, .f32⟩
  | 68 => ⟨S2x4096x8x128, .f32⟩
  | 69 => ⟨S4096x1x64, .f32⟩
  | 70 => ⟨S4096x1x64, .f32⟩
  | 71 => ⟨S2x4096x8x64, .f32⟩
  | 72 => ⟨S2x4096x8x64, .f32⟩
  | 73 => ⟨S1x4096x1x64, .f32⟩
  | 74 => ⟨S2x4096x8x64, .f32⟩
  | 75 => ⟨S2x4096x8x64, .f32⟩
  | 76 => ⟨S1x4096x1x64, .f32⟩
  | 77 => ⟨S2x4096x8x64, .f32⟩
  | 78 => ⟨S2x4096x8x64, .f32⟩
  | 79 => ⟨S2x4096x8x64, .f32⟩
  | 80 => ⟨S1x4096x1x64, .f32⟩
  | 81 => ⟨S2x4096x8x64, .f32⟩
  | 82 => ⟨S2x4096x8x64, .f32⟩
  | 83 => ⟨S1x4096x1x64, .f32⟩
  | 84 => ⟨S2x4096x8x64, .f32⟩
  | 85 => ⟨S2x4096x8x64, .f32⟩
  | 86 => ⟨S2x4096x8x64, .f32⟩
  | 87 => ⟨S2x4096x8x128, .f32⟩
  | 88 => ⟨S2x4096x1024, .f32⟩
  | 89 => ⟨S32x256x1024, .f32⟩
  | 90 => ⟨S_, .f32⟩
  | 91 => ⟨S32x1024, .f32⟩
  | 92 => ⟨S32x1x1024, .f32⟩
  | 93 => ⟨S_, .f32⟩
  | 94 => ⟨S32x1x1024, .f32⟩
  | 95 => ⟨S32x1x1024, .f32⟩
  | 96 => ⟨S8192x2048, .f32⟩
  | 97 => ⟨S8192x2048, .bf16⟩
  | 98 => ⟨S8192x1024, .f32⟩
  | 99 => ⟨S8192x1024, .f32⟩
  | 100 => ⟨S8192x1024, .bf16⟩
  | 101 => ⟨S8192x1024, .f32⟩
  | 102 => ⟨S8192x1024, .f32⟩
  | 103 => ⟨S8192x1024, .bf16⟩
  | 104 => ⟨S8192x4096, .f32⟩
  | 105 => ⟨S8192x4096, .bf16⟩
  | 106 => ⟨S8192x128, .f32⟩
  | 107 => ⟨S8192x128, .f32⟩
  | 108 => ⟨S8192x128, .bf16⟩
  | 109 => ⟨S8192x128, .f32⟩
  | 110 => ⟨S8192x2048, .f32⟩
  | 111 => ⟨S8192x2048, .bf16⟩
  | 112 => ⟨S8192x1024, .f32⟩
  | 113 => ⟨S8192x1024, .f32⟩
  | 114 => ⟨S8192x1024, .bf16⟩
  | 115 => ⟨S8192x1024, .f32⟩
  | 116 => ⟨S8192x1024, .f32⟩
  | 117 => ⟨S8192x1024, .bf16⟩
  | _ => ⟨S8192x24576, .f32⟩

abbrev hbmTy (i : Nat) : BufTy := match i / 128 with
  | 0 => hbmTy0_0 i
  | 1 => hbmTy0_1 i
  | _ => ⟨S8192x24576, .f32⟩

abbrev bufTy : (tb : Table) → Fin (tcTables nBuf tb) → BufTy
  | .hbm, ⟨i, _⟩ => hbmTy i
  | _, _ => ⟨S8192x24576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_3 : Ref sig .tc := ⟨.hbm, 56, rfl⟩
abbrev main_v44 : Ref sig .tc := ⟨.hbm, 57, rfl⟩
abbrev main_v45 : Ref sig .tc := ⟨.hbm, 58, rfl⟩
abbrev main_cst_4 : Ref sig .tc := ⟨.hbm, 59, rfl⟩
abbrev main_v46 : Ref sig .tc := ⟨.hbm, 60, rfl⟩
abbrev main_v47 : Ref sig .tc := ⟨.hbm, 61, rfl⟩
abbrev main_cst_5 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_cst_6 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_cst_7 : Ref sig .tc := ⟨.hbm, 142, rfl⟩
abbrev main_v126 : Ref sig .tc := ⟨.hbm, 143, rfl⟩
abbrev main_v127 : Ref sig .tc := ⟨.hbm, 144, rfl⟩
abbrev main_cst_8 : Ref sig .tc := ⟨.hbm, 145, rfl⟩
abbrev main_v128 : Ref sig .tc := ⟨.hbm, 146, rfl⟩
abbrev main_v129 : Ref sig .tc := ⟨.hbm, 147, rfl⟩
abbrev main_cst_9 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩
abbrev main_v152 : Ref sig .tc := ⟨.hbm, 171, rfl⟩
abbrev main_v153 : Ref sig .tc := ⟨.hbm, 172, rfl⟩
abbrev main_v154 : Ref sig .tc := ⟨.hbm, 173, rfl⟩
abbrev main_v155 : Ref sig .tc := ⟨.hbm, 174, rfl⟩
abbrev main_v156 : Ref sig .tc := ⟨.hbm, 175, rfl⟩
abbrev main_v157 : Ref sig .tc := ⟨.hbm, 176, rfl⟩
abbrev main_v158 : Ref sig .tc := ⟨.hbm, 177, rfl⟩
abbrev main_v159 : Ref sig .tc := ⟨.hbm, 178, rfl⟩
abbrev main_v160 : Ref sig .tc := ⟨.hbm, 179, rfl⟩
abbrev main_v161 : Ref sig .tc := ⟨.hbm, 180, rfl⟩
abbrev main_v162 : Ref sig .tc := ⟨.hbm, 181, rfl⟩
abbrev main_cst_10 : Ref sig .tc := ⟨.hbm, 182, rfl⟩
abbrev main_v163 : Ref sig .tc := ⟨.hbm, 183, rfl⟩
abbrev main_v164 : Ref sig .tc := ⟨.hbm, 184, rfl⟩
abbrev main_cst_11 : Ref sig .tc := ⟨.hbm, 185, rfl⟩
abbrev main_v165 : Ref sig .tc := ⟨.hbm, 186, rfl⟩
abbrev main_v166 : Ref sig .tc := ⟨.hbm, 187, rfl⟩
abbrev main_cst_12 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩
abbrev main_v173 : Ref sig .tc := ⟨.hbm, 195, rfl⟩
abbrev main_v174 : Ref sig .tc := ⟨.hbm, 196, rfl⟩
abbrev main_v175 : Ref sig .tc := ⟨.hbm, 197, rfl⟩
abbrev main_v176 : Ref sig .tc := ⟨.hbm, 198, rfl⟩
abbrev main_v177 : Ref sig .tc := ⟨.hbm, 199, rfl⟩
abbrev main_v178 : Ref sig .tc := ⟨.hbm, 200, rfl⟩
abbrev main_v179 : Ref sig .tc := ⟨.hbm, 201, rfl⟩
abbrev main_v180 : Ref sig .tc := ⟨.hbm, 202, rfl⟩
abbrev main_v181 : Ref sig .tc := ⟨.hbm, 203, rfl⟩
abbrev main_v182 : Ref sig .tc := ⟨.hbm, 204, rfl⟩
abbrev main_v183 : Ref sig .tc := ⟨.hbm, 205, rfl⟩
abbrev main_v184 : Ref sig .tc := ⟨.hbm, 206, rfl⟩
abbrev main_v185 : Ref sig .tc := ⟨.hbm, 207, rfl⟩
abbrev main_v186 : Ref sig .tc := ⟨.hbm, 208, rfl⟩
abbrev main_v187 : Ref sig .tc := ⟨.hbm, 209, rfl⟩
abbrev main_v188 : Ref sig .tc := ⟨.hbm, 210, rfl⟩
abbrev main_v189 : Ref sig .tc := ⟨.hbm, 211, rfl⟩
abbrev main_v190 : Ref sig .tc := ⟨.hbm, 212, rfl⟩
abbrev main_v191 : Ref sig .tc := ⟨.hbm, 213, rfl⟩
abbrev main_v192 : Ref sig .tc := ⟨.hbm, 214, rfl⟩
abbrev main_v193 : Ref sig .tc := ⟨.hbm, 215, rfl⟩
abbrev main_v194 : Ref sig .tc := ⟨.hbm, 216, rfl⟩
abbrev main_v195 : Ref sig .tc := ⟨.hbm, 217, rfl⟩
abbrev main_cst_13 : Ref sig .tc := ⟨.hbm, 218, rfl⟩
abbrev main_v196 : Ref sig .tc := ⟨.hbm, 219, rfl⟩
abbrev main_v197 : Ref sig .tc := ⟨.hbm, 220, rfl⟩
abbrev main_cst_14 : Ref sig .tc := ⟨.hbm, 221, rfl⟩
abbrev main_v198 : Ref sig .tc := ⟨.hbm, 222, rfl⟩
abbrev main_v199 : Ref sig .tc := ⟨.hbm, 223, rfl⟩
abbrev main_v200 : Ref sig .tc := ⟨.hbm, 224, rfl⟩
abbrev main_v201 : Ref sig .tc := ⟨.hbm, 225, rfl⟩
abbrev main_v202 : Ref sig .tc := ⟨.hbm, 226, rfl⟩
abbrev main_v203 : Ref sig .tc := ⟨.hbm, 227, rfl⟩
abbrev main_v204 : Ref sig .tc := ⟨.hbm, 228, rfl⟩
abbrev main_v205 : Ref sig .tc := ⟨.hbm, 229, rfl⟩
abbrev main_v206 : Ref sig .tc := ⟨.hbm, 230, rfl⟩
abbrev main_v207 : Ref sig .tc := ⟨.hbm, 231, rfl⟩
abbrev main_v208 : Ref sig .tc := ⟨.hbm, 232, rfl⟩
abbrev main_v209 : Ref sig .tc := ⟨.hbm, 233, rfl⟩
abbrev main_v210 : Ref sig .tc := ⟨.hbm, 234, rfl⟩
abbrev main_v211 : Ref sig .tc := ⟨.hbm, 235, rfl⟩
abbrev main_v212 : Ref sig .tc := ⟨.hbm, 236, rfl⟩
abbrev main_v213 : Ref sig .tc := ⟨.hbm, 237, rfl⟩
abbrev main_v214 : Ref sig .tc := ⟨.hbm, 238, rfl⟩
abbrev main_v215 : Ref sig .tc := ⟨.hbm, 239, rfl⟩
abbrev main_v216 : Ref sig .tc := ⟨.hbm, 240, rfl⟩
abbrev main_v217 : Ref sig .tc := ⟨.hbm, 241, rfl⟩
abbrev main_v218 : Ref sig .tc := ⟨.hbm, 242, rfl⟩
abbrev main_v219 : Ref sig .tc := ⟨.hbm, 243, rfl⟩
abbrev main_v220 : Ref sig .tc := ⟨.hbm, 244, rfl⟩
abbrev main_v221 : Ref sig .tc := ⟨.hbm, 245, rfl⟩

abbrev nD : Nat := 1
abbrev τ : Topo := Topo.v7x

variable {F : FTy → Type} [FloatOps F]
-- ==== Proof.Step.lean ====
/- The vector steps of the block attention: one scores block folded into the running softmax, and the choice of blocks. -/
module

public import proofs.«01_k».proof.Defs
public import proofs.«01_k».proof.Proof.Gen.MobaIdeal.Value
public import Idealize.ShloMosaic.Lib.Pointwise

@[expose] public section

set_option maxRecDepth 16384

noncomputable section

open Idealize.ShloMosaic Idealize.ShloMosaic.TcCoe Idealize.SL.Sem
open scoped BigOperators

namespace Cert.Proof.Moba

open Cert.MobaIdeal Cert.MobaIdeal.Gen

/-- The scores of a tile of queries against a block of keys, with a bias added to each. -/
def scoresOf (q k : FVec Ideal S256x128 .bf16) (bias : FVec Ideal S256x256 .f32) : FVec Ideal S256x256 .f32 :=
  addf (matmul dot_S256x128_S256x128_S256x256_1_1_0_0_n_n none q k (constant S256x256 .f32 0x00000000#32)) bias

/-- The bias of block `j`: zero in the rows whose choice includes lane `j`, the mask in the others. -/
def biasOf (lane : IVec S256x128 32) (sel : FVec Ideal S256x128 .f32) (j : BitVec 32) : FVec Ideal S256x256 .f32 :=
  broadcastTo S256x256
    (select
      (cmpf .ogt
        (shapeCast S256x1
          (multiReduction .maximumf [1] S256
            (select (cmpi .eq lane (broadcast S256x128 j)) sel (broadcast S256x128 (Scalar.ofBits .f32 0x00000000#32)))
            0xFF800000#32 reduces_S256x128_S256 (.inl rfl) rfl)
          shapeCasts_S256_S256x1)
        (broadcast S256x1 (Scalar.ofBits .f32 0x00000000#32)))
      (broadcast S256x1 (Scalar.ofBits .f32 0x00000000#32))
      (broadcast S256x1 (Named.named κ "mask" 0xF149F2CA#32)))
    broadcasts_S256x1_S256x256

/-- The running maximum after a scores block. -/
def newMax (s : FVec Ideal S256x256 .f32) (m : FVec Ideal S256x1 .f32) : FVec Ideal S256x1 .f32 :=
  maximumf m (shapeCast S256x1
    (multiReduction .maximumf [1] S256 s 0xFF800000#32 reduces_S256x256_S256 (.inl rfl) rfl) shapeCasts_S256_S256x1)

/-- The weights of a scores block against the running maximum after it. -/
def weights (s : FVec Ideal S256x256 .f32) (m : FVec Ideal S256x1 .f32) : FVec Ideal S256x256 .f32 :=
  exp (subf s (broadcastTo S256x256 (newMax s m) broadcasts_S256x1_S256x256))

/-- The running total of the weights after a scores block. -/
def newSum (s : FVec Ideal S256x256 .f32) (m l : FVec Ideal S256x1 .f32) : FVec Ideal S256x1 .f32 :=
  addf (mulf (exp (subf m (newMax s m))) l) (shapeCast S256x1
    (multiReduction .add [1] S256 (weights s m) 0x00000000#32 reduces_S256x256_S256 (.inl rfl) rfl) shapeCasts_S256_S256x1)

/-- The running weighted sum of the values after a scores block. -/
def newAcc (s : FVec Ideal S256x256 .f32) (m : FVec Ideal S256x1 .f32) (acc : FVec Ideal S256x128 .f32)
    (v : FVec Ideal S256x128 .bf16) : FVec Ideal S256x128 .f32 :=
  addf (mulf (broadcastTo S256x128 (exp (subf m (newMax s m))) broadcasts_S256x1_S256x128) acc)
    (matmul dot_S256x256_S256x128_S256x128_1_0_0_1_n_n none (truncf .bf16 (weights s m) bitsLt_bf16_f32) v
      (constant S256x128 .f32 0x00000000#32))

/-- The result tile: the weighted sum over the total, gated. -/
def gated (l : FVec Ideal S256x1 .f32) (acc : FVec Ideal S256x128 .f32) (z : FVec Ideal S256x128 .f32) :
    FVec Ideal S256x128 .bf16 :=
  truncf .bf16 (mulf (divf acc (broadcastTo S256x128 l broadcasts_S256x1_S256x128)) (mulf z (logistic z))) bitsLt_bf16_f32

/-- The first lane of each row at which the row's maximum stands. -/
def firstMax (rem : FVec Ideal S256x128 .f32) : IVec S256x128 1 :=
  cmpf .oeq (k0_pay10 (F := Ideal)) (broadcastTo S256x128 (shapeCast S256x1
    (multiReduction .minimumf [1] S256
      (select (cmpf .oeq rem (broadcastTo S256x128 (shapeCast S256x1
        (multiReduction .maximumf [1] S256 rem 0xFF800000#32 reduces_S256x128_S256 (.inl rfl) rfl)
        shapeCasts_S256_S256x1) broadcasts_S256x1_S256x128))
        (k0_pay10 (F := Ideal)) (broadcast S256x128 (Scalar.ofBits .f32 0x43000000#32)))
      0x7F800000#32 reduces_S256x128_S256 (.inl rfl) rfl) shapeCasts_S256_S256x1) broadcasts_S256x1_S256x128)

/-- What remains to choose from after a pick. -/
def without (rem : FVec Ideal S256x128 .f32) : FVec Ideal S256x128 .f32 :=
  select (firstMax rem) (broadcast S256x128 (Scalar.ofBits .f32 0xFF800000#32)) rem

/-- The choice with a pick added. -/
def withPick (rem sel : FVec Ideal S256x128 .f32) : FVec Ideal S256x128 .f32 :=
  select (firstMax rem) (broadcast S256x128 (Scalar.ofBits .f32 0x3F800000#32)) sel

/-- The choice after three picks, among the valid lanes. -/
def chosen (valid : IVec S256x128 1) (rem : FVec Ideal S256x128 .f32) : FVec Ideal S256x128 .f32 :=
  select valid
    (withPick (without (without rem)) (withPick (without rem) (withPick rem (broadcast S256x128 (Scalar.ofBits .f32 0x00000000#32)))))
    (broadcast S256x128 (Scalar.ofBits .f32 0x00000000#32))

/-- The gate scores of a tile of queries, minus infinity where a lane is not valid. -/
def gates (valid : IVec S256x128 1) (q : FVec Ideal S256x128 .bf16) (km : FVec Ideal S128x128 .bf16) : FVec Ideal S256x128 .f32 :=
  select valid (matmul dot_S256x128_S128x128_S256x128_1_1_0_0_n_n none q km (constant S256x128 .f32 0x00000000#32))
    (broadcast S256x128 (Scalar.ofBits .f32 0xFF800000#32))

theorem chosen_first (i : grid0.Coords) (v7 : Vec Ideal S1x128x128 .f32) (q : Vec Ideal S256x128 .bf16) :
    k0_pay17 (F := Ideal) k0_pay10 (k0_pay11 (F := Ideal) i) (k0_pay14 i v7 q) (k0_pay15 i v7 q) (k0_pay16 i v7 q)
      = chosen (k0_pay11 (F := Ideal) i) (gates (k0_pay11 (F := Ideal) i) q (k0_pay9 v7)) := rfl

theorem chosen_second (i : grid0.Coords) (km : Vec Ideal S128x128 .bf16) (q : Vec Ideal S256x128 .bf16) :
    k0_pay40 (F := Ideal) k0_pay35 (k0_pay36 (F := Ideal) (BitVec.ofNat 32 (i 1).val)) (k0_pay37 (BitVec.ofNat 32 (i 1).val) km q) k0_pay38
        (k0_pay39 (F := Ideal) (BitVec.ofNat 32 (i 1).val) km q)
      = chosen (k0_pay11 (F := Ideal) i) (gates (k0_pay11 (F := Ideal) i) q km) := rfl

end Cert.Proof.Moba

end
-- ==== Proof.Select.lean ====
module

public import proofs.«01_k».proof.Defs
public import Idealize.ShloMosaic.Lib.SortFacts
public import Idealize.ShloMosaic.Lib.SortPrefix
public import Idealize.ShloMosaic.Lib.Pointwise

/-!
# Picking three blocks

Two ways of choosing the blocks a query reads.  The reference sorts the sixteen gates of the query, greatest first and
lower block first among equals, and takes the first three.  The kernel takes, three times over, the first lane that
holds the largest remaining gate and strikes it out.  Blocks from the query's own onwards carry the gate `⊥` in both and
are dropped at the end.  The blocks that remain are the same.
-/

@[expose] public section

set_option maxRecDepth 16384

noncomputable section

open Idealize.ShloMosaic Idealize.ShloMosaic.TcCoe Idealize.SL.Sem
open scoped BigOperators

namespace Cert.Proof.Select

/-- The number of a lane as the kernel holds it. -/
def lane (l : Fin 128) : EReal := (((l.val : ℤ) : ℝ) : EReal)

/-- The lane that carries block `j`. -/
def wide (j : Fin 16) : Fin 128 := ⟨j.val, lt_of_lt_of_le j.isLt (by decide)⟩

theorem lane_le {a b : Fin 128} : lane a ≤ lane b ↔ a ≤ b := by
  unfold lane
  rw [EReal.coe_le_coe_iff, Int.cast_le, Int.ofNat_le, Fin.le_def]

theorem lane_inj {a b : Fin 128} (h : lane a = lane b) : a = b :=
  le_antisymm (lane_le.mp h.le) (lane_le.mp h.ge)

theorem lane_le_width (a : Fin 128) : lane a ≤ ((128 : ℝ) : EReal) := by
  unfold lane
  rw [EReal.coe_le_coe_iff]
  have h : (a.val : ℤ) ≤ 128 := by omega
  exact_mod_cast h

/-- Lane `l` is the first one holding the largest remaining gate, in the kernel's words: its number is the least among
    the numbers of the lanes that hold the largest gate. -/
def Picked (rem : Fin 128 → EReal) (l : Fin 128) : Prop :=
  lane l = Finset.fold min ⊤
    (fun x => if rem x = Finset.fold max ⊥ rem Finset.univ then lane x else ((128 : ℝ) : EReal)) Finset.univ

open Classical in
/-- The gates left after a round. -/
def remNext (rem : Fin 128 → EReal) : Fin 128 → EReal := fun l => if Picked rem l then ⊥ else rem l

open Classical in
/-- The lanes marked after a round. -/
def selNext (rem sel : Fin 128 → EReal) : Fin 128 → EReal := fun l => if Picked rem l then 1 else sel l

/-- A lane at least as large as every other, and before every equal one, is the one picked. -/
theorem picked_iff {rem : Fin 128 → EReal} {b : Fin 128} (hb : ∀ x, rem x ≤ rem b) (hf : ∀ x, rem x = rem b → b ≤ x)
    (l : Fin 128) : Picked rem l ↔ l = b := by
  have htop : Finset.fold max ⊥ rem Finset.univ = rem b := by
    apply le_antisymm
    · rw [Finset.fold_max_le]
      exact ⟨bot_le, fun x _ => hb x⟩
    · rw [Finset.le_fold_max]
      exact Or.inr ⟨b, Finset.mem_univ b, le_rfl⟩
  have hmin : Finset.fold min ⊤
      (fun x => if rem x = Finset.fold max ⊥ rem Finset.univ then lane x else ((128 : ℝ) : EReal)) Finset.univ
      = lane b := by
    rw [htop]
    apply le_antisymm
    · rw [Finset.fold_min_le]
      exact Or.inr ⟨b, Finset.mem_univ b, by rw [if_pos rfl]⟩
    · rw [Finset.le_fold_min]
      refine ⟨le_top, fun x _ => ?_⟩
      split
      · rename_i h; exact lane_le.mpr (hf x h)
      · exact lane_le_width b
  unfold Picked
  rw [hmin]
  exact ⟨fun h => lane_inj h, fun h => h ▸ rfl⟩

/-! ## The order of the reference -/

/-- Of the sixteen gates `G`, block `a` comes before block `b`. -/
def before (G : Fin 16 → EReal) (a b : Fin 16) : Prop := G b < G a ∨ (G b = G a ∧ a < b)

/-- `S` lists the sixteen blocks, each once, the preferred ones first. -/
structure Ranked (G : Fin 16 → EReal) (S : Fin 16 → Fin 16) : Prop where
  surj : Function.Surjective S
  inj : Function.Injective S
  ordered : ∀ a b, a < b → before G (S a) (S b)

/-- The gates left after `k` rounds, told by the ranking: those of the blocks before `n` not among the first `k`. -/
def Left (n : ℕ) (g : Fin 128 → EReal) (S : Fin 16 → Fin 16) (k : ℕ) (rem : Fin 128 → EReal) : Prop :=
  ∀ l : Fin 128, (l.val < n ∧ (∀ a : Fin 16, a.val < k → (S a).val ≠ l.val) → rem l = g l) ∧
    (¬ (l.val < n ∧ ∀ a : Fin 16, a.val < k → (S a).val ≠ l.val) → rem l = ⊥)

/-- The marks after `k` rounds, on the lanes before `n`. -/
def Marked (n : ℕ) (S : Fin 16 → Fin 16) (k : ℕ) (sel : Fin 128 → EReal) : Prop :=
  ∀ l : Fin 128, l.val < n → ((∃ a : Fin 16, a.val < k ∧ (S a).val = l.val) → sel l = 1) ∧
    ((¬ ∃ a : Fin 16, a.val < k ∧ (S a).val = l.val) → sel l = 0)

section rounds
variable {n : ℕ} (hn : n ≤ 16) {g : Fin 128 → EReal} (hg : ∀ l, l.val < n → g l ≠ ⊥)
  {G : Fin 16 → EReal} (hG : ∀ j : Fin 16, G j = if j.val < n then g (wide j) else ⊥)
  {S : Fin 16 → Fin 16} (hS : Ranked G S)
include hn hg hG hS

/-- Where block `S k` is one of those before `n`, the round picks its lane. -/
theorem pick_ranked {k : ℕ} (hk : k < 16) {rem : Fin 128 → EReal} (hrem : Left n g S k rem)
    (hv : (S ⟨k, hk⟩).val < n) (l : Fin 128) : Picked rem l ↔ l.val = (S ⟨k, hk⟩).val := by
  have hb : rem ⟨(S ⟨k, hk⟩).val, by omega⟩ = g ⟨(S ⟨k, hk⟩).val, by omega⟩ := by
    refine (hrem _).1 ⟨hv, fun a ha h => ?_⟩
    have := hS.inj (Fin.ext h)
    subst this
    exact absurd ha (lt_irrefl _)
  have key : ∀ x : Fin 128, (x.val < n ∧ ∀ a : Fin 16, a.val < k → (S a).val ≠ x.val) →
      g x < g ⟨(S ⟨k, hk⟩).val, by omega⟩ ∨ (g x = g ⟨(S ⟨k, hk⟩).val, by omega⟩ ∧ (S ⟨k, hk⟩).val ≤ x.val) := by
    intro x hx
    obtain ⟨a, ha⟩ := hS.surj ⟨x.val, by omega⟩
    have hax : (S a).val = x.val := by rw [ha]
    have hka : ¬ a.val < k := fun h => hx.2 a h hax
    by_cases e : a.val = k
    · have : a = ⟨k, hk⟩ := Fin.ext e
      subst this
      right
      exact ⟨congrArg g (Fin.ext hax.symm), hax.le⟩
    · have ho := hS.ordered ⟨k, hk⟩ a (by rw [Fin.lt_def]; show k < a.val; omega)
      unfold before at ho
      rw [hG, hG, if_pos hv, if_pos (by omega)] at ho
      have hgx : g (wide (S a)) = g x := congrArg g (Fin.ext hax)
      rw [hgx] at ho
      rcases ho with h | ⟨h, h'⟩
      · exact Or.inl h
      · exact Or.inr ⟨h, by rw [Fin.lt_def] at h'; omega⟩
  rw [picked_iff (b := ⟨(S ⟨k, hk⟩).val, by omega⟩), Fin.ext_iff]
  · intro x
    rw [hb]
    by_cases hx : x.val < n ∧ ∀ a : Fin 16, a.val < k → (S a).val ≠ x.val
    · rw [(hrem x).1 hx]
      rcases key x hx with h | h
      · exact h.le
      · exact h.1.le
    · rw [(hrem x).2 hx]; exact bot_le
  · intro x h
    rw [hb] at h
    by_cases hx : x.val < n ∧ ∀ a : Fin 16, a.val < k → (S a).val ≠ x.val
    · rw [(hrem x).1 hx] at h
      rcases key x hx with h' | h'
      · exact absurd h h'.ne
      · exact h'.2
    · rw [(hrem x).2 hx] at h
      exact absurd h.symm (hg _ hv)

/-- Where block `S k` is not before `n`, every block before `n` has been struck out already. -/
theorem none_left {k : ℕ} (hk : k < 16) (hv : ¬ (S ⟨k, hk⟩).val < n) (l : ℕ) (hl : l < n) :
    ∃ a : Fin 16, a.val < k ∧ (S a).val = l := by
  obtain ⟨a, ha⟩ := hS.surj ⟨l, by omega⟩
  have hal : (S a).val = l := by rw [ha]
  refine ⟨a, ?_, hal⟩
  by_contra hlt
  rcases (show a.val = k ∨ k < a.val by omega) with e | h
  · have : a = ⟨k, hk⟩ := Fin.ext e
    subst this
    omega
  · have ho := hS.ordered ⟨k, hk⟩ a (by rw [Fin.lt_def]; exact h)
    unfold before at ho
    rw [hG, hG, if_neg hv, if_pos (by omega)] at ho
    rcases ho with h | ⟨h, -⟩
    · exact absurd h not_lt_bot
    · exact hg _ (by show (S a).val < n; omega) h

theorem left_next {k : ℕ} (hk : k < 16) {rem : Fin 128 → EReal} (hrem : Left n g S k rem) :
    Left n g S (k + 1) (remNext rem) := by
  classical
  intro l
  unfold remNext
  by_cases hv : (S ⟨k, hk⟩).val < n
  · have hp := pick_ranked hn hg hG hS hk hrem hv l
    constructor
    · intro h
      rw [if_neg fun hP => h.2 ⟨k, hk⟩ (Nat.lt_succ_self k) (hp.mp hP).symm]
      exact (hrem l).1 ⟨h.1, fun a ha => h.2 a (by omega)⟩
    · intro h
      by_cases hP : Picked rem l
      · rw [if_pos hP]
      · rw [if_neg hP]
        refine (hrem l).2 fun h' => h ⟨h'.1, fun a ha => ?_⟩
        rcases (show a.val < k ∨ a.val = k by omega) with h'' | h''
        · exact h'.2 a h''
        · have : a = ⟨k, hk⟩ := Fin.ext h''
          subst this
          exact fun e => hP (hp.mpr e.symm)
  · have hnone : ∀ x : Fin 128, ¬ (x.val < n ∧ ∀ a : Fin 16, a.val < k → (S a).val ≠ x.val) := fun x hx => by
      obtain ⟨a, ha, e⟩ := none_left hn hg hG hS hk hv x.val hx.1
      exact hx.2 a ha e
    constructor
    · intro h
      exact absurd ⟨h.1, fun a ha => h.2 a (by omega)⟩ (hnone l)
    · intro _
      split
      · rfl
      · exact (hrem l).2 (hnone l)

theorem marked_next {k : ℕ} (hk : k < 16) {rem sel : Fin 128 → EReal} (hrem : Left n g S k rem)
    (hsel : Marked n S k sel) : Marked n S (k + 1) (selNext rem sel) := by
  classical
  intro l hl
  unfold selNext
  by_cases hv : (S ⟨k, hk⟩).val < n
  · have hp := pick_ranked hn hg hG hS hk hrem hv l
    constructor
    · rintro ⟨a, ha, e⟩
      by_cases hP : Picked rem l
      · rw [if_pos hP]
      · rw [if_neg hP]
        refine (hsel l hl).1 ⟨a, ?_, e⟩
        by_contra hlt
        have : a = ⟨k, hk⟩ := Fin.ext (by show a.val = k; omega)
        subst this
        exact hP (hp.mpr e.symm)
    · intro h
      rw [if_neg fun hP => h ⟨⟨k, hk⟩, Nat.lt_succ_self k, (hp.mp hP).symm⟩]
      exact (hsel l hl).2 fun ⟨a, ha, e⟩ => h ⟨a, by omega, e⟩
  · obtain ⟨a, ha, e⟩ := none_left hn hg hG hS hk hv l.val hl
    constructor
    · intro _
      split
      · rfl
      · exact (hsel l hl).1 ⟨a, ha, e⟩
    · intro h
      exact absurd ⟨a, by omega, e⟩ h

/-- After three rounds, the marked lanes before `n` are the first three of the ranking that lie before `n`. -/
theorem three_rounds {rem : Fin 128 → EReal} (hrem : ∀ l, rem l = if l.val < n then g l else ⊥) :
    Marked n S 3 (selNext (remNext (remNext rem)) (selNext (remNext rem) (selNext rem fun _ => 0))) := by
  have h0 : Left n g S 0 rem := fun l =>
    ⟨fun h => by rw [hrem, if_pos h.1], fun h => by
      rw [hrem, if_neg fun hl => h ⟨hl, fun a ha => absurd ha (Nat.not_lt_zero _)⟩]⟩
  have m0 : Marked n S 0 fun _ => 0 := fun l hl =>
    ⟨fun ⟨a, ha, _⟩ => absurd ha (Nat.not_lt_zero _), fun _ => rfl⟩
  have h1 := left_next hn hg hG hS (k := 0) (by omega) h0
  have h2 := left_next hn hg hG hS (k := 1) (by omega) h1
  have m1 := marked_next hn hg hG hS (k := 0) (by omega) h0 m0
  have m2 := marked_next hn hg hG hS (k := 1) (by omega) h1 m1
  exact marked_next hn hg hG hS (k := 2) (by omega) h2 m2

end rounds

/-! ## The sort of the reference -/

/-- "Greater" on gates, and the lower position among equals. -/
def firstBy (G : Fin 16 → EReal) (k k' : Fin 16) : Bool :=
  decide (G k' < G k) || (decide (G k = G k') && decide (k < k'))

theorem firstBy_total (G : Fin 16 → EReal) : StrictTotalBefore (firstBy G) :=
  StrictTotalBefore.of_key_then_position (fun a b : EReal => decide (b < a)) G (fun a => by simp)
    (fun a b c hab hbc => by
      simp only [decide_eq_true_eq] at *
      exact hbc.trans hab)
    (fun a b => by
      simp only [decide_eq_true_eq]
      rcases lt_trichotomy a b with h | h | h
      · exact Or.inr (Or.inr h)
      · exact Or.inr (Or.inl h)
      · exact Or.inl h)

/-- Insertion asks the order only about the elements of the list. -/
theorem insertBefore_congr {ι : Type} {B B' : ι → ι → Bool} (a : ι) (l : List ι) (h : ∀ b ∈ l, B b a = B' b a) :
    insertBefore B a l = insertBefore B' a l := by
  induction l with
  | nil => rfl
  | cons b l ih =>
    unfold insertBefore
    rw [h b List.mem_cons_self, ih fun c hc => h c (List.mem_cons_of_mem _ hc)]

/-- A stable sort of increasing positions by the key alone is the sort by key and then position. -/
theorem stableSort_key (G : Fin 16 → EReal) (l : List (Fin 16)) (hl : l.Pairwise (· < ·)) :
    stableSort (fun k k' => decide (G k' < G k)) l = stableSort (firstBy G) l := by
  induction l with
  | nil => rfl
  | cons a l ih =>
    rw [List.pairwise_cons] at hl
    unfold stableSort
    rw [ih hl.2]
    refine insertBefore_congr a _ fun b hb => ?_
    have hlt := hl.1 b ((perm_stableSort (firstBy G) l).mem_iff.mp hb)
    simp only [firstBy, decide_eq_false (not_lt.mpr hlt.le), Bool.and_false, Bool.or_false]

/-- The stable sort of sixteen gates, greatest first, is a ranking. -/
theorem ranked_sort (G : Fin 16 → EReal) : Ranked G (sortedFrom fun k k' => decide (G k' < G k)) where
  surj := sortedFrom_surjective _
  inj := sortedFrom_injective _
  ordered a b hab := by
    have hsame : sortedFrom (fun k k' => decide (G k' < G k)) = sortedFrom (firstBy G) := by
      have h : sortPositions 16 (fun k k' => decide (G k' < G k)) = sortPositions 16 (firstBy G) :=
        stableSort_key G _ (List.pairwise_lt_finRange 16)
      funext k
      unfold sortedFrom
      simp only [List.get_eq_getElem, h, Fin.val_cast]
    rw [hsame]
    have hB := firstBy_total G
    have h := sortedFrom_noInversion (firstBy G) (firstBy G) (fun a b h => hB.asymm a b h) (fun _ _ h => h) hB.negTrans
      a b hab
    have hne : sortedFrom (firstBy G) a ≠ sortedFrom (firstBy G) b := fun e =>
      absurd (sortedFrom_injective _ e) hab.ne
    rcases hB.total _ _ hne with h' | h'
    · simp only [firstBy, Bool.or_eq_true, Bool.and_eq_true, decide_eq_true_eq] at h'
      rcases h' with h' | ⟨h', h''⟩
      · exact Or.inl h'
      · exact Or.inr ⟨h'.symm, h''⟩
    · rw [h] at h'; exact absurd h' (by decide)

end Cert.Proof.Select
-- ==== Proof.Softmax.lean ====
/- The running softmax over the extended reals: folding the blocks of scores one after the other gives the softmax of
   all of them, and blocks that the mask puts at minus infinity count for nothing. -/
module

public import Idealize.ShloMosaic.PureOps.Ideal
public import Idealize.ShloMosaic.PureOps.Ideal.Laws

@[expose] public section

noncomputable section

open Idealize.ShloMosaic
open scoped BigOperators

namespace Cert.Proof.Softmax

theorem exp_bot : Ideal.exp ⊥ = 0 := rfl

theorem exp_nonneg (a : EReal) : 0 ≤ Ideal.exp a := by
  induction a using EReal.rec with
  | bot => exact le_refl _
  | top => exact le_top
  | coe r => exact EReal.coe_nonneg.2 (Real.exp_pos r).le

theorem exp_ne_top {a : EReal} (h : a ≠ ⊤) : Ideal.exp a ≠ ⊤ := by
  induction a using EReal.rec with
  | bot => exact EReal.zero_ne_top
  | top => exact absurd rfl h
  | coe r => exact EReal.coe_ne_top _

theorem bot_sub (a : EReal) : (⊥ : EReal) - a = ⊥ := by
  rw [sub_eq_add_neg, EReal.bot_add]

theorem sub_ne_top {a b : EReal} (h : a ≤ b) (hb : b ≠ ⊤) : a - b ≠ ⊤ := by
  induction b using EReal.rec with
  | top => exact absurd rfl hb
  | bot => rw [le_bot_iff.1 h, bot_sub]; exact bot_ne_top
  | coe r =>
    induction a using EReal.rec with
    | top => exact absurd h (not_le.2 (EReal.coe_lt_top r))
    | bot => rw [bot_sub]; exact bot_ne_top
    | coe s => rw [← EReal.coe_sub]; exact EReal.coe_ne_top _

/-- Rescaling a weight from one maximum to a later one. -/
theorem exp_rescale {a m m' : EReal} (h : a ≤ m) (h' : m ≤ m') (hm : m' ≠ ⊤) :
    Ideal.exp (m - m') * Ideal.exp (a - m) = Ideal.exp (a - m') := by
  induction a using EReal.rec with
  | top => exact absurd (top_le_iff.1 (h.trans h')) hm
  | bot => rw [bot_sub, bot_sub, exp_bot, mul_zero]
  | coe a =>
    induction m using EReal.rec with
    | top => exact absurd (top_le_iff.1 h') hm
    | bot => exact absurd h (not_le.2 (EReal.bot_lt_coe a))
    | coe m =>
      induction m' using EReal.rec with
      | top => exact absurd rfl hm
      | bot => exact absurd h' (not_le.2 (EReal.bot_lt_coe m))
      | coe m' =>
        rw [← EReal.coe_sub, ← EReal.coe_sub, ← EReal.coe_sub]
        show (Real.exp _ : EReal) * (Real.exp _ : EReal) = (Real.exp _ : EReal)
        rw [← EReal.coe_mul, ← Real.exp_add]
        congr 2
        ring

/-- A nonnegative finite factor goes inside a sum. -/
theorem mul_sum {ι : Type*} (s : Finset ι) (f : ι → EReal) {c : EReal} (hc : 0 ≤ c) (hc' : c ≠ ⊤) :
    c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top hc hc', ih]

/-- The largest score of the first `n` blocks. -/
def top (σ : ℕ → Fin 256 → EReal) (n : ℕ) : EReal := (Finset.range n).sup fun j => Finset.univ.sup (σ j)

/-- The total weight of the first `n` blocks against the maximum `M`. -/
def total (σ : ℕ → Fin 256 → EReal) (M : EReal) (n : ℕ) : EReal := ∑ j ∈ Finset.range n, ∑ s, Ideal.exp (σ j s - M)

/-- The weighted sum of the values of the first `n` blocks against the maximum `M`. -/
def value (σ v : ℕ → Fin 256 → EReal) (M : EReal) (n : ℕ) : EReal :=
  ∑ j ∈ Finset.range n, ∑ s, Ideal.exp (σ j s - M) * v j s

variable {σ v : ℕ → Fin 256 → EReal}

theorem sup_ne_top {ι : Type*} (s : Finset ι) (f : ι → EReal) (h : ∀ i ∈ s, f i ≠ ⊤) : s.sup f ≠ ⊤ := by
  have : s.sup f < ⊤ := (Finset.sup_lt_iff bot_lt_top).2 fun i hi => lt_top_iff_ne_top.2 (h i hi)
  exact this.ne

theorem top_ne_top (hσ : ∀ j s, σ j s ≠ ⊤) (n : ℕ) : top σ n ≠ ⊤ :=
  sup_ne_top _ _ fun j _ => sup_ne_top _ _ fun s _ => hσ j s

theorem le_top_of {n j : ℕ} (hj : j < n) (s : Fin 256) : σ j s ≤ top σ n :=
  (Finset.le_sup (f := σ j) (Finset.mem_univ s)).trans
    (Finset.le_sup (f := fun j => Finset.univ.sup (σ j)) (Finset.mem_range.2 hj))

theorem top_succ (n : ℕ) : top σ (n + 1) = max (top σ n) (Finset.univ.sup (σ n)) := by
  rw [top, Finset.range_add_one, Finset.sup_insert]
  exact max_comm _ _

theorem rescale_total (n : ℕ) {M : EReal} (h : top σ n ≤ M) (hM : M ≠ ⊤) :
    Ideal.exp (top σ n - M) * total σ (top σ n) n = total σ M n := by
  have e0 := exp_nonneg (top σ n - M)
  have e1 := exp_ne_top (sub_ne_top h hM)
  rw [total, total, mul_sum _ _ e0 e1]
  refine Finset.sum_congr rfl fun j hj => ?_
  rw [mul_sum _ _ e0 e1]
  exact Finset.sum_congr rfl fun s _ => exp_rescale (le_top_of (Finset.mem_range.1 hj) s) h hM

theorem rescale_value (n : ℕ) {M : EReal} (h : top σ n ≤ M) (hM : M ≠ ⊤) :
    Ideal.exp (top σ n - M) * value σ v (top σ n) n = value σ v M n := by
  have e0 := exp_nonneg (top σ n - M)
  have e1 := exp_ne_top (sub_ne_top h hM)
  rw [value, value, mul_sum _ _ e0 e1]
  refine Finset.sum_congr rfl fun j hj => ?_
  rw [mul_sum _ _ e0 e1]
  refine Finset.sum_congr rfl fun s _ => ?_
  rw [← mul_assoc, exp_rescale (le_top_of (Finset.mem_range.1 hj) s) h hM]

/-- One more block, for the total. -/
theorem total_succ (hσ : ∀ j s, σ j s ≠ ⊤) (n : ℕ) :
    Ideal.exp (top σ n - top σ (n + 1)) * total σ (top σ n) n + ∑ s, Ideal.exp (σ n s - top σ (n + 1))
      = total σ (top σ (n + 1)) (n + 1) := by
  rw [rescale_total n (by rw [top_succ]; exact le_max_left _ _) (top_ne_top hσ _)]
  exact (Finset.sum_range_succ _ n).symm

/-- One more block, for the weighted sum. -/
theorem value_succ (hσ : ∀ j s, σ j s ≠ ⊤) (n : ℕ) :
    Ideal.exp (top σ n - top σ (n + 1)) * value σ v (top σ n) n + ∑ s, Ideal.exp (σ n s - top σ (n + 1)) * v n s
      = value σ v (top σ (n + 1)) (n + 1) := by
  rw [rescale_value n (by rw [top_succ]; exact le_max_left _ _) (top_ne_top hσ _)]
  exact (Finset.sum_range_succ _ n).symm

/-! ## The blocks that a row keeps -/

variable {n : ℕ} {kept : ℕ → Prop} [DecidablePred kept] {S : Fin 3 → ℕ}

theorem sum_kept (hS : Function.Injective S) (hk : ∀ j < n, kept j ↔ ∃ a, S a = j) (f : ℕ → EReal) :
    ∑ j ∈ Finset.range n, (if kept j then f j else 0) = ∑ a : Fin 3, if S a < n then f (S a) else 0 := by
  rw [← Finset.sum_filter, ← Finset.sum_filter, ← Finset.sum_image (g := S) (f := f) (fun a _ b _ h => hS h)]
  refine Finset.sum_congr ?_ fun _ _ => rfl
  ext j
  simp only [Finset.mem_filter, Finset.mem_range, Finset.mem_image, Finset.mem_univ, true_and]
  constructor
  · rintro ⟨hj, hkj⟩
    obtain ⟨a, rfl⟩ := (hk j hj).1 hkj
    exact ⟨a, hj, rfl⟩
  · rintro ⟨a, ha, rfl⟩
    exact ⟨ha, (hk _ ha).2 ⟨a, rfl⟩⟩

theorem sup_kept (hk : ∀ j < n, kept j ↔ ∃ a, S a = j) (f : ℕ → EReal) :
    ((Finset.range n).sup fun j => if kept j then f j else ⊥) = Finset.univ.sup fun a : Fin 3 => if S a < n then f (S a) else ⊥ := by
  apply le_antisymm
  · refine Finset.sup_le fun j hj => ?_
    have hj := Finset.mem_range.1 hj
    by_cases hkj : kept j
    · obtain ⟨a, rfl⟩ := (hk j hj).1 hkj
      rw [if_pos hkj]
      refine le_trans ?_ (Finset.le_sup (Finset.mem_univ a))
      rw [if_pos hj]
    · rw [if_neg hkj]; exact bot_le
  · refine Finset.sup_le fun a _ => ?_
    by_cases ha : S a < n
    · rw [if_pos ha]
      refine le_trans ?_ (Finset.le_sup (Finset.mem_range.2 ha))
      rw [if_pos ((hk _ ha).2 ⟨a, rfl⟩)]
    · rw [if_neg ha]; exact bot_le

/-- The scores of the running softmax of a row: those of a kept block, minus infinity in the others, the row's own
    causal scores last. -/
def rowScores (n : ℕ) (kept : ℕ → Prop) [DecidablePred kept] (score : ℕ → Fin 256 → EReal) (own : Fin 256 → EReal) :
    ℕ → Fin 256 → EReal :=
  fun j s => if j < n then (if kept j then score j s else ⊥) else own s

/-- The scores of the three chosen blocks of a row, minus infinity where a chosen block does not come before the row's own. -/
def pickScores (n : ℕ) (S : Fin 3 → ℕ) (score : ℕ → Fin 256 → EReal) : Fin 3 → Fin 256 → EReal :=
  fun a s => if S a < n then score (S a) s else ⊥

/-- The largest score, by the chosen blocks. -/
def pickTop (n : ℕ) (S : Fin 3 → ℕ) (score : ℕ → Fin 256 → EReal) (own : Fin 256 → EReal) : EReal :=
  max (Finset.univ.sup fun a => Finset.univ.sup (pickScores n S score a)) (Finset.univ.sup own)

/-- The total weight, by the chosen blocks. -/
def pickTotal (n : ℕ) (S : Fin 3 → ℕ) (score : ℕ → Fin 256 → EReal) (own : Fin 256 → EReal) : EReal :=
  (∑ a, ∑ s, Ideal.exp (pickScores n S score a s - pickTop n S score own)) + ∑ s, Ideal.exp (own s - pickTop n S score own)

section
variable {score : ℕ → Fin 256 → EReal} {own : Fin 256 → EReal}

theorem rowScores_lt {j : ℕ} (hj : j < n) : rowScores n kept score own j = fun s => if kept j then score j s else ⊥ :=
  funext fun s => if_pos hj

theorem rowScores_own : rowScores n kept score own n = own := funext fun s => if_neg (lt_irrefl n)

theorem sup_bot' (P : Prop) [Decidable P] (f : Fin 256 → EReal) :
    (Finset.univ.sup fun s => if P then f s else ⊥) = if P then Finset.univ.sup f else ⊥ := by
  split
  · rfl
  · exact Finset.sup_bot _

theorem top_rows (hk : ∀ j < n, kept j ↔ ∃ a, S a = j) :
    top (rowScores n kept score own) (n + 1) = pickTop n S score own := by
  rw [top_succ, rowScores_own, pickTop]
  congr 1
  rw [top]
  rw [Finset.sup_congr rfl fun j hj => by rw [rowScores_lt (Finset.mem_range.1 hj), sup_bot'] ]
  rw [sup_kept (S := S) hk]
  exact Finset.sup_congr rfl fun a _ => (sup_bot' _ _).symm

theorem sum_zero (P : Prop) [Decidable P] (f : Fin 256 → EReal) (M : EReal) (w : Fin 256 → EReal) :
    (∑ s, Ideal.exp ((if P then f s else ⊥) - M) * w s) = if P then ∑ s, Ideal.exp (f s - M) * w s else 0 := by
  split
  · rfl
  · exact Finset.sum_eq_zero fun s _ => by rw [bot_sub, exp_bot, zero_mul]

theorem value_rows (hS : Function.Injective S) (hk : ∀ j < n, kept j ↔ ∃ a, S a = j) (M : EReal) :
    value (rowScores n kept score own) v M (n + 1)
      = (∑ a, ∑ s, Ideal.exp (pickScores n S score a s - M) * v (S a) s) + ∑ s, Ideal.exp (own s - M) * v n s := by
  rw [value, Finset.sum_range_succ, rowScores_own]
  congr 1
  rw [Finset.sum_congr rfl fun j hj => by rw [rowScores_lt (Finset.mem_range.1 hj), sum_zero] ]
  rw [sum_kept hS hk]
  exact Finset.sum_congr rfl fun a _ => (sum_zero _ _ _ _).symm

theorem total_eq_value (M : EReal) (n : ℕ) : total σ M n = value σ (fun _ _ => 1) M n := by
  simp only [total, value, mul_one]

theorem total_rows (hS : Function.Injective S) (hk : ∀ j < n, kept j ↔ ∃ a, S a = j) :
    total (rowScores n kept score own) (pickTop n S score own) (n + 1) = pickTotal n S score own := by
  rw [total_eq_value, value_rows hS hk, pickTotal]
  simp only [mul_one]

/-- The chosen blocks' total is a positive real when the scores are finite and some own score is not minus infinity. -/
theorem pickTotal_pos (hs : ∀ j s, score j s ≠ ⊤) (ho : ∀ s, own s ≠ ⊤) (t : Fin 256) (ht : own t ≠ ⊥) :
    0 < pickTotal n S score own ∧ pickTotal n S score own ≠ ⊤ := by
  have hp : ∀ a s, pickScores n S score a s ≠ ⊤ := fun a s => by
    unfold pickScores; split
    · exact hs _ _
    · exact bot_ne_top
  have hM : pickTop n S score own ≠ ⊤ := by
    rw [pickTop]
    have h1 := sup_ne_top Finset.univ (fun a => Finset.univ.sup (pickScores n S score a)) fun a _ => sup_ne_top _ _ fun s _ => hp a s
    have h2 := sup_ne_top Finset.univ own fun s _ => ho s
    rcases max_choice (Finset.univ.sup fun a => Finset.univ.sup (pickScores n S score a)) (Finset.univ.sup own) with h | h <;> rw [h]
    · exact h1
    · exact h2
  have lo : ∀ s, own s ≤ pickTop n S score own := fun s => (Finset.le_sup (Finset.mem_univ s)).trans (le_max_right _ _)
  have lp : ∀ a s, pickScores n S score a s ≤ pickTop n S score own := fun a s =>
    ((Finset.le_sup (f := pickScores n S score a) (Finset.mem_univ s)).trans
      (Finset.le_sup (f := fun a => Finset.univ.sup (pickScores n S score a)) (Finset.mem_univ a))).trans (le_max_left _ _)
  have fin : ∀ (f : Fin 256 → EReal), (∀ s, f s ≤ pickTop n S score own) → ∑ s, Ideal.exp (f s - pickTop n S score own) ≠ ⊤ := by
    intro f hf
    refine Finset.sum_induction _ (fun x => x ≠ ⊤) (fun a b ha hb => EReal.add_ne_top ha hb) EReal.zero_ne_top fun s _ => ?_
    exact exp_ne_top (sub_ne_top (hf s) hM)
  refine ⟨?_, ?_⟩
  · have h1 : 0 ≤ ∑ a, ∑ s, Ideal.exp (pickScores n S score a s - pickTop n S score own) :=
      Finset.sum_nonneg fun a _ => Finset.sum_nonneg fun s _ => exp_nonneg _
    have h2 : Ideal.exp (own t - pickTop n S score own) ≤ ∑ s, Ideal.exp (own s - pickTop n S score own) :=
      Finset.single_le_sum (f := fun s => Ideal.exp (own s - pickTop n S score own)) (fun s _ => exp_nonneg _) (Finset.mem_univ t)
    have h3 : 0 < Ideal.exp (own t - pickTop n S score own) := by
      have := lo t
      generalize pickTop n S score own = M at *
      generalize own t = o at *
      induction M using EReal.rec with
      | top => exact absurd rfl hM
      | bot => exact absurd (le_bot_iff.1 this) ht
      | coe M =>
        induction o using EReal.rec with
        | top => exact absurd this (not_le.2 (EReal.coe_lt_top M))
        | bot => exact absurd rfl ht
        | coe o => rw [← EReal.coe_sub]; exact EReal.coe_pos.2 (Real.exp_pos _)
    rw [pickTotal]
    calc (0 : EReal) < Ideal.exp (own t - pickTop n S score own) := h3
      _ ≤ 0 + ∑ s, Ideal.exp (own s - pickTop n S score own) := by rw [zero_add]; exact h2
      _ ≤ _ := by gcongr
  · rw [pickTotal]
    refine EReal.add_ne_top ?_ (fin own lo)
    refine Finset.sum_induction _ (fun x => x ≠ ⊤) (fun a b ha hb => EReal.add_ne_top ha hb) EReal.zero_ne_top fun a _ => ?_
    exact fin _ (lp a)

/-- A positive real divides a weighted sum weight by weight. -/
theorem div_sum {ι : Type*} (s : Finset ι) (e w : ι → EReal) {L : EReal} (h0 : 0 < L) :
    (∑ i ∈ s, e i * w i) * L⁻¹ = ∑ i ∈ s, Ideal.div (e i) L * w i := by
  have hL0 : (0 : EReal) ≤ L⁻¹ := EReal.inv_nonneg_of_nonneg h0.le
  have hL1 : L⁻¹ ≠ ⊤ := by
    induction L using EReal.rec with
    | top => rw [EReal.inv_top]; exact EReal.zero_ne_top
    | bot => exact absurd h0 (not_lt.2 bot_le)
    | coe r => rw [← EReal.coe_inv]; exact EReal.coe_ne_top _
  rw [mul_comm, mul_sum _ _ hL0 hL1]
  refine Finset.sum_congr rfl fun i _ => ?_
  rw [Ideal.div, if_neg h0.ne', mul_comm (e i) L⁻¹, mul_assoc]

/-- The running softmax of a row of attention is the softmax of the chosen blocks and the own block together. -/
theorem attention_row (hS : Function.Injective S) (hk : ∀ j < n, kept j ↔ ∃ a, S a = j)
    (hs : ∀ j s, score j s ≠ ⊤) (ho : ∀ s, own s ≠ ⊤) (t : Fin 256) (ht : own t ≠ ⊥) :
    Ideal.div (value (rowScores n kept score own) v (top (rowScores n kept score own) (n + 1)) (n + 1))
        (total (rowScores n kept score own) (top (rowScores n kept score own) (n + 1)) (n + 1))
      = (∑ a, ∑ s, Ideal.div (Ideal.exp (pickScores n S score a s - pickTop n S score own)) (pickTotal n S score own) * v (S a) s)
        + ∑ s, Ideal.div (Ideal.exp (own s - pickTop n S score own)) (pickTotal n S score own) * v n s := by
  obtain ⟨h0, h1⟩ := pickTotal_pos (n := n) (S := S) hs ho t ht
  rw [top_rows hk, total_rows hS hk, value_rows hS hk, Ideal.div, if_neg h0.ne']
  have hL0 : (0 : EReal) ≤ (pickTotal n S score own)⁻¹ := EReal.inv_nonneg_of_nonneg h0.le
  have hL1 : (pickTotal n S score own)⁻¹ ≠ ⊤ := by
    generalize pickTotal n S score own = L at *
    induction L using EReal.rec with
    | top => exact absurd rfl h1
    | bot => exact absurd h0 (not_lt.2 bot_le)
    | coe r => rw [← EReal.coe_inv]; exact EReal.coe_ne_top _
  rw [mul_comm, EReal.left_distrib_of_nonneg_of_ne_top hL0 hL1, mul_sum _ _ hL0 hL1]
  refine congrArg₂ (· + ·) (Finset.sum_congr rfl fun a _ => ?_) ?_
  · rw [mul_comm, div_sum _ _ _ h0]
  · rw [mul_comm, div_sum _ _ _ h0]

end

end Cert.Proof.Softmax

end
-- ==== Proof.Entries.lean ====
/- The entries of the block attention's vector steps, row by row. -/
module

public import proofs.«01_k».proof.Defs
public import proofs.«01_k».proof.Proof.Gen.MobaIdeal.Value
public import proofs.«01_k».proof.Proof.Step
public import proofs.«01_k».proof.Proof.Select
public import proofs.«01_k».proof.Proof.Softmax

@[expose] public section

set_option maxRecDepth 16384

noncomputable section

open Idealize.ShloMosaic Idealize.ShloMosaic.TcCoe Idealize.SL.Sem
open scoped BigOperators

namespace Cert.Proof.Moba

open Cert.MobaIdeal Cert.MobaIdeal.Gen Cert.Proof.Select

/-! ## The constants -/

theorem bits_bot : Ideal.ofBits .f32 4286578688#32 = ⊥ := by simp [Ideal.ofBits, Ideal.ieee]

theorem bits_top : Ideal.ofBits .f32 2139095040#32 = ⊤ := by simp [Ideal.ofBits, Ideal.ieee]

theorem bits_width : Ideal.ofBits .f32 1124073472#32 = ((128 : ℝ) : EReal) := by
  simp [Ideal.ofBits, Ideal.ieee]
  exact (EReal.coe_mul _ _).symm.trans (congrArg _ (by norm_num))

theorem mask_bot : (Named.named κ "mask" 4048155338#32 : Ideal .f32) = (⊥ : EReal) :=
  IdealRules.named_const.ideal_named_scalar _ _ _ _ rfl

theorem number_lane (l : Fin 128) : FloatOps.sitofp (F := Ideal) .f32 (BitVec.ofNat 32 l.val) = lane l := by
  show ((((BitVec.ofNat 32 l.val).toInt : ℤ) : ℝ) : EReal) = lane l
  unfold lane
  have h : (BitVec.ofNat 32 l.val).toInt = (l.val : ℤ) := by
    revert l
    decide
  rw [h]

theorem fold_max_sup {ι : Type} [Fintype ι] (f : ι → EReal) :
    Finset.fold max ⊥ f Finset.univ = Finset.univ.sup f := rfl

/-! ## The choice of blocks -/

/-- A row of gates. -/
def row (x : FVec Ideal S256x128 .f32) (r : Fin 256) : Fin 128 → EReal := fun l => x (ix2 r l)

theorem firstMax_entry (rem : FVec Ideal S256x128 .f32) (r : Fin 256) (l : Fin 128) :
    firstMax rem (ix2 r l) = 1#1 ↔ Picked (row rem r) l := by
  have h : firstMax rem (ix2 r l) = BitVec.ofBool (decide (FloatOps.sitofp (F := Ideal) .f32 (BitVec.ofNat 32 l.val)
      = Finset.fold min (Ideal.ofBits .f32 2139095040#32) (fun x : Fin 128 =>
        if rem (ix2 r x) = Finset.fold max (Ideal.ofBits .f32 4286578688#32) (fun x => rem (ix2 r x)) Finset.univ
        then FloatOps.sitofp (F := Ideal) .f32 (BitVec.ofNat 32 x.val) else Ideal.ofBits .f32 1124073472#32) Finset.univ)) := by
    pointwise [firstMax, k0_pay10]
  rw [h]
  simp only [bits_bot, bits_top, bits_width, number_lane]
  unfold Picked row
  by_cases hp : lane l = Finset.fold min ⊤ (fun x : Fin 128 =>
        if rem (ix2 r x) = Finset.fold max ⊥ (fun x => rem (ix2 r x)) Finset.univ
        then lane x else ((128 : ℝ) : EReal)) Finset.univ
  · simp [hp]
  · simp [hp]

theorem without_row (rem : FVec Ideal S256x128 .f32) (r : Fin 256) : row (without rem) r = remNext (row rem r) := by
  funext l
  have h : without rem (ix2 r l)
      = Scalar.select (firstMax rem (ix2 r l)) (Ideal.ofBits .f32 4286578688#32) (rem (ix2 r l)) := by
    pointwise [without]
  unfold remNext
  show without rem (ix2 r l) = _
  rw [h, bits_bot]
  exact @if_congr _ _ _ _ (Classical.propDecidable _) _ _ _ _ (firstMax_entry rem r l) rfl rfl

theorem withPick_row (rem sel : FVec Ideal S256x128 .f32) (r : Fin 256) :
    row (withPick rem sel) r = selNext (row rem r) (row sel r) := by
  funext l
  have h : withPick rem sel (ix2 r l) = Scalar.select (firstMax rem (ix2 r l)) 1 (sel (ix2 r l)) := by
    pointwise [withPick]
  unfold selNext
  show withPick rem sel (ix2 r l) = _
  rw [h]
  exact @if_congr _ _ _ _ (Classical.propDecidable _) _ _ _ _ (firstMax_entry rem r l) rfl rfl

theorem block_toInt : ∀ n : Fin 16, (BitVec.ofNat 32 n.val).toInt = (n.val : ℤ) := by decide

theorem lane_lt (l : Fin 128) (n : Fin 16) :
    lane l < ((((BitVec.ofNat 32 n.val).toInt : ℤ) : ℝ) : EReal) ↔ l.val < n.val := by
  rw [block_toInt]
  unfold lane
  rw [EReal.coe_lt_coe_iff, Int.cast_lt]
  omega

theorem gates_row (i : grid0.Coords) (q : FVec Ideal S256x128 .bf16) (km : FVec Ideal S128x128 .bf16) (r : Fin 256) (l : Fin 128) :
    row (gates (k0_pay11 (F := Ideal) i) q km) r l
      = if l.val < (i 1).val then ∑ e : Fin 128, q (ix2 r e) * km (ix2 l e) else ⊥ := by
  have h : gates (k0_pay11 (F := Ideal) i) q km (ix2 r l)
      = if FloatOps.sitofp (F := Ideal) .f32 (BitVec.ofNat 32 l.val) < ((((BitVec.ofNat 32 (i 1).val).toInt : ℤ) : ℝ) : EReal)
        then ∑ e : Fin 128, q (ix2 r e) * km (ix2 l e) else Ideal.ofBits .f32 4286578688#32 := by
    pointwise [gates, k0_pay11, k0_pay10]
  show gates (k0_pay11 (F := Ideal) i) q km (ix2 r l) = _
  rw [h, bits_bot, number_lane]
  exact if_congr (lane_lt l (i 1)) rfl rfl

theorem chosen_row (i : grid0.Coords) (rem : FVec Ideal S256x128 .f32) (r : Fin 256) (l : Fin 128) :
    row (chosen (k0_pay11 (F := Ideal) i) rem) r l
      = if l.val < (i 1).val then
          selNext (remNext (remNext (row rem r))) (selNext (remNext (row rem r)) (selNext (row rem r) fun _ => 0)) l
        else 0 := by
  have h : chosen (k0_pay11 (F := Ideal) i) rem (ix2 r l)
      = if FloatOps.sitofp (F := Ideal) .f32 (BitVec.ofNat 32 l.val) < ((((BitVec.ofNat 32 (i 1).val).toInt : ℤ) : ℝ) : EReal)
        then row (withPick (without (without rem)) (withPick (without rem) (withPick rem (broadcast S256x128 (0 : EReal))))) r l else 0 := by
    unfold row
    pointwise [chosen, k0_pay11, k0_pay10]
  show chosen (k0_pay11 (F := Ideal) i) rem (ix2 r l) = _
  rw [h, number_lane, withPick_row, withPick_row, withPick_row, without_row, without_row]
  exact if_congr (lane_lt l (i 1)) rfl rfl

/-! ## One scores block -/

theorem lane_eq (x : Fin 128) (j : Fin 16) : BitVec.ofNat 32 x.val = BitVec.ofNat 32 j.val ↔ x.val = j.val := by
  constructor
  · intro h
    have := congrArg BitVec.toNat h
    simp only [BitVec.toNat_ofNat] at this
    omega
  · intro h; rw [h]

/-- The bias of block `j`: nothing where the row's marks include lane `j`, minus infinity where they do not. -/
theorem biasOf_entry (sel : FVec Ideal S256x128 .f32) (j : Fin 16) (r s : Fin 256) :
    biasOf (iota .tc S256x128 32 [1] iota_S256x128_d1_w32) sel (BitVec.ofNat 32 j.val) (ix2 r s)
      = if 0 < row sel r (wide j) then 0 else ⊥ := by
  have h : biasOf (iota .tc S256x128 32 [1] iota_S256x128_d1_w32) sel (BitVec.ofNat 32 j.val) (ix2 r s)
      = if 0 < Finset.fold max (Ideal.ofBits .f32 4286578688#32) (fun x : Fin 128 => Scalar.select
            (IntOp.cmpi .eq (BitVec.ofNat 32 x.val) (BitVec.ofNat 32 j.val)) (sel (ix2 r x)) 0) Finset.univ
        then 0 else Named.named κ "mask" 4048155338#32 := by
    pointwise [biasOf]
  rw [h, mask_bot, bits_bot]
  have hs : ∀ x : Fin 128, Scalar.select (IntOp.cmpi .eq (BitVec.ofNat 32 x.val) (BitVec.ofNat 32 j.val)) (sel (ix2 r x)) 0
      = if x.val = j.val then row sel r x else 0 := by
    intro x
    unfold Scalar.select
    refine if_congr ?_ rfl rfl
    rw [← lane_eq x j]
    by_cases e : BitVec.ofNat 32 x.val = BitVec.ofNat 32 j.val
    · simp [IntOp.cmpi, e]
    · simp [IntOp.cmpi, e, beq_false_of_ne e]
  simp only [hs]
  refine if_congr ?_ rfl rfl
  rw [Finset.lt_fold_max]
  constructor
  · rintro (h | ⟨x, -, hx⟩)
    · exact absurd h not_lt_bot
    · by_cases e : x.val = j.val
      · rw [if_pos e] at hx
        have : x = wide j := Fin.ext e
        rwa [← this]
      · rw [if_neg e] at hx; exact absurd hx (lt_irrefl _)
  · intro h
    refine Or.inr ⟨wide j, Finset.mem_univ _, ?_⟩
    rwa [if_pos (show (wide j).val = j.val from rfl)]

theorem scoresOf_entry (q k : FVec Ideal S256x128 .bf16) (b : FVec Ideal S256x256 .f32) (r s : Fin 256) :
    scoresOf q k b (ix2 r s) = ∑ x : Fin 128, q (ix2 r x) * k (ix2 s x) + b (ix2 r s) := by
  pointwise [scoresOf]

theorem own_bias (r s : Fin 256) : k0_pay8 (F := Ideal) (ix2 r s) = if s ≤ r then 0 else ⊥ := by
  have h : k0_pay8 (F := Ideal) (ix2 r s) = Scalar.select (IntOp.cmpi .sle (BitVec.ofNat 32 s.val) (BitVec.ofNat 32 r.val)) 0
      (Named.named κ "mask" 4048155338#32) := by
    pointwise [k0_pay8]
  rw [h, mask_bot]
  unfold Scalar.select
  refine if_congr ?_ rfl rfl
  have hv : ∀ x : Fin 256, (BitVec.ofNat 32 x.val).toInt = (x.val : ℤ) := by decide
  by_cases e : s ≤ r
  · simp [IntOp.cmpi, BitVec.sle, hv, e, Fin.le_def.mp e]
  · simp [IntOp.cmpi, BitVec.sle, hv, e, show ¬ s.val ≤ r.val from e]

variable (s : FVec Ideal S256x256 .f32) (m l : FVec Ideal S256x1 .f32) (r : Fin 256)

theorem newMax_entry : newMax s m (ix2 r 0) = max (m (ix2 r 0)) (Finset.univ.sup fun x : Fin 256 => s (ix2 r x)) := by
  have h : newMax s m (ix2 r 0)
      = max (m (ix2 r 0)) (Finset.fold max (Ideal.ofBits .f32 4286578688#32) (fun x : Fin 256 => s (ix2 r x)) Finset.univ) := by
    pointwise [newMax]
  rw [h, bits_bot]
  rfl

theorem newSum_entry : newSum s m l (ix2 r 0)
    = Ideal.exp (m (ix2 r 0) - newMax s m (ix2 r 0)) * l (ix2 r 0)
      + ∑ x : Fin 256, Ideal.exp (s (ix2 r x) - newMax s m (ix2 r 0)) := by
  pointwise [newSum, weights]

theorem newAcc_entry (acc : FVec Ideal S256x128 .f32) (v : FVec Ideal S256x128 .bf16) (d : Fin 128) :
    newAcc s m acc v (ix2 r d)
      = Ideal.exp (m (ix2 r 0) - newMax s m (ix2 r 0)) * acc (ix2 r d)
        + ∑ x : Fin 256, Ideal.exp (s (ix2 r x) - newMax s m (ix2 r 0)) * v (ix2 x d) := by
  pointwise [newAcc, weights]

theorem gated_entry (acc z : FVec Ideal S256x128 .f32) (d : Fin 128) :
    gated l acc z (ix2 r d)
      = Ideal.div (acc (ix2 r d)) (l (ix2 r 0)) * (z (ix2 r d) * Ideal.logistic (z (ix2 r d))) := by
  pointwise [gated]

theorem start_max : k0_pay18 (F := Ideal) (ix2 r 0) = ⊥ := by
  have h : k0_pay18 (F := Ideal) (ix2 r 0) = Named.named κ "mask" 4048155338#32 := by pointwise [k0_pay18]
  rw [h, mask_bot]

theorem start_sum : k0_pay19 (F := Ideal) (ix2 r 0) = 0 := by pointwise [k0_pay19]

theorem start_acc (d : Fin 128) : k0_pay20 (F := Ideal) (ix2 r d) = 0 := by pointwise [k0_pay20]

theorem mean_entry (v7 : Vec Ideal S1x128x128 .f32) (e d : Fin 128) : k0_pay9 (F := Ideal) v7 (ix2 e d) = v7 (ix3 0 e d) := by
  pointwise [k0_pay9]

end Cert.Proof.Moba

end
-- ==== Proof.Trip.lean ====
/- What the loops over the blocks do to the running softmax, trip by trip. -/
module

public import proofs.«01_k».proof.Defs
public import proofs.«01_k».proof.Proof.Gen.MobaIdeal.Value
public import proofs.«01_k».proof.Proof.Step

@[expose] public section

set_option maxRecDepth 16384

noncomputable section

open Idealize.ShloMosaic Idealize.ShloMosaic.TcCoe Idealize.SL.Sem
open scoped BigOperators

namespace Cert.Proof.Moba

open Cert.MobaIdeal Cert.MobaIdeal.Gen

/-- The running softmax of a tile of queries: the maximum, the total weight and the weighted sum of the values. -/
abbrev Running : Type := FVec Ideal S256x1 .f32 × FVec Ideal S256x1 .f32 × FVec Ideal S256x128 .f32

/-- One scores block folded into the running softmax. -/
def fold (s : FVec Ideal S256x256 .f32) (v : FVec Ideal S256x128 .bf16) (st : Running) : Running :=
  (newMax s st.1, newSum s st.1 st.2.1, newAcc s st.1 st.2.2 v)

/-- Lane numbers. -/
abbrev lanes : IVec S256x128 32 := iota .tc S256x128 32 [1] iota_S256x128_d1_w32

/-- Block `k` of a batch's keys or values. -/
def blockOf (X : FVec Ideal S4096x128 .bf16) (k : Fin 16) : FVec Ideal S256x128 .bf16 :=
  fun x => X (ix2 ⟨256 * k.val + (x 0).val, by have h : (x 0).val < 256 := (x 0).isLt; omega⟩ (x 1))

/-- The running softmax after the first `n` blocks. -/
def after (q : FVec Ideal S256x128 .bf16) (sel : FVec Ideal S256x128 .f32) (K V : FVec Ideal S4096x128 .bf16) : ℕ → Running
  | 0 => (k0_pay18 (F := Ideal), k0_pay19 (F := Ideal), k0_pay20 (F := Ideal))
  | n + 1 => if h : n < 16 then
      fold (scoresOf q (blockOf K ⟨n, h⟩) (biasOf lanes sel (BitVec.ofNat 32 n))) (blockOf V ⟨n, h⟩) (after q sel K V n)
    else after q sel K V n

theorem after_succ (q : FVec Ideal S256x128 .bf16) (sel : FVec Ideal S256x128 .f32) (K V : FVec Ideal S4096x128 .bf16)
    (n : ℕ) (h : n < 16) : after q sel K V (n + 1)
      = fold (scoresOf q (blockOf K ⟨n, h⟩) (biasOf lanes sel (BitVec.ofNat 32 n))) (blockOf V ⟨n, h⟩) (after q sel K V n) := by
  rw [after, dif_pos h]

theorem trips_one (i : grid0.Coords) : (k0_t1_loop i).trips = (i 1).val := by
  have h : ∀ n : Fin 16, Scf.trips 0#32 (Scalar.addi 0#32 (Scalar.muli (Scalar.divsi (Scalar.subi (BitVec.ofNat 32 n.val) 0#32) 1#32) 1#32)) 1#32
      = n.val := by decide
  exact h (i 1)

theorem trips_three (i : grid0.Coords) : (k0_t3_loop i).trips = (i 1).val := by
  have h : ∀ n : Fin 16, Scf.trips 0#32 (Scalar.addi 0#32 (Scalar.muli (Scalar.divsi (Scalar.subi (BitVec.ofNat 32 n.val) 0#32) 1#32) 1#32)) 1#32
      = n.val := by decide
  exact h (i 1)

theorem iv_eq (n : ℕ) : Scf.iv 0#32 1#32 n = BitVec.ofNat 32 n := by
  unfold Scf.iv
  simp

/-- The state of the first loop after one more trip. -/
theorem trip_first (𝒱 : Variants) (c : Dev nD) (bd : Option 𝒱.V) (i : grid0.Coords) (arg3 : Memref sig .tc .vmem S256x256 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x128x128 .f32) (harg6 : arg6.IsWhole) (arg7 : Memref sig .tc .vmem S256x256 .f32) (harg7 : arg7.IsWhole) (arg8 : Memref sig .tc .vmem S256x256 .bf16) (harg8 : arg8.IsWhole) (arg1 : BitVec 32) (v0 : IVec S256x128 32) (v6 : FVec Ideal S256x256 .f32) (v10 : Vec Ideal S256x128 .bf16) (v13 : FVec Ideal S256x128 .f32) (v16 : IVec S256x128 1) (v31 v33 v39 : FVec Ideal S256x128 .f32)
    (X4 : BufTy.Contents (Elt Ideal) arg4.view.ty) (X5 : BufTy.Contents (Elt Ideal) arg5.view.ty) (k : Fin (k0_t1_loop i).trips) (st : Running) :
    tripR_k0_t1 (F := Ideal) 𝒱 c bd i arg3 harg3 arg4 harg4 arg5 harg5 arg6 harg6 arg7 harg7 arg8 harg8 arg1 v0 v6 v10 v13 v16 v31 v33 v39 X4 X5 k st
      = fold (scoresOf v10 (View.ld (arg4.view.read (Elt Ideal) X4) (Rect.unit (k0_off1 i k) ![256, 128] (k0_off1_inb i k)))
          (biasOf v0 (k0_pay17 v13 v16 v31 v33 v39) (Scf.iv 0#32 1#32 k)))
        (View.ld (arg5.view.read (Elt Ideal) X5) (Rect.unit (k0_off1 i k) ![256, 128] (k0_off1_inb i k))) st := by
  unfold tripR_k0_t1
  delta trip_k0_t1
  dsimp only
  rfl

/-- The state of the second head's loop after one more trip. -/
theorem trip_second (𝒱 : Variants) (c : Dev nD) (bd : Option 𝒱.V) (i : grid0.Coords) (arg3 : Memref sig .tc .vmem S256x256 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x128x128 .f32) (harg6 : arg6.IsWhole) (arg7 : Memref sig .tc .vmem S256x256 .f32) (harg7 : arg7.IsWhole) (arg8 : Memref sig .tc .vmem S256x256 .bf16) (harg8 : arg8.IsWhole) (arg1 : BitVec 32) (v0 : IVec S256x128 32) (v105 : Vec Ideal S256x128 .bf16) (v108 : FVec Ideal S256x128 .f32) (v111 : IVec S256x128 1) (v113 v114 : FVec Ideal S256x128 .f32) (v124 : IVec S256x128 1)
    (X4 : BufTy.Contents (Elt Ideal) arg4.view.ty) (X5 : BufTy.Contents (Elt Ideal) arg5.view.ty) (k : Fin (k0_t3_loop i).trips) (st : Running) :
    tripR_k0_t3 (F := Ideal) 𝒱 c bd i arg3 harg3 arg4 harg4 arg5 harg5 arg6 harg6 arg7 harg7 arg8 harg8 arg1 v0 v105 v108 v111 v113 v114 v124 X4 X5 k st
      = fold (scoresOf v105 (View.ld (arg4.view.read (Elt Ideal) X4) (Rect.unit (k0_off4 i k) ![256, 128] (k0_off4_inb i k)))
          (biasOf v0 (k0_pay40 v108 v111 v113 v114 v124) (Scf.iv 0#32 1#32 k)))
        (View.ld (arg5.view.read (Elt Ideal) X5) (Rect.unit (k0_off4 i k) ![256, 128] (k0_off4_inb i k))) st := by
  unfold tripR_k0_t3
  delta trip_k0_t3
  dsimp only
  rfl

/-- Loading 256 rows from row `256 k` on is taking block `k`. -/
theorem load_block (X : FVec Ideal S4096x128 .bf16) (off : Fin 2 → ℕ) (k : Fin 16) (ho : off = ![256 * k.val, 0])
    (hf : ∀ a, off a + S256x128.size a ≤ S4096x128.size a) :
    View.ld (Val := Elt Ideal) (S := S4096x128) (e' := .bf16) X (Rect.unit (s := S4096x128) off ![256, 128] hf) = blockOf X k := by
  subst ho
  funext x
  refine congrArg X (funext fun a => Fin.ext ?_)
  match a with
  | ⟨0, _⟩ =>
    show 256 * k.val + 1 * (x 0).val = 256 * k.val + (x 0).val
    rw [Nat.one_mul]
  | ⟨1, _⟩ =>
    show 0 + 1 * (x 1).val = (x 1).val
    rw [Nat.one_mul, Nat.zero_add]

/-- Block `k` as a trip reads it, of a buffer holding `X`. -/
theorem read_block (arg : Memref sig .tc .vmem S4096x128 .bf16) (harg : arg.IsWhole) (X : FVec Ideal S4096x128 .bf16)
    (off : Fin 2 → ℕ) (k : Fin 16) (ho : off = ![256 * k.val, 0])
    (hf : ∀ a, off a + S256x128.size a ≤ S4096x128.size a) :
    View.ld (Val := Elt Ideal) (S := S4096x128) (e' := .bf16) (arg.view.read (Elt Ideal) (harg.unread X))
      (Rect.unit (s := S4096x128) off ![256, 128] hf) = blockOf X k := by
  have e : arg.view.read (Elt Ideal) (harg.unread X) = X := Memref.IsWhole.read_unread (Val := Elt Ideal) harg X
  rw [e]
  exact load_block X off k ho hf

/-- The first head's loop folds the blocks one after the other. -/
theorem state_first (𝒱 : Variants) (c : Dev nD) (bd : Option 𝒱.V) (i : grid0.Coords) (arg3 : Memref sig .tc .vmem S256x256 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x128x128 .f32) (harg6 : arg6.IsWhole) (arg7 : Memref sig .tc .vmem S256x256 .f32) (harg7 : arg7.IsWhole) (arg8 : Memref sig .tc .vmem S256x256 .bf16) (harg8 : arg8.IsWhole) (arg1 : BitVec 32) (v0 : IVec S256x128 32) (v6 : FVec Ideal S256x256 .f32) (v10 : Vec Ideal S256x128 .bf16) (v13 : FVec Ideal S256x128 .f32) (v16 : IVec S256x128 1) (v31 v33 v39 : FVec Ideal S256x128 .f32)
    (K V : FVec Ideal S4096x128 .bf16) (n : ℕ) (hn : n ≤ (i 1).val) :
    st_k0_t1 (F := Ideal) 𝒱 c bd i arg3 harg3 arg4 harg4 arg5 harg5 arg6 harg6 arg7 harg7 arg8 harg8 arg1 lanes v6 v10 v13 v16 v31 v33 v39
        (harg4.unread K) (harg5.unread V) (k0_pay18 (F := Ideal), k0_pay19 (F := Ideal), k0_pay20 (F := Ideal)) n
      = after v10 (k0_pay17 v13 v16 v31 v33 v39) K V n := by
  induction n with
  | zero => rw [st_k0_t1_zero]; rfl
  | succ n ih =>
    have hi : (i 1).val < 16 := (i 1).isLt
    have h : n < (k0_t1_loop i).trips := by rw [trips_one]; omega
    rw [st_k0_t1_succ 𝒱 c bd i arg3 harg3 arg4 harg4 arg5 harg5 arg6 harg6 arg7 harg7 arg8 harg8 arg1 lanes v6 v10 v13 v16 v31 v33 v39 _ _ _ ⟨n, h⟩,
      trip_first, ih (by omega), iv_eq,
      read_block arg4 harg4 K _ ⟨n, by omega⟩ (k0_off1_eq i ⟨n, h⟩), read_block arg5 harg5 V _ ⟨n, by omega⟩ (k0_off1_eq i ⟨n, h⟩)]
    exact (after_succ _ _ _ _ n (by omega)).symm

/-- The second head's loop folds the blocks one after the other. -/
theorem state_second (𝒱 : Variants) (c : Dev nD) (bd : Option 𝒱.V) (i : grid0.Coords) (arg3 : Memref sig .tc .vmem S256x256 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x128x128 .f32) (harg6 : arg6.IsWhole) (arg7 : Memref sig .tc .vmem S256x256 .f32) (harg7 : arg7.IsWhole) (arg8 : Memref sig .tc .vmem S256x256 .bf16) (harg8 : arg8.IsWhole) (arg1 : BitVec 32) (v0 : IVec S256x128 32) (v105 : Vec Ideal S256x128 .bf16) (v108 : FVec Ideal S256x128 .f32) (v111 : IVec S256x128 1) (v113 v114 : FVec Ideal S256x128 .f32) (v124 : IVec S256x128 1)
    (K V : FVec Ideal S4096x128 .bf16) (n : ℕ) (hn : n ≤ (i 1).val) :
    st_k0_t3 (F := Ideal) 𝒱 c bd i arg3 harg3 arg4 harg4 arg5 harg5 arg6 harg6 arg7 harg7 arg8 harg8 arg1 lanes v105 v108 v111 v113 v114 v124
        (harg4.unread K) (harg5.unread V) (k0_pay18 (F := Ideal), k0_pay19 (F := Ideal), k0_pay20 (F := Ideal)) n
      = after v105 (k0_pay40 v108 v111 v113 v114 v124) K V n := by
  induction n with
  | zero => rw [st_k0_t3_zero]; rfl
  | succ n ih =>
    have hi : (i 1).val < 16 := (i 1).isLt
    have h : n < (k0_t3_loop i).trips := by rw [trips_three]; omega
    rw [st_k0_t3_succ 𝒱 c bd i arg3 harg3 arg4 harg4 arg5 harg5 arg6 harg6 arg7 harg7 arg8 harg8 arg1 lanes v105 v108 v111 v113 v114 v124 _ _ _ ⟨n, h⟩,
      trip_second, ih (by omega), iv_eq,
      read_block arg4 harg4 K _ ⟨n, by omega⟩ (k0_off4_eq i ⟨n, h⟩), read_block arg5 harg5 V _ ⟨n, by omega⟩ (k0_off4_eq i ⟨n, h⟩)]
    exact (after_succ _ _ _ _ n (by omega)).symm

end Cert.Proof.Moba

end
-- ==== Proof.Running.lean ====
/- One row of a tile of queries, followed through the blocks: the kernel's result tile, entry by entry, is the softmax
   over the chosen blocks and the row's own block. -/
module

public import proofs.«01_k».proof.Defs
public import proofs.«01_k».proof.Proof.Gen.MobaIdeal.Value
public import proofs.«01_k».proof.Proof.Entries
public import proofs.«01_k».proof.Proof.Trip

@[expose] public section

set_option maxRecDepth 16384

noncomputable section

open Idealize.ShloMosaic Idealize.ShloMosaic.TcCoe Idealize.SL.Sem
open scoped BigOperators

namespace Cert.Proof.Moba

open Cert.MobaIdeal Cert.MobaIdeal.Gen Cert.Proof.Select Cert.Proof.Softmax

/-! ## Finite numbers -/

/-- A number that is neither infinity. -/
def Real' (x : EReal) : Prop := x ≠ ⊤ ∧ x ≠ ⊥

theorem real_mul {a b : EReal} (ha : Real' a) (hb : Real' b) : Real' (a * b) := by
  induction a using EReal.rec with
  | top => exact absurd rfl ha.1
  | bot => exact absurd rfl ha.2
  | coe x =>
    induction b using EReal.rec with
    | top => exact absurd rfl hb.1
    | bot => exact absurd rfl hb.2
    | coe y => rw [← EReal.coe_mul]; exact ⟨EReal.coe_ne_top _, EReal.coe_ne_bot _⟩

theorem real_add {a b : EReal} (ha : Real' a) (hb : Real' b) : Real' (a + b) :=
  ⟨EReal.add_ne_top ha.1 hb.1, fun h => (EReal.add_eq_bot_iff.mp h).elim ha.2 hb.2⟩

theorem real_dot {n : ℕ} {a b : Fin n → EReal} (ha : ∀ e, Real' (a e)) (hb : ∀ e, Real' (b e)) : Real' (∑ e, a e * b e) :=
  Finset.sum_induction _ Real' (fun _ _ => real_add) ⟨EReal.zero_ne_top, EReal.zero_ne_bot⟩
    fun e _ => real_mul (ha e) (hb e)

/-! ## The running softmax of a row -/

/-- The row `r` of a running softmax, told by the scores `σ` and values `v` of the first `k` blocks. -/
def Matches (σ : ℕ → Fin 256 → EReal) (v : Fin 128 → ℕ → Fin 256 → EReal) (r : Fin 256) (k : ℕ) (st : Running) : Prop :=
  st.1 (ix2 r 0) = top σ k ∧ st.2.1 (ix2 r 0) = total σ (top σ k) k ∧
    ∀ d, st.2.2 (ix2 r d) = value σ (v d) (top σ k) k

theorem fold_matches {σ : ℕ → Fin 256 → EReal} {v : Fin 128 → ℕ → Fin 256 → EReal} {r : Fin 256} {k : ℕ} {st : Running}
    (hσ : ∀ j s, σ j s ≠ ⊤) {s : FVec Ideal S256x256 .f32} {vb : FVec Ideal S256x128 .bf16}
    (hs : ∀ x, s (ix2 r x) = σ k x) (hv : ∀ x d, vb (ix2 x d) = v d k x) (h : Matches σ v r k st) :
    Matches σ v r (k + 1) (fold s vb st) := by
  obtain ⟨h1, h2, h3⟩ := h
  have hm : newMax s st.1 (ix2 r 0) = top σ (k + 1) := by
    rw [newMax_entry, h1, top_succ]
    simp only [hs]
  refine ⟨hm, ?_, fun d => ?_⟩
  · show newSum s st.1 st.2.1 (ix2 r 0) = _
    rw [newSum_entry, hm, h1, h2, ← total_succ hσ]
    simp only [hs]
  · show newAcc s st.1 st.2.2 vb (ix2 r d) = _
    rw [newAcc_entry, hm, h1, h3, ← value_succ (v := v d) hσ]
    simp only [hs, hv]

section
variable (i : grid0.Coords) (q : FVec Ideal S256x128 .bf16) (km : FVec Ideal S128x128 .bf16)
  (K V : FVec Ideal S4096x128 .bf16) (r : Fin 256)

/-- The score of a row against key `s` of block `j`. -/
def score (j : ℕ) (s : Fin 256) : EReal :=
  if h : j < 16 then ∑ e : Fin 128, q (ix2 r e) * K (ix2 ⟨256 * j + s.val, by omega⟩ e) else 0

/-- The value of key `s` of block `j`, at column `d`. -/
def val (d : Fin 128) (j : ℕ) (s : Fin 256) : EReal :=
  if h : j < 16 then V (ix2 ⟨256 * j + s.val, by omega⟩ d) else 0

/-- The scores of a row against its own block: minus infinity past the row. -/
def ownScore (n : ℕ) (s : Fin 256) : EReal := if s ≤ r then score q K r n s else ⊥

/-- The gate of block `j`. -/
def gate (n : ℕ) (j : Fin 16) : EReal :=
  if j.val < n then ∑ e : Fin 128, q (ix2 r e) * km (ix2 (wide j) e) else ⊥

/-- The blocks as the reference ranks them. -/
def rank (n : ℕ) : Fin 16 → Fin 16 := sortedFrom fun k k' => decide (gate q km r n k' < gate q km r n k)

/-- The first three blocks of the ranking. -/
def pick (n : ℕ) (a : Fin 3) : ℕ := (rank q km r n ⟨a.val, by omega⟩).val

theorem pick_injective (n : ℕ) : Function.Injective (pick q km r n) := fun a b h => by
  have := (ranked_sort (gate q km r n)).inj (Fin.ext h)
  have := congrArg Fin.val this
  exact Fin.ext this

/-- The marks of a tile of queries. -/
abbrev marks : FVec Ideal S256x128 .f32 :=
  chosen (k0_pay11 (F := Ideal) i) (gates (k0_pay11 (F := Ideal) i) q km)

open Classical in
theorem marks_entry (hq : ∀ x, Real' (q x)) (hk : ∀ x, Real' (km x)) (j : Fin 16)
    (hj : j.val < (i 1).val) : 0 < row (marks i q km) r (wide j) ↔ ∃ a, pick q km r (i 1).val a = j.val := by
  have h16 : (i 1).val < 16 := (i 1).isLt
  have hM := three_rounds (n := (i 1).val) (g := fun l => ∑ e : Fin 128, q (ix2 r e) * km (ix2 l e))
    (G := gate q km r (i 1).val) (S := rank q km r (i 1).val) h16.le
    (fun l _ => (real_dot (fun e => hq (ix2 r e)) fun e => hk (ix2 l e)).2) (fun j => rfl)
    (ranked_sort _) (gates_row i q km r) (wide j) hj
  rw [chosen_row, if_pos (show (wide j).val < (i 1).val from hj)]
  by_cases h : ∃ a : Fin 16, a.val < 3 ∧ (rank q km r (i 1).val a).val = j.val
  · rw [hM.1 h]
    obtain ⟨a, ha, e⟩ := h
    exact ⟨fun _ => ⟨⟨a.val, ha⟩, e⟩, fun _ => zero_lt_one⟩
  · rw [hM.2 h]
    exact ⟨fun h' => absurd h' (lt_irrefl _), fun ⟨a, e⟩ => absurd ⟨⟨a.val, by omega⟩, a.isLt, e⟩ h⟩

theorem score_real (hq : ∀ x, Real' (q x)) (hK : ∀ x, Real' (K x)) (j : ℕ) (s : Fin 256) : Real' (score q K r j s) := by
  unfold score
  split
  · exact real_dot (fun e => hq _) fun e => hK _
  · exact ⟨EReal.zero_ne_top, EReal.zero_ne_bot⟩

theorem block_score (k : Fin 16) (b : FVec Ideal S256x256 .f32) (x : Fin 256) :
    scoresOf q (blockOf K k) b (ix2 r x) = score q K r k.val x + b (ix2 r x) := by
  rw [scoresOf_entry]
  unfold score
  rw [dif_pos k.isLt]
  rfl

theorem block_val (k : Fin 16) (x : Fin 256) (d : Fin 128) : blockOf V k (ix2 x d) = val V d k.val x := by
  unfold val
  rw [dif_pos k.isLt]
  rfl

theorem add_mask {p : Prop} [Decidable p] (a : EReal) : a + (if p then 0 else ⊥) = if p then a else ⊥ := by
  split
  · exact add_zero a
  · exact EReal.add_bot a

/-- The kernel's tile of one head, at row `r` and column `d`. -/
theorem tile_entry (hq : ∀ x, Real' (q x)) (hk : ∀ x, Real' (km x)) (hK : ∀ x, Real' (K x)) (z : FVec Ideal S256x128 .f32)
    (d : Fin 128) :
    gated (fold (scoresOf q (blockOf K (i 1)) (k0_pay8 (F := Ideal))) (blockOf V (i 1)) (after q (marks i q km) K V (i 1).val)).2.1
        (fold (scoresOf q (blockOf K (i 1)) (k0_pay8 (F := Ideal))) (blockOf V (i 1)) (after q (marks i q km) K V (i 1).val)).2.2 z (ix2 r d)
      = ((∑ a, ∑ s, Ideal.div
              (Ideal.exp (pickScores (i 1).val (pick q km r (i 1).val) (score q K r) a s
                - pickTop (i 1).val (pick q km r (i 1).val) (score q K r) (ownScore q K r (i 1).val)))
              (pickTotal (i 1).val (pick q km r (i 1).val) (score q K r) (ownScore q K r (i 1).val))
            * val V d (pick q km r (i 1).val a) s)
          + ∑ s, Ideal.div
              (Ideal.exp (ownScore q K r (i 1).val s
                - pickTop (i 1).val (pick q km r (i 1).val) (score q K r) (ownScore q K r (i 1).val)))
              (pickTotal (i 1).val (pick q km r (i 1).val) (score q K r) (ownScore q K r (i 1).val))
            * val V d (i 1).val s)
        * (z (ix2 r d) * Ideal.logistic (z (ix2 r d))) := by
  classical
  have h16 : (i 1).val < 16 := (i 1).isLt
  let kept : ℕ → Prop := fun j => ∃ a, pick q km r (i 1).val a = j
  let σ := rowScores (i 1).val kept (score q K r) (ownScore q K r (i 1).val)
  have hs := fun j s => (score_real q K r hq hK j s).1
  have ho : ∀ s, ownScore q K r (i 1).val s ≠ ⊤ := fun s => by
    unfold ownScore
    split
    · exact hs _ _
    · exact bot_ne_top
  have hσ : ∀ j s, σ j s ≠ ⊤ := fun j s => by
    show (if j < (i 1).val then (if kept j then score q K r j s else ⊥) else ownScore q K r (i 1).val s) ≠ ⊤
    split
    · split
      · exact hs _ _
      · exact bot_ne_top
    · exact ho s
  have hrow : ∀ n ≤ (i 1).val, Matches σ (val V) r n (after q (marks i q km) K V n) := by
    intro n
    induction n with
    | zero =>
      intro _
      refine ⟨?_, ?_, fun d => ?_⟩
      · exact start_max r
      · exact start_sum r
      · exact start_acc r d
    | succ n ih =>
      intro hn
      have hn16 : n < 16 := by omega
      rw [after_succ _ _ _ _ n hn16]
      refine fold_matches hσ (fun x => ?_) (fun x d => ?_) (ih (by omega))
      · rw [block_score q K r ⟨n, hn16⟩, biasOf_entry _ ⟨n, hn16⟩, add_mask]
        show _ = if n < (i 1).val then (if kept n then score q K r n x else ⊥) else ownScore q K r (i 1).val x
        rw [if_pos (show n < (i 1).val by omega)]
        exact if_congr (marks_entry i q km r hq hk ⟨n, hn16⟩ (show n < (i 1).val by omega)) rfl rfl
      · exact block_val V ⟨n, hn16⟩ x d
  have hlast := fold_matches hσ (s := scoresOf q (blockOf K (i 1)) (k0_pay8 (F := Ideal))) (vb := blockOf V (i 1))
    (fun x => by
      rw [block_score q K r (i 1), own_bias, add_mask]
      show _ = if (i 1).val < (i 1).val then (if kept (i 1).val then score q K r (i 1).val x else ⊥) else ownScore q K r (i 1).val x
      rw [if_neg (lt_irrefl _)]
      rfl)
    (fun x d => block_val V (i 1) x d) (hrow (i 1).val le_rfl)
  rw [gated_entry, hlast.2.1, hlast.2.2 d]
  refine congrArg (· * _) ?_
  exact attention_row (kept := kept) (S := pick q km r (i 1).val) (pick_injective q km r _) (fun j _ => Iff.rfl) hs ho r (by
    unfold ownScore
    rw [if_pos le_rfl]
    exact (score_real q K r hq hK _ _).2)

end

end Cert.Proof.Moba

end
-- ==== Proof.Precondition.lean ====
/- The stated precondition: its shape facts, and what it says of an entry. -/
module

public import proofs.«01_k».proof.Pre_finite
public import proofs.«01_k».proof.Proof.Running
public import Idealize.ShloMosaic.Lib.ReduceAll

@[expose] public section

namespace Cert.Proof.Precondition

open Idealize.ShloMosaic Cert.Pre_finite Cert.Proof.Moba

/-- Every shape fact of the precondition, decided. -/
instance facts : Cert.Pre_finite.Facts where
  bitsLt_bf16_f32 := by decide
  bcast_S_S8192x2048 := by decide
  reducesTo_S8192x2048_S_d0_1 := by decide
  h_S_ := by decide
  bcast_S_S8192x1024 := by decide
  reducesTo_S8192x1024_S_d0_1 := by decide
  bcast_S_S32x1x1024 := by decide
  reducesTo_S32x1x1024_S_d0_1_2 := by decide

/-- A number whose absolute value is below +∞ is finite. -/
theorem real_of_abs {x : EReal} (h : Ideal.cmp .olt (max x (-x)) ⊤ = 1#1) : Real' x := by
  induction x using EReal.rec with
  | top => exact absurd h (by simp [Ideal.cmp])
  | bot => exact absurd h (by simp [Ideal.cmp])
  | coe y => exact ⟨EReal.coe_ne_top _, EReal.coe_ne_bot _⟩

theorem both {a b : BitVec 1} (h : IntOp.andi a b = 1#1) : a = 1#1 ∧ b = 1#1 := by
  revert a b
  decide

/-- Under the precondition the queries, the keys and the block means are finite. -/
theorem finite (x0 : FVec Ideal S8192x2048 .bf16) (x1 x2 : FVec Ideal S8192x1024 .bf16) (x3 : FVec Ideal S32x1x1024 .f32)
    (x4 : FVec Ideal S8192x24576 .f32) (h : fn (F := Ideal) x0 x1 x2 x3 x4 = fun _ => 1#1) :
    (∀ i, Real' (x0 i)) ∧ (∀ i, Real' (x1 i)) ∧ ∀ i, Real' (x3 i) := by
  have one : Subsingleton S_.Idx := ⟨fun a b => funext fun k => k.elim0⟩
  have h := congrFun h (fun a => a.elim0)
  obtain ⟨h01, h3⟩ := both (show IntOp.andi _ _ = 1#1 from h)
  obtain ⟨h0, h1⟩ := both (show IntOp.andi _ _ = 1#1 from h01)
  have top : Ideal.ofBits .f32 0x7F800000#32 = (⊤ : EReal) := rfl
  refine ⟨fun i => real_of_abs ?_, fun i => real_of_abs ?_, fun i => real_of_abs ?_⟩
  · exact Host.reduce_andi_all _ _ _ _ _ h0 i
  · exact Host.reduce_andi_all _ _ _ _ _ h1 i
  · exact Host.reduce_andi_all _ _ _ _ _ h3 i

end Cert.Proof.Precondition

end
-- ==== Proof.RefRead.lean ====
/- The reference of the block attention, read at one query position and head: its arguments, gates, ranking and scores. -/
module

public import proofs.«01_k».proof.Defs
public import proofs.«01_k».proof.Proof.Gen.MobaRefIdeal.Read
public import proofs.«01_k».proof.Proof.Entries
public import Idealize.ShloMosaic.Lib.Pointwise

@[expose] public section

set_option maxRecDepth 16384

noncomputable section

open Idealize.ShloMosaic Idealize.ShloMosaic.TcCoe Idealize.SL.Sem
open scoped BigOperators

namespace Cert.Proof.MobaRef

open Cert.MobaRefIdeal Cert.MobaRefIdeal.Read

/-! ## Positions in the flat arrays -/

/-- Row of a batch's position in the flat arrays. -/
def rowAt (b : Fin 2) (t : Fin 4096) : Fin 8192 := ⟨4096 * b.val + t.val, by omega⟩

/-- Position of key `s` of block `j`. -/
def keyAt (j : Fin 16) (s : Fin 256) : Fin 4096 := ⟨256 * j.val + s.val, by omega⟩

/-- Row of a batch's block in the array of block means. -/
def meanAt (b : Fin 2) (j : Fin 16) : Fin 32 := ⟨16 * b.val + j.val, by omega⟩

/-- Column `e` of head `h`. -/
def headCol (h : Fin 16) (e : Fin 128) : Fin 2048 := ⟨128 * h.val + e.val, by omega⟩

/-- Column `e` of group `g`. -/
def groupCol (g : Fin 8) (e : Fin 128) : Fin 1024 := ⟨128 * g.val + e.val, by omega⟩

/-- The block a position lies in. -/
def blockIn (t : Fin 4096) : Fin 16 := ⟨t.val / 256, by omega⟩

/-- The place of a position in its block. -/
def placeIn (t : Fin 4096) : Fin 256 := ⟨t.val % 256, by omega⟩

/-- The group a head belongs to. -/
def groupOf (h : Fin 16) : Fin 8 := ⟨h.val / 2, by omega⟩

/-- The place of a head in its group. -/
def memberOf (h : Fin 16) : Fin 2 := ⟨h.val % 2, by omega⟩

theorem idx2_ext {n0 n1 : ℕ} {x : (⟨2, ![n0, n1]⟩ : Shape).Idx} {a : Fin n0} {b : Fin n1}
    (h0 : (x 0).val = a.val) (h1 : (x 1).val = b.val) : x = ix2 a b := by
  funext k
  match k with
  | ⟨0, _⟩ => exact Fin.ext h0
  | ⟨1, _⟩ => exact Fin.ext h1

theorem idx3_ext {n0 n1 n2 : ℕ} {x : (⟨3, ![n0, n1, n2]⟩ : Shape).Idx} {a : Fin n0} {b : Fin n1} {c : Fin n2}
    (h0 : (x 0).val = a.val) (h1 : (x 1).val = b.val) (h2 : (x 2).val = c.val) : x = ix3 a b c := by
  funext k
  match k with
  | ⟨0, _⟩ => exact Fin.ext h0
  | ⟨1, _⟩ => exact Fin.ext h1
  | ⟨2, _⟩ => exact Fin.ext h2

theorem idx4_ext {n0 n1 n2 n3 : ℕ} {x : (⟨4, ![n0, n1, n2, n3]⟩ : Shape).Idx} {a : Fin n0} {b : Fin n1} {c : Fin n2}
    {e : Fin n3} (h0 : (x 0).val = a.val) (h1 : (x 1).val = b.val) (h2 : (x 2).val = c.val) (h3 : (x 3).val = e.val) :
    x = ix4 a b c e := by
  funext k
  match k with
  | ⟨0, _⟩ => exact Fin.ext h0
  | ⟨1, _⟩ => exact Fin.ext h1
  | ⟨2, _⟩ => exact Fin.ext h2
  | ⟨3, _⟩ => exact Fin.ext h3

theorem idx5_ext {n0 n1 n2 n3 n4 : ℕ} {x : (⟨5, ![n0, n1, n2, n3, n4]⟩ : Shape).Idx} {a : Fin n0} {b : Fin n1} {c : Fin n2}
    {e : Fin n3} {f : Fin n4} (h0 : (x 0).val = a.val) (h1 : (x 1).val = b.val) (h2 : (x 2).val = c.val)
    (h3 : (x 3).val = e.val) (h4 : (x 4).val = f.val) : x = ix5 a b c e f := by
  funext k
  match k with
  | ⟨0, _⟩ => exact Fin.ext h0
  | ⟨1, _⟩ => exact Fin.ext h1
  | ⟨2, _⟩ => exact Fin.ext h2
  | ⟨3, _⟩ => exact Fin.ext h3
  | ⟨4, _⟩ => exact Fin.ext h4

theorem idx6_ext {n0 n1 n2 n3 n4 n5 : ℕ} {x : (⟨6, ![n0, n1, n2, n3, n4, n5]⟩ : Shape).Idx} {a : Fin n0} {b : Fin n1}
    {c : Fin n2} {e : Fin n3} {f : Fin n4} {g : Fin n5} (h0 : (x 0).val = a.val) (h1 : (x 1).val = b.val)
    (h2 : (x 2).val = c.val) (h3 : (x 3).val = e.val) (h4 : (x 4).val = f.val) (h5 : (x 5).val = g.val) :
    x = ix6 a b c e f g := by
  funext k
  match k with
  | ⟨0, _⟩ => exact Fin.ext h0
  | ⟨1, _⟩ => exact Fin.ext h1
  | ⟨2, _⟩ => exact Fin.ext h2
  | ⟨3, _⟩ => exact Fin.ext h3
  | ⟨4, _⟩ => exact Fin.ext h4
  | ⟨5, _⟩ => exact Fin.ext h5

/-! ## The arguments -/

variable (x0 : Vec Ideal S8192x2048 .bf16) (x1 x2 : Vec Ideal S8192x1024 .bf16) (x3 : Vec Ideal S32x1x1024 .f32)
  (x4 : Vec Ideal S8192x24576 .f32)

theorem query_at (b : Fin 2) (t : Fin 4096) (h : Fin 16) (e : Fin 128) :
    val_main_v1 (F := Ideal) x0 (ix4 b t h e) = x0 (ix2 (rowAt b t) (headCol h e)) := by
  rw [val_main_v1_apply, val_main_v0_apply]
  refine congrArg x0 (idx2_ext ?_ ?_)
  · show (((b.val * 4096 + t.val) * 16 + h.val) * 128 + e.val) / 2048 = 4096 * b.val + t.val
    omega
  · show (((b.val * 4096 + t.val) * 16 + h.val) * 128 + e.val) % 2048 = 128 * h.val + e.val
    omega

theorem key_at (b : Fin 2) (j : Fin 16) (s : Fin 256) (g : Fin 8) (e : Fin 128) :
    val_main_v3 (F := Ideal) x1 (ix5 b j s g e) = x1 (ix2 (rowAt b (keyAt j s)) (groupCol g e)) := by
  rw [val_main_v3_apply, val_main_v2_apply]
  refine congrArg x1 (idx2_ext ?_ ?_)
  · show ((((b.val * 16 + j.val) * 256 + s.val) * 8 + g.val) * 128 + e.val) / 1024 = 4096 * b.val + (256 * j.val + s.val)
    omega
  · show ((((b.val * 16 + j.val) * 256 + s.val) * 8 + g.val) * 128 + e.val) % 1024 = 128 * g.val + e.val
    omega

theorem value_at (b : Fin 2) (j : Fin 16) (s : Fin 256) (g : Fin 8) (e : Fin 128) :
    val_main_v5 (F := Ideal) x2 (ix5 b j s g e) = x2 (ix2 (rowAt b (keyAt j s)) (groupCol g e)) :=
  key_at x2 b j s g e

theorem mean_at (b : Fin 2) (j : Fin 16) (g : Fin 8) (e : Fin 128) :
    val_main_v6 (F := Ideal) x3 (ix4 b j g e) = x3 (ix3 (meanAt b j) 0 (groupCol g e)) := by
  rw [val_main_v6_apply]
  refine congrArg x3 (idx3_ext ?_ ?_ ?_)
  · show (((b.val * 16 + j.val) * 8 + g.val) * 128 + e.val) / 1024 = 16 * b.val + j.val
    omega
  · rfl
  · show (((b.val * 16 + j.val) * 8 + g.val) * 128 + e.val) % 1024 = 128 * g.val + e.val
    omega

/-! ## The gates -/

theorem block_div : ∀ t : Fin 4096, IntOp.divsi .host (BitVec.ofNat 32 t.val) 256#32 = BitVec.ofNat 32 (blockIn t).val := by
  decide +kernel

theorem group_div : ∀ h : Fin 16, IntOp.divsi .host (BitVec.ofNat 32 h.val) 2#32 = BitVec.ofNat 32 (groupOf h).val := by
  decide +kernel

theorem block_lt : ∀ j k : Fin 16, IntOp.cmpi .slt (BitVec.ofNat 32 j.val) (BitVec.ofNat 32 k.val) = 1 ↔ j.val < k.val := by
  decide +kernel

theorem not_negative : ∀ j : Fin 256, ¬ IntOp.cmpi .slt (BitVec.ofNat 32 j.val) 0#32 = 1 := by
  decide +kernel

/-- The block of a position, as the reference counts it. -/
theorem own_at (z0 : Fin 1) (t : Fin 4096) (z1 z2 : Fin 1) :
    val_main_v16 (F := Ideal) (ix4 z0 t z1 z2) = BitVec.ofNat 32 (blockIn t).val := by
  rw [val_main_v16_apply, val_main_v15_apply, val_main_v13_apply, val_main_v14_apply, val_main_c_0_apply]
  exact block_div t

theorem gate_at (b : Fin 2) (t : Fin 4096) (h : Fin 16) (j : Fin 16) :
    val_main_v20 (F := Ideal) x0 x3 (ix4 b t h j)
      = ∑ e : Fin 128, x3 (ix3 (meanAt b j) 0 (groupCol (groupOf h) e)) * x0 (ix2 (rowAt b t) (headCol h e)) := by
  have e0 : idx_main_v20 (ix4 b t h j) = ix5 b t (groupOf h) (memberOf h) j := by
    refine idx5_ext ?_ ?_ ?_ ?_ ?_
    · show (((b.val * 4096 + t.val) * 16 + h.val) * 16 + j.val) / 1048576 = b.val
      omega
    · show (((b.val * 4096 + t.val) * 16 + h.val) * 16 + j.val) / 256 % 4096 = t.val
      omega
    · show (((b.val * 4096 + t.val) * 16 + h.val) * 16 + j.val) / 32 % 8 = h.val / 2
      omega
    · show (((b.val * 4096 + t.val) * 16 + h.val) * 16 + j.val) / 16 % 2 = h.val % 2
      omega
    · show (((b.val * 4096 + t.val) * 16 + h.val) * 16 + j.val) % 16 = j.val
      omega
  rw [val_main_v20_apply, e0, val_main_v19_apply, val_main_v18_apply]
  refine Finset.sum_congr rfl fun e _ => ?_
  have e1 : lidx_main_v18 (idx_main_v19 (ix5 b t (groupOf h) (memberOf h) j)) e = ix4 b j (groupOf h) e :=
    idx4_ext rfl rfl rfl rfl
  have e2 : ridx_main_v18 (idx_main_v19 (ix5 b t (groupOf h) (memberOf h) j)) e = ix5 b t (groupOf h) (memberOf h) e :=
    idx5_ext rfl rfl rfl rfl rfl
  have e3 : idx_main_v17 (ix5 b t (groupOf h) (memberOf h) e) = ix4 b t h e := by
    refine idx4_ext ?_ ?_ ?_ ?_
    · show ((((b.val * 4096 + t.val) * 8 + h.val / 2) * 2 + h.val % 2) * 128 + e.val) / 8388608 = b.val
      omega
    · show ((((b.val * 4096 + t.val) * 8 + h.val / 2) * 2 + h.val % 2) * 128 + e.val) / 2048 % 4096 = t.val
      omega
    · show ((((b.val * 4096 + t.val) * 8 + h.val / 2) * 2 + h.val % 2) * 128 + e.val) / 128 % 16 = h.val
      omega
    · show ((((b.val * 4096 + t.val) * 8 + h.val / 2) * 2 + h.val % 2) * 128 + e.val) % 128 = e.val
      omega
  rw [e1, e2, val_main_v17_apply, e3, mean_at, query_at]

/-- A head's gate of block `j` for the position `t`: −∞ unless the block lies wholly before the position's own. -/
theorem masked_gate_at (b : Fin 2) (t : Fin 4096) (h : Fin 16) (j : Fin 16) :
    val_main_v26 (F := Ideal) x0 x3 (ix4 b t h j)
      = if j.val < (blockIn t).val then
          ∑ e : Fin 128, x3 (ix3 (meanAt b j) 0 (groupCol (groupOf h) e)) * x0 (ix2 (rowAt b t) (headCol h e)) else ⊥ := by
  have hc : val_main_call0_v1 (F := Ideal) (ix4 b t h j)
      = IntOp.cmpi .slt (BitVec.ofNat 32 j.val) (BitVec.ofNat 32 (blockIn t).val) := by
    have e : idx_main_v24 (idx_main_call0_v1 (ix4 b t h j)) = ix4 0 t 0 0 := idx4_ext rfl rfl rfl rfl
    rw [val_main_call0_v1_apply, val_main_v25_apply, val_main_v24_apply, e, own_at, val_main_v23_apply, val_main_v22_apply,
      val_main_v21_apply]
    rfl
  rw [val_main_v26_apply, hc, gate_at, val_main_call0_v2_apply, val_main_call0_v0_apply, val_main_cst_apply]
  unfold Scalar.select
  by_cases hj : j.val < (blockIn t).val
  · rw [if_pos ((block_lt j (blockIn t)).2 hj), if_pos hj]
  · rw [if_neg fun h => hj ((block_lt j (blockIn t)).1 h), if_neg hj]
    exact Moba.bits_bot

/-! ## The ranking of the blocks -/

theorem along_last (b : Fin 2) (t : Fin 4096) (h : Fin 16) (a k : Fin 16) :
    Shape.Idx.along (s := S2x4096x16x16) (ix4 b t h a) 3 k = ix4 b t h k := by
  funext c
  match c with
  | ⟨0, _⟩ => rfl
  | ⟨1, _⟩ => rfl
  | ⟨2, _⟩ => rfl
  | ⟨3, _⟩ => rfl

/-- Place `a` of the ranking of a row of sixteen numbers, largest first. -/
def ranked (G : Fin 16 → EReal) (a : Fin 3) : Fin 16 :=
  sortedFrom (fun k k' => decide (G k' < G k)) ⟨a.val, by omega⟩

theorem sort2_snd {α β : Type} (s : Shape) (d : Fin s.rank) (c : α × β → α × β → BitVec 1) (x : s.Idx → α) (y : s.Idx → β)
    (j : s.Idx) :
    (Host.sort2 s d.val c x y).2 j
      = y (j.along d (sortedFrom (fun k k' => c (x (j.along d k), y (j.along d k)) (x (j.along d k'), y (j.along d k')) == 1#1)
          (j d))) := by
  unfold Host.sort2
  rw [dif_pos d.isLt]

theorem sorted_at (c : EReal × BitVec 32 → EReal × BitVec 32 → BitVec 1) (x : S2x4096x16x16.Idx → EReal)
    (y : S2x4096x16x16.Idx → BitVec 32) (b : Fin 2) (t : Fin 4096) (h k : Fin 16) :
    (Host.sort2 S2x4096x16x16 3 c x y).2 (ix4 b t h k)
      = y (ix4 b t h (sortedFrom (fun l l' : Fin 16 =>
          c (x (ix4 b t h l), y (ix4 b t h l)) (x (ix4 b t h l'), y (ix4 b t h l')) == 1#1) k)) := by
  have ha : ∀ l : Fin 16, Shape.Idx.along (s := S2x4096x16x16) (ix4 b t h k) 3 l = ix4 b t h l := along_last b t h k
  generalize hj : ix4 b t h k = j at ha ⊢
  have hk : j 3 = k := by rw [← hj]; rfl
  refine (sort2_snd S2x4096x16x16 3 c x y j).trans ?_
  rw [hk]
  refine (congrArg y (ha _)).trans ?_
  exact congrArg (fun f : Fin 16 → Fin 16 → Bool => y (ix4 b t h (sortedFrom f k))) (funext fun l => funext fun l' => by
    have e1 := ha l
    have e2 := ha l'
    exact congrArg₂ (fun u v => c (x u, y u) (x v, y v) == 1#1) e1 e2)

theorem topK_at (x : S2x4096x16x16.Idx → EReal) (hs : S2x4096x16x16.Slices (fun _ => 0) S2x4096x16x3) (b : Fin 2)
    (t : Fin 4096) (h : Fin 16) (a : Fin 3) :
    (Host.topK S2x4096x16x3 3 (FloatOps.cmpfTotal (F := Ideal) (φ := .f32) .gt) x hs).2 (ix4 b t h a)
      = BitVec.ofNat 32 (ranked (fun j => x (ix4 b t h j)) a).val := by
  have hcmp : ∀ u v : EReal, (FloatOps.cmpfTotal (F := Ideal) (φ := .f32) .gt u v == 1#1) = decide (v < u) := by
    intro u v
    rw [Ideal.cmpfTotal_def]
    show (BitVec.ofBool (decide (v < u)) == 1#1) = decide (v < u)
    cases decide (v < u) <;> rfl
  have hi : ∀ q, extractStridedSlice (s := S2x4096x16x16) (α := BitVec 32) S2x4096x16x3 (fun _ => 0) q hs (ix4 b t h a)
      = q (ix4 b t h ⟨a.val, by omega⟩) := by
    intro q
    unfold extractStridedSlice
    exact congrArg q (idx4_ext (Nat.zero_add _) (Nat.zero_add _) (Nat.zero_add _) (Nat.zero_add _))
  unfold Host.topK
  dsimp only
  rw [hi, sorted_at]
  simp only [hcmp]
  rfl

/-! ## Gathering a block -/

theorem word_nat (n : ℕ) (hn : n < 256) : (BitVec.ofNat 32 n).toInt.toNat = n := by
  have h : (BitVec.ofNat 32 n).toNat = n := by
    rw [BitVec.toNat_ofNat]
    omega
  rw [BitVec.toInt_eq_toNat_of_lt (by rw [h]; omega), h]
  rfl

theorem gather_at {α : Type} (x : S2x16x256x8x128.Idx → α) (idx : IVec S2x4096x16x3x3 32) (b : Fin 2) (t : Fin 4096)
    (h : Fin 16) (a : Fin 3) (s : Fin 256) (e : Fin 128) (j : Fin 16) (g : Fin 8)
    (h0 : idx (ix5 b t h a 0) = BitVec.ofNat 32 b.val) (h1 : idx (ix5 b t h a 1) = BitVec.ofNat 32 j.val)
    (h2 : idx (ix5 b t h a 2) = BitVec.ofNat 32 g.val) :
    Host.gather gather_S2x16x256x8x128_S2x4096x16x3x3_S2x4096x16x3x256x128_45_013_n_n_013_4_112561128 x idx (ix6 b t h a s e)
      = x (ix5 b j s g e) := by
  unfold Host.gather
  refine congrArg x (idx5_ext ?_ ?_ ?_ ?_ ?_)
  · simp only [GatherDims.operandIdx]
    rw [GatherDims.batchCoord_eq_zero _ _ _ (by exact List.not_mem_nil), GatherDims.offCoord_eq_zero _ _ _ (by decide)]
    unfold GatherDims.start
    rw [dif_pos (by decide)]
    have e0 : ∀ q, GatherDims.siIdx gather_S2x16x256x8x128_S2x4096x16x3x3_S2x4096x16x3x256x128_45_013_n_n_013_4_112561128
        (ix6 b t h a s e) ⟨0, q⟩ = ix5 b t h a 0 := fun q => idx5_ext rfl rfl rfl rfl rfl
    refine (congrArg (fun u => min (idx u).toInt.toNat 1) (e0 (by decide))).trans ?_
    rw [h0, word_nat b.val (by omega)]
    omega
  · simp only [GatherDims.operandIdx]
    rw [GatherDims.batchCoord_eq_zero _ _ _ (by exact List.not_mem_nil), GatherDims.offCoord_eq_zero _ _ _ (by decide)]
    unfold GatherDims.start
    rw [dif_pos (by decide)]
    have e0 : ∀ q, GatherDims.siIdx gather_S2x16x256x8x128_S2x4096x16x3x3_S2x4096x16x3x256x128_45_013_n_n_013_4_112561128
        (ix6 b t h a s e) ⟨1, q⟩ = ix5 b t h a 1 := fun q => idx5_ext rfl rfl rfl rfl rfl
    refine (congrArg (fun u => min (idx u).toInt.toNat 15) (e0 (by decide))).trans ?_
    rw [h1, word_nat j.val (by omega)]
    omega
  · simp only [GatherDims.operandIdx]
    rw [GatherDims.batchCoord_eq_zero _ _ _ (by exact List.not_mem_nil)]
    unfold GatherDims.start
    rw [dif_neg (by decide), Nat.zero_add]
    unfold GatherDims.offCoord
    rw [dif_pos (by decide)]
    rfl
  · simp only [GatherDims.operandIdx]
    rw [GatherDims.batchCoord_eq_zero _ _ _ (by exact List.not_mem_nil), GatherDims.offCoord_eq_zero _ _ _ (by decide)]
    unfold GatherDims.start
    rw [dif_pos (by decide)]
    have e0 : ∀ q, GatherDims.siIdx gather_S2x16x256x8x128_S2x4096x16x3x3_S2x4096x16x3x256x128_45_013_n_n_013_4_112561128
        (ix6 b t h a s e) ⟨2, q⟩ = ix5 b t h a 2 := fun q => idx5_ext rfl rfl rfl rfl rfl
    refine (congrArg (fun u => min (idx u).toInt.toNat 7) (e0 (by decide))).trans ?_
    rw [h2, word_nat g.val (by omega)]
    omega
  · simp only [GatherDims.operandIdx]
    rw [GatherDims.batchCoord_eq_zero _ _ _ (by exact List.not_mem_nil)]
    unfold GatherDims.start
    rw [dif_neg (by decide), Nat.zero_add]
    unfold GatherDims.offCoord
    rw [dif_pos (by decide)]
    rfl

end Cert.Proof.MobaRef

end
-- ==== Proof.RefScores.lean ====
/- The reference of the block attention, read further: the blocks it picks and the scores it takes the softmax of. -/
module

public import proofs.«01_k».proof.Proof.RefRead
public import Idealize.ShloMosaic.Lib.Pipeline.ValueKit
public import Idealize.ShloMosaic.Lib.ValueIdxRank6

@[expose] public section

set_option maxRecDepth 16384

noncomputable section

open Idealize.ShloMosaic Idealize.ShloMosaic.TcCoe Idealize.SL.Sem
open scoped BigOperators

namespace Cert.Proof.MobaRef

open Cert.MobaRefIdeal Cert.MobaRefIdeal.Read

variable (x0 : Vec Ideal S8192x2048 .bf16) (x1 x2 : Vec Ideal S8192x1024 .bf16) (x3 : Vec Ideal S32x1x1024 .f32)
  (x4 : Vec Ideal S8192x24576 .f32)

/-! ## The picked blocks -/

/-- The gates of a head at a position. -/
def gateRow (b : Fin 2) (t : Fin 4096) (h : Fin 16) (j : Fin 16) : EReal :=
  if j.val < (blockIn t).val then
    ∑ e : Fin 128, x3 (ix3 (meanAt b j) 0 (groupCol (groupOf h) e)) * x0 (ix2 (rowAt b t) (headCol h e)) else ⊥

/-- The block a head at a position picks in round `a`. -/
def choice (b : Fin 2) (t : Fin 4096) (h : Fin 16) (a : Fin 3) : Fin 16 := ranked (gateRow x0 x3 b t h) a

theorem choice_at (b : Fin 2) (t : Fin 4096) (h : Fin 16) (a : Fin 3) :
    val_main_indices (F := Ideal) x0 x3 (ix4 b t h a) = BitVec.ofNat 32 (choice x0 x3 b t h a).val := by
  unfold val_main_indices
  rw [topK_at]
  have e : (fun j => val_main_v26 (F := Ideal) x0 x3 (ix4 b t h j)) = gateRow x0 x3 b t h :=
    funext fun j => masked_gate_at x0 x3 b t h j
  rw [e]
  rfl

/-- A word that is no negative number is kept by the reference's wrap of negative places. -/
theorem keep_word (n : ℕ) (hn : n < 256) (u v : BitVec 32) :
    Scalar.select (IntOp.cmpi .slt (BitVec.ofNat 32 n) 0#32) u v = v := by
  unfold Scalar.select
  exact if_neg (not_negative ⟨n, hn⟩)

theorem block_word (b : Fin 2) (t : Fin 4096) (h : Fin 16) (a : Fin 3) :
    val_main_v36 (F := Ideal) x0 x3 (ix4 b t h a) = BitVec.ofNat 32 (choice x0 x3 b t h a).val := by
  rw [val_main_v36_apply, val_main_v33_apply, choice_at, val_main_v32_apply, val_main_c_3_apply]
  exact keep_word _ (Nat.lt_of_lt_of_le (choice x0 x3 b t h a).isLt (by decide)) _ _

theorem batch_word (b : Fin 2) (z1 z2 z3 : Fin 1) :
    val_main_v31 (F := Ideal) (ix4 b z1 z2 z3) = BitVec.ofNat 32 b.val := by
  have e : val_main_v8 (F := Ideal) (ix4 b z1 z2 z3) = BitVec.ofNat 32 b.val := by
    rw [val_main_v8_apply, val_main_v7_apply]
    rfl
  rw [val_main_v31_apply, val_main_v28_apply, e, val_main_v27_apply, val_main_c_1_apply]
  exact keep_word _ (Nat.lt_of_lt_of_le b.isLt (by decide)) _ _

theorem group_word (z0 z1 : Fin 1) (h : Fin 16) (z3 : Fin 1) :
    val_main_v41 (F := Ideal) (ix4 z0 z1 h z3) = BitVec.ofNat 32 (groupOf h).val := by
  have e : val_main_v12 (F := Ideal) (ix4 z0 z1 h z3) = BitVec.ofNat 32 (groupOf h).val := by
    rw [val_main_v12_apply, val_main_v11_apply, val_main_v9_apply, val_main_v10_apply, val_main_c_apply]
    exact group_div h
  rw [val_main_v41_apply, val_main_v38_apply, e, val_main_v37_apply, val_main_c_5_apply]
  exact keep_word _ (Nat.lt_of_lt_of_le (groupOf h).isLt (by decide)) _ _

/-- Three arrays joined on a last axis of extent three, read at each of its positions. -/
theorem joined_at (u v w : S2x4096x16x3x1.Idx → BitVec 32) (b : Fin 2) (t : Fin 4096) (h : Fin 16) (a : Fin 3)
    (hc : Shape.Concatenates [S2x4096x16x3x1, S2x4096x16x3x1, S2x4096x16x3x1] S2x4096x16x3x3 4) :
    concatenate S2x4096x16x3x3 4 [⟨S2x4096x16x3x1, u⟩, ⟨S2x4096x16x3x1, v⟩, ⟨S2x4096x16x3x1, w⟩] hc (ix5 b t h a 0)
        = u (ix5 b t h a 0)
      ∧ concatenate S2x4096x16x3x3 4 [⟨S2x4096x16x3x1, u⟩, ⟨S2x4096x16x3x1, v⟩, ⟨S2x4096x16x3x1, w⟩] hc (ix5 b t h a 1)
        = v (ix5 b t h a 0)
      ∧ concatenate S2x4096x16x3x3 4 [⟨S2x4096x16x3x1, u⟩, ⟨S2x4096x16x3x1, v⟩, ⟨S2x4096x16x3x1, w⟩] hc (ix5 b t h a 2)
        = w (ix5 b t h a 0) := by
  refine ⟨?_, ?_, ?_⟩
  · refine concatenate_apply_piece (4 : Fin S2x4096x16x3x3.rank) [⟨S2x4096x16x3x1, u⟩, ⟨S2x4096x16x3x1, v⟩, ⟨S2x4096x16x3x1, w⟩] hc
      (ix5 b t h a 0) 0 (by exact Nat.lt_of_lt_of_le (by decide : 0 < 3) (Nat.le_refl 3)) S2x4096x16x3x1 u rfl rfl 0 rfl (ix5 b t h a 0) (fun c hc => ?_) rfl
    match c with
    | ⟨0, _⟩ => rfl
    | ⟨1, _⟩ => rfl
    | ⟨2, _⟩ => rfl
    | ⟨3, _⟩ => rfl
    | ⟨4, _⟩ => exact absurd rfl hc
  · refine concatenate_apply_piece (4 : Fin S2x4096x16x3x3.rank) [⟨S2x4096x16x3x1, u⟩, ⟨S2x4096x16x3x1, v⟩, ⟨S2x4096x16x3x1, w⟩] hc
      (ix5 b t h a 1) 1 (by exact Nat.lt_of_lt_of_le (by decide : 1 < 3) (Nat.le_refl 3)) S2x4096x16x3x1 v rfl rfl 1 rfl (ix5 b t h a 0) (fun c hc => ?_) rfl
    match c with
    | ⟨0, _⟩ => rfl
    | ⟨1, _⟩ => rfl
    | ⟨2, _⟩ => rfl
    | ⟨3, _⟩ => rfl
    | ⟨4, _⟩ => exact absurd rfl hc
  · refine concatenate_apply_piece (4 : Fin S2x4096x16x3x3.rank) [⟨S2x4096x16x3x1, u⟩, ⟨S2x4096x16x3x1, v⟩, ⟨S2x4096x16x3x1, w⟩] hc
      (ix5 b t h a 2) 2 (by exact Nat.lt_of_lt_of_le (by decide : 2 < 3) (Nat.le_refl 3)) S2x4096x16x3x1 w rfl rfl 2 rfl (ix5 b t h a 0) (fun c hc => ?_) rfl
    match c with
    | ⟨0, _⟩ => rfl
    | ⟨1, _⟩ => rfl
    | ⟨2, _⟩ => rfl
    | ⟨3, _⟩ => rfl
    | ⟨4, _⟩ => exact absurd rfl hc

theorem start_batch (b : Fin 2) (t : Fin 4096) (h : Fin 16) (a : Fin 3) :
    val_main_v47 (F := Ideal) x0 x3 (ix5 b t h a 0) = BitVec.ofNat 32 b.val := by
  unfold val_main_v47
  refine (joined_at _ _ _ b t h a _).1.trans ?_
  have e : idx_main_v42 (idx_main_v44 (ix5 b t h a 0)) = ix4 b 0 0 0 := idx4_ext rfl rfl rfl rfl
  rw [val_main_v44_apply, val_main_v42_apply, e, batch_word]

theorem start_block (b : Fin 2) (t : Fin 4096) (h : Fin 16) (a : Fin 3) :
    val_main_v47 (F := Ideal) x0 x3 (ix5 b t h a 1) = BitVec.ofNat 32 (choice x0 x3 b t h a).val := by
  unfold val_main_v47
  refine (joined_at _ _ _ b t h a _).2.1.trans ?_
  have e : idx_main_v45 (ix5 b t h a 0) = ix4 b t h a := idx4_ext rfl rfl rfl rfl
  rw [val_main_v45_apply, e, block_word]

theorem start_group (b : Fin 2) (t : Fin 4096) (h : Fin 16) (a : Fin 3) :
    val_main_v47 (F := Ideal) x0 x3 (ix5 b t h a 2) = BitVec.ofNat 32 (groupOf h).val := by
  unfold val_main_v47
  refine (joined_at _ _ _ b t h a _).2.2.trans ?_
  have e : idx_main_v43 (idx_main_v46 (ix5 b t h a 0)) = ix4 0 0 h 0 := idx4_ext rfl rfl rfl rfl
  rw [val_main_v46_apply, val_main_v43_apply, e, group_word]

theorem picked_key (b : Fin 2) (t : Fin 4096) (h : Fin 16) (a : Fin 3) (s : Fin 256) (e : Fin 128) :
    val_main_v48 (F := Ideal) x0 x1 x3 (ix6 b t h a s e)
      = x1 (ix2 (rowAt b (keyAt (choice x0 x3 b t h a) s)) (groupCol (groupOf h) e)) := by
  unfold val_main_v48
  rw [gather_at _ _ b t h a s e (choice x0 x3 b t h a) (groupOf h) (start_batch x0 x3 b t h a) (start_block x0 x3 b t h a)
    (start_group x0 x3 b t h a), key_at]

theorem starts_again : val_main_v69 (F := Ideal) x0 x3 = val_main_v47 (F := Ideal) x0 x3 := rfl

theorem picked_value (b : Fin 2) (t : Fin 4096) (h : Fin 16) (a : Fin 3) (s : Fin 256) (e : Fin 128) :
    val_main_v70 (F := Ideal) x0 x2 x3 (ix6 b t h a s e)
      = x2 (ix2 (rowAt b (keyAt (choice x0 x3 b t h a) s)) (groupCol (groupOf h) e)) := by
  unfold val_main_v70
  rw [starts_again, gather_at _ _ b t h a s e (choice x0 x3 b t h a) (groupOf h) (start_batch x0 x3 b t h a)
    (start_block x0 x3 b t h a) (start_group x0 x3 b t h a), value_at]

/-! ## The scores -/

/-- The score of key `s` of block `j` for a head at a position. -/
def dotRow (b : Fin 2) (t : Fin 4096) (h : Fin 16) (j : Fin 16) (s : Fin 256) : EReal :=
  ∑ e : Fin 128, x0 (ix2 (rowAt b t) (headCol h e)) * x1 (ix2 (rowAt b (keyAt j s)) (groupCol (groupOf h) e))

/-- The scores of the picked blocks: −∞ for a pick that is not wholly before the position's own block. -/
theorem picked_score (b : Fin 2) (t : Fin 4096) (h : Fin 16) (a : Fin 3) (s : Fin 256) :
    val_main_v75 (F := Ideal) x0 x1 x3 (ix5 b t h a s)
      = if (choice x0 x3 b t h a).val < (blockIn t).val then dotRow x0 x1 b t h (choice x0 x3 b t h a) s else ⊥ := by
  have hc : val_main_call1_v1 (F := Ideal) x0 x3 (ix5 b t h a s)
      = IntOp.cmpi .slt (BitVec.ofNat 32 (choice x0 x3 b t h a).val) (BitVec.ofNat 32 (blockIn t).val) := by
    have e : idx_main_v74 (idx_main_call1_v1 (ix5 b t h a s)) = ix4 b t h a := idx4_ext rfl rfl rfl rfl
    have e' : idx_main_v72 (ix4 b t h a) = ix4 0 t 0 0 := idx4_ext rfl rfl rfl rfl
    rw [val_main_call1_v1_apply, val_main_v74_apply, e, val_main_v73_apply, choice_at, val_main_v72_apply, e', own_at]
  have hd : val_main_v71 (F := Ideal) x0 x1 x3 (ix5 b t h a s) = dotRow x0 x1 b t h (choice x0 x3 b t h a) s := by
    rw [val_main_v71_apply]
    refine Finset.sum_congr rfl fun e _ => ?_
    have e1 : lidx_main_v71 (ix5 b t h a s) e = ix4 b t h e := idx4_ext rfl rfl rfl rfl
    have e2 : ridx_main_v71 (ix5 b t h a s) e = ix6 b t h a s e := idx6_ext rfl rfl rfl rfl rfl rfl
    rw [e1, e2, query_at, picked_key]
  rw [val_main_v75_apply, hc, hd, val_main_call1_v2_apply, val_main_call1_v0_apply, val_main_cst_13_apply]
  unfold Scalar.select
  by_cases hj : (choice x0 x3 b t h a).val < (blockIn t).val
  · rw [if_pos ((block_lt _ (blockIn t)).2 hj), if_pos hj]
  · rw [if_neg fun h => hj ((block_lt _ (blockIn t)).1 h), if_neg hj]
    exact Moba.bits_bot

theorem key_le (s r : Fin 256) :
    IntOp.cmpi .sle (BitVec.ofNat 32 s.val) (BitVec.ofNat 32 r.val) = 1 ↔ s.val ≤ r.val := by
  have hv : ∀ x : Fin 256, (BitVec.ofNat 32 x.val).toInt = (x.val : ℤ) := by decide +kernel
  by_cases e : s.val ≤ r.val
  · simp [IntOp.cmpi, BitVec.sle, hv, e]
  · simp [IntOp.cmpi, BitVec.sle, hv, e]

theorem query_again (b : Fin 2) (t : Fin 4096) (h : Fin 16) (e : Fin 128) :
    val_main_v76 (F := Ideal) x0 (ix6 b (blockIn t) (placeIn t) (groupOf h) (memberOf h) e)
      = x0 (ix2 (rowAt b t) (headCol h e)) := by
  rw [← query_at x0 b t h e]
  unfold val_main_v76
  refine shapeCast_apply _ _ _ (ix4 b t h e) ?_
  rw [Shape.rowMajor_val_four, Shape.rowMajor_val_six]
  show ((b.val * 4096 + t.val) * 16 + h.val) * 128 + e.val
    = ((((b.val * 16 + t.val / 256) * 256 + t.val % 256) * 8 + h.val / 2) * 2 + h.val % 2) * 128 + e.val
  omega

/-- The scores of the position's own block: −∞ for the keys after the position. -/
theorem own_score (b : Fin 2) (t : Fin 4096) (h : Fin 16) (s : Fin 256) :
    val_main_v89 (F := Ideal) x0 x1 (ix4 b t h s)
      = if s.val ≤ (placeIn t).val then dotRow x0 x1 b t h (blockIn t) s else ⊥ := by
  have e0 : val_main_v89 (F := Ideal) x0 x1 (ix4 b t h s)
      = val_main_v87 (F := Ideal) x0 x1 (ix6 b (blockIn t) (placeIn t) (groupOf h) (memberOf h) s) := by
    unfold val_main_v89
    refine shapeCast_apply _ _ _ _ ?_
    rw [Shape.rowMajor_val_four, Shape.rowMajor_val_six]
    show ((((b.val * 16 + t.val / 256) * 256 + t.val % 256) * 8 + h.val / 2) * 2 + h.val % 2) * 256 + s.val
      = ((b.val * 4096 + t.val) * 16 + h.val) * 256 + s.val
    omega
  have hc : val_main_call2_v1 (F := Ideal) (ix6 b (blockIn t) (placeIn t) (groupOf h) (memberOf h) s)
      = IntOp.cmpi .sle (BitVec.ofNat 32 s.val) (BitVec.ofNat 32 (placeIn t).val) := by
    rw [val_main_call2_v1_apply, val_main_v86_apply, val_main_v85_apply, val_main_v83_apply, val_main_v80_apply,
      val_main_v79_apply, val_main_v84_apply, val_main_v82_apply, val_main_v81_apply]
    rfl
  have hd : val_main_v78 (F := Ideal) x0 x1 (ix6 b (blockIn t) (placeIn t) (groupOf h) (memberOf h) s)
      = dotRow x0 x1 b t h (blockIn t) s := by
    rw [val_main_v78_apply, val_main_v77_apply]
    refine Finset.sum_congr rfl fun e _ => ?_
    have e1 : lidx_main_v77 (idx_main_v78 (ix6 b (blockIn t) (placeIn t) (groupOf h) (memberOf h) s)) e
        = ix5 b (blockIn t) s (groupOf h) e := idx5_ext rfl rfl rfl rfl rfl
    have e2 : ridx_main_v77 (idx_main_v78 (ix6 b (blockIn t) (placeIn t) (groupOf h) (memberOf h) s)) e
        = ix6 b (blockIn t) (placeIn t) (groupOf h) (memberOf h) e := idx6_ext rfl rfl rfl rfl rfl rfl
    rw [e1, e2, key_at, query_again]
    exact mul_comm _ _
  rw [e0, val_main_v87_apply, hc, hd, val_main_call2_v2_apply, val_main_call2_v0_apply, val_main_cst_14_apply]
  unfold Scalar.select
  by_cases hs : s.val ≤ (placeIn t).val
  · rw [if_pos ((key_le s (placeIn t)).2 hs), if_pos hs]
  · rw [if_neg fun h => hs ((key_le s (placeIn t)).1 h), if_neg hs]
    exact Moba.bits_bot

end Cert.Proof.MobaRef

end
-- ==== Proof.RefSoftmax.lean ====
/- The reference of the block attention, read to the end: the softmax over the picked blocks and the own block, the
   weighted sum of the values and the gate. -/
module

public import proofs.«01_k».proof.Proof.RefScores
public import proofs.«01_k».proof.Proof.Softmax
public import Idealize.ShloMosaic.Lib.TwoAxisContraction

@[expose] public section

set_option maxRecDepth 16384

noncomputable section

open Idealize.ShloMosaic Idealize.ShloMosaic.TcCoe Idealize.SL.Sem
open scoped BigOperators

namespace Cert.Proof.MobaRef

open Cert.MobaRefIdeal Cert.MobaRefIdeal.Read Cert.Proof.Softmax

/-! ## A row of 1024 scores: three blocks and the own one -/

/-- Column of score `s` of pick `a`. -/
def pickCol (a : Fin 3) (s : Fin 256) : Fin 1024 := ⟨256 * a.val + s.val, by omega⟩

/-- Column of score `s` of the own block. -/
def ownCol (s : Fin 256) : Fin 1024 := ⟨768 + s.val, by omega⟩

theorem col_cases (k : Fin 1024) : (∃ a s, k = pickCol a s) ∨ ∃ s, k = ownCol s := by
  by_cases hk : k.val < 768
  · exact Or.inl ⟨⟨k.val / 256, by omega⟩, ⟨k.val % 256, by omega⟩, Fin.ext (by
      show k.val = 256 * (k.val / 256) + k.val % 256
      omega)⟩
  · exact Or.inr ⟨⟨k.val - 768, by omega⟩, Fin.ext (by
      show k.val = 768 + (k.val - 768)
      omega)⟩

theorem sum_cols (f : Fin 1024 → EReal) :
    ∑ k, f k = (∑ a : Fin 3, ∑ s : Fin 256, f (pickCol a s)) + ∑ s : Fin 256, f (ownCol s) := by
  rw [← Fintype.sum_prod_type' (fun a s => f (pickCol a s))]
  refine Eq.trans ?_
    (Fintype.sum_sum_type (fun x : (Fin 3 × Fin 256) ⊕ Fin 256 => f (Sum.elim (fun p => pickCol p.1 p.2) ownCol x)))
  refine (Function.Bijective.sum_comp (e := Sum.elim (fun p : Fin 3 × Fin 256 => pickCol p.1 p.2) ownCol) ⟨?_, ?_⟩ f).symm
  · rintro (⟨a, s⟩ | s) (⟨a', s'⟩ | s') h
    · have h : 256 * a.val + s.val = 256 * a'.val + s'.val := congrArg Fin.val h
      have e1 : a = a' := Fin.ext (by omega)
      have e2 : s = s' := Fin.ext (by omega)
      rw [e1, e2]
    · have h : 256 * a.val + s.val = 768 + s'.val := congrArg Fin.val h
      omega
    · have h : 768 + s.val = 256 * a'.val + s'.val := congrArg Fin.val h
      omega
    · have h : 768 + s.val = 768 + s'.val := congrArg Fin.val h
      exact congrArg Sum.inr (Fin.ext (by omega))
  · intro k
    rcases col_cases k with ⟨a, s, rfl⟩ | ⟨s, rfl⟩
    · exact ⟨Sum.inl (a, s), rfl⟩
    · exact ⟨Sum.inr s, rfl⟩

theorem sup_cols (f : Fin 1024 → EReal) :
    Finset.univ.sup f = max (Finset.univ.sup fun a : Fin 3 => Finset.univ.sup fun s : Fin 256 => f (pickCol a s))
      (Finset.univ.sup fun s : Fin 256 => f (ownCol s)) := by
  apply le_antisymm
  · refine Finset.sup_le fun k _ => ?_
    rcases col_cases k with ⟨a, s, rfl⟩ | ⟨s, rfl⟩
    · exact le_trans (le_trans (Finset.le_sup (f := fun s : Fin 256 => f (pickCol a s)) (Finset.mem_univ s))
        (Finset.le_sup (f := fun a : Fin 3 => Finset.univ.sup fun s : Fin 256 => f (pickCol a s)) (Finset.mem_univ a)))
        (le_max_left _ _)
    · exact le_trans (Finset.le_sup (f := fun s : Fin 256 => f (ownCol s)) (Finset.mem_univ s)) (le_max_right _ _)
  · exact max_le (Finset.sup_le fun a _ => Finset.sup_le fun s _ => Finset.le_sup (f := f) (Finset.mem_univ _))
      (Finset.sup_le fun s _ => Finset.le_sup (f := f) (Finset.mem_univ _))

variable (x0 : Vec Ideal S8192x2048 .bf16) (x1 x2 : Vec Ideal S8192x1024 .bf16) (x3 : Vec Ideal S32x1x1024 .f32)
  (x4 : Vec Ideal S8192x24576 .f32)

variable (b : Fin 2) (t : Fin 4096) (h : Fin 16)

/-- The scores of a head at a position, the blocks numbered by natural numbers. -/
def scores (j : ℕ) (s : Fin 256) : EReal := if hj : j < 16 then dotRow x0 x1 b t h ⟨j, hj⟩ s else 0

/-- The three picks of a head at a position. -/
def picks (a : Fin 3) : ℕ := (choice x0 x3 b t h a).val

/-- The scores against the position's own block, −∞ for the keys after it. -/
def ownScores (s : Fin 256) : EReal := if s.val ≤ (placeIn t).val then scores x0 x1 b t h (blockIn t).val s else ⊥

/-- The largest score. -/
def most : EReal := pickTop (blockIn t).val (picks x0 x3 b t h) (scores x0 x1 b t h) (ownScores x0 x1 b t h)

/-- The total of the exponentials. -/
def mass : EReal := pickTotal (blockIn t).val (picks x0 x3 b t h) (scores x0 x1 b t h) (ownScores x0 x1 b t h)

theorem scores_fin (j : Fin 16) (s : Fin 256) : scores x0 x1 b t h j.val s = dotRow x0 x1 b t h j s := dif_pos j.isLt

theorem row_pick (a : Fin 3) (s : Fin 256) : val_main_v90 (F := Ideal) x0 x1 x3 (ix4 b t h (pickCol a s))
    = pickScores (blockIn t).val (picks x0 x3 b t h) (scores x0 x1 b t h) a s := by
  have hs : s.val < 256 := s.isLt
  have ha : a.val < 3 := a.isLt
  have hl : 256 * a.val + s.val < 768 := by omega
  have e : val_main_v90 (F := Ideal) x0 x1 x3 (ix4 b t h (pickCol a s))
      = val_main_v88 (F := Ideal) x0 x1 x3 (ix4 b t h ⟨256 * a.val + s.val, hl⟩) := by
    unfold val_main_v90
    generalize val_main_v88 (F := Ideal) x0 x1 x3 = u
    generalize val_main_v89 (F := Ideal) x0 x1 = v
    refine concatenate_pair_apply_left (3 : Fin S2x4096x16x1024.rank) u v _ _ rfl _ fun c => ?_
    match c with
    | ⟨0, _⟩ => rfl
    | ⟨1, _⟩ => rfl
    | ⟨2, _⟩ => rfl
    | ⟨3, _⟩ => rfl
  have e' : idx_main_v88 (ix4 b t h ⟨256 * a.val + s.val, hl⟩) = ix5 b t h a s := by
    refine idx5_ext ?_ ?_ ?_ ?_ ?_
    · show (((b.val * 4096 + t.val) * 16 + h.val) * 768 + (256 * a.val + s.val)) / 50331648 = b.val
      omega
    · show (((b.val * 4096 + t.val) * 16 + h.val) * 768 + (256 * a.val + s.val)) / 12288 % 4096 = t.val
      omega
    · show (((b.val * 4096 + t.val) * 16 + h.val) * 768 + (256 * a.val + s.val)) / 768 % 16 = h.val
      omega
    · show (((b.val * 4096 + t.val) * 16 + h.val) * 768 + (256 * a.val + s.val)) / 256 % 3 = a.val
      omega
    · show (((b.val * 4096 + t.val) * 16 + h.val) * 768 + (256 * a.val + s.val)) % 256 = s.val
      omega
  rw [e, val_main_v88_apply, e', picked_score, ← scores_fin]
  rfl

theorem row_own (s : Fin 256) : val_main_v90 (F := Ideal) x0 x1 x3 (ix4 b t h (ownCol s)) = ownScores x0 x1 b t h s := by
  have e : val_main_v90 (F := Ideal) x0 x1 x3 (ix4 b t h (ownCol s)) = val_main_v89 (F := Ideal) x0 x1 (ix4 b t h s) := by
    unfold val_main_v90
    generalize val_main_v88 (F := Ideal) x0 x1 x3 = u
    generalize val_main_v89 (F := Ideal) x0 x1 = v
    refine concatenate_pair_apply_right (3 : Fin S2x4096x16x1024.rank) u v _ _ rfl rfl _ (fun c hc => ?_) ?_
    · match c with
      | ⟨0, _⟩ => rfl
      | ⟨1, _⟩ => rfl
      | ⟨2, _⟩ => rfl
      | ⟨3, _⟩ => exact absurd rfl hc
    · show s.val + 768 = 768 + s.val
      omega
  rw [e, own_score, ← scores_fin]
  rfl

theorem largest_at : val_main_v93 (F := Ideal) x0 x1 x3 (ix3 b t h) = most x0 x1 x3 b t h := by
  have e : val_main_v91 (F := Ideal) x0 x1 x3 (ix3 b t h) = most x0 x1 x3 b t h := by
    have hf : val_main_v91 (F := Ideal) x0 x1 x3 (ix3 b t h)
        = Finset.univ.fold max (Ideal.ofBits .f32 4286578688#32)
          fun k : Fin 1024 => val_main_v90 (F := Ideal) x0 x1 x3 (ix4 b t h k) := by
      unfold val_main_v91
      generalize val_main_v90 (F := Ideal) x0 x1 x3 = u
      refine (Host.reduce_eq_fold_single (FloatOps.maximumf (F := Ideal) (φ := .f32)) u _ _ (by decide) _ _).trans ?_
      refine congrArg (fun f : Fin 1024 → EReal => Finset.univ.fold max (Ideal.ofBits .f32 4286578688#32) f) (funext fun k => ?_)
      refine congrArg u (funext fun c => Fin.ext ?_)
      match c with
      | ⟨0, _⟩ => rfl
      | ⟨1, _⟩ => rfl
      | ⟨2, _⟩ => rfl
      | ⟨3, _⟩ => rfl
    rw [hf, Moba.bits_bot]
    refine (sup_cols fun k => val_main_v90 (F := Ideal) x0 x1 x3 (ix4 b t h k)).trans ?_
    simp only [row_pick, row_own]
    rfl
  rw [val_main_v93_apply, e, val_main_v92_apply, val_main_cst_16_apply]
  refine (congrArg (fun u : EReal => max u (most x0 x1 x3 b t h)) Moba.bits_bot).trans ?_
  exact max_eq_right bot_le

theorem weight_at (k : Fin 1024) : val_main_v97 (F := Ideal) x0 x1 x3 (ix4 b t h k)
    = Ideal.exp (val_main_v90 (F := Ideal) x0 x1 x3 (ix4 b t h k) - most x0 x1 x3 b t h) := by
  have e : idx_main_v94 (idx_main_v95 (ix4 b t h k)) = ix3 b t h := idx3_ext rfl rfl rfl
  rw [val_main_v97_apply, val_main_v96_apply, val_main_v95_apply, val_main_v94_apply, e, largest_at]
  rfl

theorem mass_at : val_main_v98 (F := Ideal) x0 x1 x3 (ix3 b t h) = mass x0 x1 x3 b t h := by
  have e : ∀ k : Fin 1024, idx_main_v98 (ix3 b t h) k = ix4 b t h k := fun k => idx4_ext rfl rfl rfl rfl
  have hz : ∀ z : S_.Idx, val_main_cst_17 (F := Ideal) z = (0 : EReal) := fun z => by
    rw [val_main_cst_17_apply]
    exact Ideal.ofBits_zero_f32
  rw [val_main_v98_apply, hz, zero_add]
  simp only [e]
  rw [sum_cols]
  simp only [weight_at, row_pick, row_own]
  rfl

theorem share_at (k : Fin 1024) : val_main_v101 (F := Ideal) x0 x1 x3 (ix4 b t h k)
    = Ideal.div (Ideal.exp (val_main_v90 (F := Ideal) x0 x1 x3 (ix4 b t h k) - most x0 x1 x3 b t h)) (mass x0 x1 x3 b t h) := by
  have e : idx_main_v99 (idx_main_v100 (ix4 b t h k)) = ix3 b t h := idx3_ext rfl rfl rfl
  rw [val_main_v101_apply, weight_at, val_main_v100_apply, val_main_v99_apply, e, mass_at]
  rfl

theorem share_pick (a : Fin 3) (s : Fin 256) : val_main_v103 (F := Ideal) x0 x1 x3 (ix5 b t h a s)
    = Ideal.div (Ideal.exp (pickScores (blockIn t).val (picks x0 x3 b t h) (scores x0 x1 b t h) a s - most x0 x1 x3 b t h))
        (mass x0 x1 x3 b t h) := by
  have e : idx_main_v102 (idx_main_v103 (ix5 b t h a s)) = ix4 b t h (pickCol a s) := by
    refine idx4_ext ?_ ?_ ?_ ?_
    · show ((((b.val * 4096 + t.val) * 16 + h.val) * 3 + a.val) * 256 + s.val) / 50331648 = b.val
      omega
    · show ((((b.val * 4096 + t.val) * 16 + h.val) * 3 + a.val) * 256 + s.val) / 12288 % 4096 = t.val
      omega
    · show ((((b.val * 4096 + t.val) * 16 + h.val) * 3 + a.val) * 256 + s.val) / 768 % 16 = h.val
      omega
    · show ((((b.val * 4096 + t.val) * 16 + h.val) * 3 + a.val) * 256 + s.val) % 768 = 256 * a.val + s.val
      omega
  rw [val_main_v103_apply, val_main_v102_apply, e, share_at, row_pick]

theorem share_own (s : Fin 256) :
    val_main_v105 (F := Ideal) x0 x1 x3 (ix6 b (blockIn t) (placeIn t) (groupOf h) (memberOf h) s)
      = Ideal.div (Ideal.exp (ownScores x0 x1 b t h s - most x0 x1 x3 b t h)) (mass x0 x1 x3 b t h) := by
  have e0 : val_main_v105 (F := Ideal) x0 x1 x3 (ix6 b (blockIn t) (placeIn t) (groupOf h) (memberOf h) s)
      = val_main_v104 (F := Ideal) x0 x1 x3 (ix4 b t h s) := by
    unfold val_main_v105
    refine shapeCast_apply _ _ _ _ ?_
    rw [Shape.rowMajor_val_four, Shape.rowMajor_val_six]
    show ((b.val * 4096 + t.val) * 16 + h.val) * 256 + s.val
      = ((((b.val * 16 + t.val / 256) * 256 + t.val % 256) * 8 + h.val / 2) * 2 + h.val % 2) * 256 + s.val
    omega
  have e : idx_main_v104 (ix4 b t h s) = ix4 b t h (ownCol s) := idx4_ext rfl rfl rfl rfl
  rw [e0, val_main_v104_apply, e, share_at, row_own]

/-! ## The weighted sum of the values -/

/-- The values of block `j` at a column of the head's group. -/
def values (d : Fin 128) (j : ℕ) (s : Fin 256) : EReal :=
  if hj : j < 16 then x2 (ix2 (rowAt b (keyAt ⟨j, hj⟩ s)) (groupCol (groupOf h) d)) else 0

theorem values_fin (d : Fin 128) (j : Fin 16) (s : Fin 256) :
    values x2 b h d j.val s = x2 (ix2 (rowAt b (keyAt j s)) (groupCol (groupOf h) d)) := dif_pos j.isLt

theorem pick_part (d : Fin 128) : val_main_v106 (F := Ideal) x0 x1 x2 x3 (ix4 b t h d)
    = ∑ a : Fin 3, ∑ s : Fin 256,
        Ideal.div (Ideal.exp (pickScores (blockIn t).val (picks x0 x3 b t h) (scores x0 x1 b t h) a s - most x0 x1 x3 b t h))
          (mass x0 x1 x3 b t h) * values x2 b h d (picks x0 x3 b t h a) s := by
  have e : val_main_v106 (F := Ideal) x0 x1 x2 x3 (ix4 b t h d)
      = ∑ a : Fin 3, ∑ s : Fin 256, val_main_v103 (F := Ideal) x0 x1 x3 (ix5 b t h a s)
          * val_main_v70 (F := Ideal) x0 x2 x3 (ix6 b t h a s d) := by
    unfold val_main_v106
    generalize val_main_v103 (F := Ideal) x0 x1 x3 = u
    generalize val_main_v70 (F := Ideal) x0 x2 x3 = v
    simp only [Host.dotGeneral]
    rw [Ideal.dotGeneral_apply, ValueIdx.sum_contr2 _ 3 256 rfl rfl rfl]
    refine Finset.sum_congr rfl fun a _ => Finset.sum_congr rfl fun s _ => ?_
    have h0 := ValueIdx.contrEquiv2_symm_val0
      dot_S2x4096x16x3x256_S2x4096x16x3x256x128_S2x4096x16x128_34_34_n_5_012_012 3 256 rfl rfl rfl (a, s)
    have h1 := ValueIdx.contrEquiv2_symm_val1
      dot_S2x4096x16x3x256_S2x4096x16x3x256x128_S2x4096x16x128_34_34_n_5_012_012 3 256 rfl rfl rfl (a, s)
    exact congrArg₂ (fun (p q : EReal) => p * q) (congrArg u (idx5_ext rfl rfl rfl h0 h1))
      (congrArg v (idx6_ext rfl rfl rfl h0 h1 rfl))
  rw [e]
  refine Finset.sum_congr rfl fun a _ => Finset.sum_congr rfl fun s _ => ?_
  rw [share_pick, picked_value, ← values_fin x2 b h d (choice x0 x3 b t h a) s]
  rfl

theorem own_part (d : Fin 128) : val_main_v109 (F := Ideal) x0 x1 x2 x3 (ix4 b t h d)
    = ∑ s : Fin 256, Ideal.div (Ideal.exp (ownScores x0 x1 b t h s - most x0 x1 x3 b t h)) (mass x0 x1 x3 b t h)
        * values x2 b h d (blockIn t).val s := by
  have e0 : val_main_v109 (F := Ideal) x0 x1 x2 x3 (ix4 b t h d)
      = val_main_v108 (F := Ideal) x0 x1 x2 x3 (ix6 b (blockIn t) (placeIn t) (groupOf h) (memberOf h) d) := by
    unfold val_main_v109
    refine shapeCast_apply _ _ _ _ ?_
    rw [Shape.rowMajor_val_four, Shape.rowMajor_val_six]
    show ((((b.val * 16 + t.val / 256) * 256 + t.val % 256) * 8 + h.val / 2) * 2 + h.val % 2) * 128 + d.val
      = ((b.val * 4096 + t.val) * 16 + h.val) * 128 + d.val
    omega
  rw [e0, val_main_v108_apply, val_main_v107_apply]
  refine Finset.sum_congr rfl fun s _ => ?_
  have e1 : lidx_main_v107 (idx_main_v108 (ix6 b (blockIn t) (placeIn t) (groupOf h) (memberOf h) d)) s
      = ix5 b (blockIn t) s (groupOf h) d := idx5_ext rfl rfl rfl rfl rfl
  have e2 : ridx_main_v107 (idx_main_v108 (ix6 b (blockIn t) (placeIn t) (groupOf h) (memberOf h) d)) s
      = ix6 b (blockIn t) (placeIn t) (groupOf h) (memberOf h) s := idx6_ext rfl rfl rfl rfl rfl rfl
  rw [e1, e2, value_at, share_own, ← values_fin x2 b h d (blockIn t) s]
  exact mul_comm _ _

/-- Column `c` of the gate's part of the projection. -/
def gateCol (h : Fin 16) (d : Fin 128) : Fin 24576 := ⟨14336 + (128 * h.val + d.val), by omega⟩

/-- **An entry of the reference**: the softmax over the picked blocks and the own block, times the gate. -/
theorem reference_entry (d : Fin 128) : val_main_v115 (F := Ideal) x0 x1 x2 x3 x4 (ix2 (rowAt b t) (headCol h d))
    = ((∑ a : Fin 3, ∑ s : Fin 256,
          Ideal.div (Ideal.exp (pickScores (blockIn t).val (picks x0 x3 b t h) (scores x0 x1 b t h) a s - most x0 x1 x3 b t h))
            (mass x0 x1 x3 b t h) * values x2 b h d (picks x0 x3 b t h a) s)
        + ∑ s : Fin 256, Ideal.div (Ideal.exp (ownScores x0 x1 b t h s - most x0 x1 x3 b t h)) (mass x0 x1 x3 b t h)
            * values x2 b h d (blockIn t).val s)
      * (x4 (ix2 (rowAt b t) (gateCol h d)) * Ideal.logistic (x4 (ix2 (rowAt b t) (gateCol h d)))) := by
  have e0 : idx_main_v112 (ix2 (rowAt b t) (headCol h d)) = ix4 b t h d := by
    refine idx4_ext ?_ ?_ ?_ ?_
    · show ((4096 * b.val + t.val) * 2048 + (128 * h.val + d.val)) / 8388608 = b.val
      omega
    · show ((4096 * b.val + t.val) * 2048 + (128 * h.val + d.val)) / 2048 % 4096 = t.val
      omega
    · show ((4096 * b.val + t.val) * 2048 + (128 * h.val + d.val)) / 128 % 16 = h.val
      omega
    · show ((4096 * b.val + t.val) * 2048 + (128 * h.val + d.val)) % 128 = d.val
      omega
  have e1 : val_main_v111 (F := Ideal) x4 (ix2 (rowAt b t) (headCol h d)) = x4 (ix2 (rowAt b t) (gateCol h d)) := by
    rw [val_main_v111_apply]
    exact congrArg x4 (idx2_ext rfl rfl)
  have hone : FloatOps.ofBits (F := Ideal) .f32 0x3F800000#32 = (1 : EReal) := Ideal.ofBits_one_f32
  rw [val_main_v115_apply, val_main_v114_apply, val_main_v112_apply, e0, val_main_v110_apply, pick_part, own_part,
    val_main_v113_apply, e1, val_main_call3_v5_apply, val_main_call3_v4_apply, val_main_call3_cst_0_apply,
    val_main_call3_v3_apply, val_main_call3_v2_apply, val_main_call3_cst_apply, val_main_call3_v1_apply,
    val_main_call3_v0_apply, e1, hone]
  rfl

end Cert.Proof.MobaRef

end
-- ==== Proof.MobaTile.lean ====
/- A tile of one head is the reference's: where the tile's queries, keys, values, means and gates are the reference's
   arguments at the tile's place, so is its result. -/
module

public import proofs.«01_k».proof.Proof.Running
public import proofs.«01_k».proof.Proof.RefSoftmax

@[expose] public section

set_option maxRecDepth 16384

noncomputable section

open Idealize.ShloMosaic Idealize.ShloMosaic.TcCoe Idealize.SL.Sem
open scoped BigOperators

namespace Cert.Proof.Moba

open Cert.MobaIdeal Cert.MobaIdeal.Gen Cert.Proof.Select Cert.Proof.Softmax Cert.Proof.MobaRef

theorem block_of_key (j : Fin 16) (s : Fin 256) : blockIn (keyAt j s) = j :=
  Fin.ext (by
    show (256 * j.val + s.val) / 256 = j.val
    omega)

theorem place_of_key (j : Fin 16) (s : Fin 256) : placeIn (keyAt j s) = s :=
  Fin.ext (by
    show (256 * j.val + s.val) % 256 = s.val
    omega)

section
variable (x0 : FVec Ideal Cert.MobaRefIdeal.S8192x2048 .bf16) (x1 x2 : FVec Ideal Cert.MobaRefIdeal.S8192x1024 .bf16)
  (x3 : FVec Ideal Cert.MobaRefIdeal.S32x1x1024 .f32) (x4 : FVec Ideal Cert.MobaRefIdeal.S8192x24576 .f32)
  (b : Fin 2) (h : Fin 16) (n : Fin 16)
  (q : FVec Ideal S256x128 .bf16) (km : FVec Ideal S128x128 .bf16)
  (K V : FVec Ideal S4096x128 .bf16) (r : Fin 256)

theorem score_agrees (eq : ∀ e, q (ix2 r e) = x0 (ix2 (rowAt b (keyAt n r)) (headCol h e)))
    (eK : ∀ u e, K (ix2 u e) = x1 (ix2 (rowAt b u) (groupCol (groupOf h) e))) :
    score q K r = scores x0 x1 b (keyAt n r) h := by
  funext j s
  unfold score scores dotRow
  split
  · rename_i hj
    exact Finset.sum_congr rfl fun e _ => congrArg₂ (· * ·) (eq e) (eK (keyAt ⟨j, hj⟩ s) e)
  · rfl

theorem own_agrees (eq : ∀ e, q (ix2 r e) = x0 (ix2 (rowAt b (keyAt n r)) (headCol h e)))
    (eK : ∀ u e, K (ix2 u e) = x1 (ix2 (rowAt b u) (groupCol (groupOf h) e))) :
    ownScore q K r n.val = ownScores x0 x1 b (keyAt n r) h := by
  funext s
  unfold ownScore ownScores
  rw [score_agrees x0 x1 b h n q K r eq eK, block_of_key, place_of_key]
  rfl

theorem gate_agrees (eq : ∀ e, q (ix2 r e) = x0 (ix2 (rowAt b (keyAt n r)) (headCol h e)))
    (em : ∀ j e, km (ix2 (wide j) e) = x3 (ix3 (meanAt b j) 0 (groupCol (groupOf h) e))) :
    gate q km r n.val = gateRow x0 x3 b (keyAt n r) h := by
  funext j
  unfold gate gateRow
  rw [block_of_key]
  split
  · exact Finset.sum_congr rfl fun e _ => by rw [eq e, em j e, mul_comm]
  · rfl

theorem pick_agrees (eq : ∀ e, q (ix2 r e) = x0 (ix2 (rowAt b (keyAt n r)) (headCol h e)))
    (em : ∀ j e, km (ix2 (wide j) e) = x3 (ix3 (meanAt b j) 0 (groupCol (groupOf h) e))) :
    pick q km r n.val = picks x0 x3 b (keyAt n r) h := by
  funext a
  unfold pick picks rank choice ranked
  rw [gate_agrees x0 x3 b h n q km r eq em]

theorem val_agrees (d : Fin 128) (eV : ∀ u e, V (ix2 u e) = x2 (ix2 (rowAt b u) (groupCol (groupOf h) e))) :
    val V d = values x2 b h d := by
  funext j s
  unfold val values
  split
  · rename_i hj
    exact eV (keyAt ⟨j, hj⟩ s) d
  · rfl

/-- **A tile of one head**, at row `r` and column `d`, is the reference at that position, head and column. -/
theorem tile_reference (i : grid0.Coords) (n : Fin 16) (hn : n.val = (i 1).val) (z : FVec Ideal S256x128 .f32) (d : Fin 128)
    (hq : ∀ x, Real' (q x)) (hk : ∀ x, Real' (km x)) (hK : ∀ x, Real' (K x))
    (eq : ∀ e, q (ix2 r e) = x0 (ix2 (rowAt b (keyAt n r)) (headCol h e)))
    (em : ∀ j e, km (ix2 (wide j) e) = x3 (ix3 (meanAt b j) 0 (groupCol (groupOf h) e)))
    (eK : ∀ u e, K (ix2 u e) = x1 (ix2 (rowAt b u) (groupCol (groupOf h) e)))
    (eV : ∀ u e, V (ix2 u e) = x2 (ix2 (rowAt b u) (groupCol (groupOf h) e)))
    (ez : z (ix2 r d) = x4 (ix2 (rowAt b (keyAt n r)) (gateCol h d))) :
    gated (fold (scoresOf q (blockOf K (i 1)) (k0_pay8 (F := Ideal))) (blockOf V (i 1)) (after q (marks i q km) K V (i 1).val)).2.1
        (fold (scoresOf q (blockOf K (i 1)) (k0_pay8 (F := Ideal))) (blockOf V (i 1)) (after q (marks i q km) K V (i 1).val)).2.2 z (ix2 r d)
      = Cert.MobaRefIdeal.Read.val_main_v115 (F := Ideal) x0 x1 x2 x3 x4 (ix2 (rowAt b (keyAt n r)) (headCol h d)) := by
  refine (tile_entry i q km K V r hq hk hK z d).trans ?_
  rw [reference_entry, ← hn, ez, val_agrees x2 b h V d eV, pick_agrees x0 x3 b h n q km r eq em,
    own_agrees x0 x1 b h n q K r eq eK, score_agrees x0 x1 b h n q K r eq eK]
  unfold most mass
  rw [block_of_key]

end

end Cert.Proof.Moba

end
-- ==== Proof.MobaBlocks.lean ====
/- Where the blocks of a grid point of the block attention lie, and what they hold. -/
module

public import proofs.«01_k».proof.Defs
public import proofs.«01_k».proof.Proof.Gen.MobaIdeal.Value
public import proofs.«01_k».proof.Proof.MobaTile
public import Idealize.ShloMosaic.Lib.Claim
public import Idealize.ShloMosaic.Lib.Pointwise
public import Idealize.ShloMosaic.Lib.KernelVsHost
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.Proof.Moba

open Cert.MobaIdeal Cert.MobaIdeal.Gen Cert.Proof.Select Cert.Proof.MobaRef

variable (m : (ℓ : Loc nD τ sig) → Buf (Elt Ideal) ℓ)

/-- Where each block of a grid point lies. -/
theorem where_blocks : ∀ t : Fin cfg0.N, win0_0.index t = ![t.val / 8, t.val % 8]
    ∧ win0_1.index t = ![t.val / 128, t.val % 8]
    ∧ win0_2.index t = ![t.val / 128, t.val % 8]
    ∧ win0_3.index t = ![t.val / 128, 0, t.val % 8]
    ∧ win0_4.index t = ![t.val / 8, 56 + (t.val % 8)]
    ∧ win0_5.index t = ![t.val / 8, t.val % 8] :=
  (by decide +kernel : ∀ t : Fin grid0.N, _)

/-- The block of queries a grid point stands for. -/
theorem coord_one : ∀ t : Fin cfg0.N, ((grid0.coords t) 1).val = t.val / 8 % 16 :=
  (by decide +kernel : ∀ t : Fin grid0.N, _)

/-- The block means as the kernel's first operations leave them: padded with zero rows. -/
theorem means (c : Dev nD) : V m c main_v1
    = pad S2x128x1024 ![0, 0, 0] ![0, 112, 0] ![0, 0, 0]
        (shapeCast S2x16x1024 (m ((c : Thread nD τ).loc main_arg3)) shapeCasts_S32x1x1024_S2x16x1024)
        (sitofp (F := Ideal) .f32 (constantI S_ 32 0#32)) pads_S2x16x1024_S2x128x1024_000_01120_000 h_S_ := by
  unfold V hostOps0 hostOps0_1
  simp only [List.flatten_cons, List.flatten_nil, List.append_nil, List.cons_append, List.nil_append]
  after_results
  rfl

theorem mean_inside (c : Dev nD) (b : Fin 2) (j : Fin 16) (k : Fin 1024) :
    V m c main_v1 (ix3 b (wide j) k) = m ((c : Thread nD τ).loc main_arg3) (ix3 (meanAt b j) 0 k) := by
  rw [means]
  refine (pad_apply_of_inside _ _ _ _ _ _ _ _ (ix3 b j k) fun a => ?_).trans ?_
  · match a with
    | ⟨0, _⟩ => show b.val = 0 + b.val * 1; omega
    | ⟨1, _⟩ => show j.val = 0 + j.val * 1; omega
    | ⟨2, _⟩ => show k.val = 0 + k.val * 1; omega
  · refine shapeCast_apply _ _ _ _ ?_
    refine (Shape.rowMajor_val_three (ix3 (meanAt b j) (0 : Fin 1) k)).trans
      (Eq.trans ?_ (Shape.rowMajor_val_three (ix3 b j k)).symm)
    show ((16 * b.val + j.val) * 1 + 0) * 1024 + k.val = (b.val * 16 + j.val) * 1024 + k.val
    omega

theorem sitofp_zero : FloatOps.sitofp (F := Ideal) .f32 (0#32 : BitVec 32) = (0 : EReal) := by
  show (((0#32 : BitVec 32).toInt : ℝ) : EReal) = 0
  simp

theorem mean_outside (c : Dev nD) (b : Fin 2) (l : Fin 128) (k : Fin 1024) (hl : 16 ≤ l.val) :
    V m c main_v1 (ix3 b l k) = (0 : EReal) := by
  rw [means]
  refine (pad_apply_of_not_inside _ _ _ _ _ _ _ _ 1 fun h => ?_).trans ?_
  · have h2 : (l.val - 0) / 1 < 16 := h.2.2
    rw [Nat.div_one] at h2
    omega
  · exact sitofp_zero

theorem mean_real (c : Dev nD) (hr : ∀ i, Real' (m ((c : Thread nD τ).loc main_arg3) i)) (i : S2x128x1024.Idx) :
    Real' (V m c main_v1 i) := by
  have e : i = ix3 (i 0) (i 1) (i 2) := idx3_ext rfl rfl rfl
  rw [e]
  by_cases h : (i 1).val < 16
  · exact (mean_inside m c (i 0) ⟨(i 1).val, h⟩ (i 2)).symm ▸ hr _
  · exact (congrArg Real' (mean_outside m c (i 0) (i 1) (i 2) (Nat.le_of_not_lt h))).mpr ⟨EReal.zero_ne_top, EReal.zero_ne_bot⟩

/-! ## The blocks -/

/-- The batch, the block of queries and the head a half of a grid point's tile stands for. -/
def batchOf (t : Fin cfg0.N) : Fin 2 := ⟨t.val / 128, by have h : t.val < 256 := t.isLt; omega⟩
def tileOf (t : Fin cfg0.N) : Fin 16 := ⟨t.val / 8 % 16, by omega⟩
def headOf (t : Fin cfg0.N) (a : Fin 2) : Fin 16 := ⟨2 * (t.val % 8) + a.val, by omega⟩

theorem half_inb (a : Fin 2) : ∀ k, (![0, 128 * a.val] : Fin 2 → ℕ) k + (![256, 128] : Fin 2 → ℕ) k ≤ S256x256.size k := by
  revert a
  decide

/-- Half `a` of a tile of 256 columns. -/
abbrev half {e : EltTy} (X : S256x256.Idx → Elt Ideal e) (a : Fin 2) : S256x128.Idx → Elt Ideal e :=
  View.ld (Val := Elt Ideal) X (Rect.unit (s := S256x256) ![0, 128 * a.val] ![256, 128] (half_inb a))

theorem half_entry {e : EltTy} (X : S256x256.Idx → Elt Ideal e) (a : Fin 2) (r : Fin 256) (d : Fin 128) :
    half X a (ix2 r d) = X (ix2 r ⟨128 * a.val + d.val, by omega⟩) := by
  refine congrArg X (idx2_ext ?_ ?_)
  · show 0 + 1 * r.val = r.val
    omega
  · show 128 * a.val + 1 * d.val = 128 * a.val + d.val
    omega

theorem query_block (c : Dev nD) (t : Fin cfg0.N) (a : Fin 2) (r : Fin 256) (d : Fin 128) :
    half (e := .bf16) (iblk m c 0 t) a (ix2 r d)
      = m ((c : Thread nD τ).loc main_arg0) (ix2 (rowAt (batchOf t) (keyAt (tileOf t) r)) (headCol (headOf t a) d)) := by
  rw [half_entry]
  have ht : t.val < 256 := t.isLt
  have ha : a.val < 2 := a.isLt
  blk_point [iblk, where_blocks t]
  · show t.val / 8 * 256 + r.val = 4096 * (t.val / 128) + (256 * (t.val / 8 % 16) + r.val)
    omega
  · show t.val % 8 * 256 + (128 * a.val + d.val) = 128 * (2 * (t.val % 8) + a.val) + d.val
    omega

theorem gate_block (c : Dev nD) (t : Fin cfg0.N) (a : Fin 2) (r : Fin 256) (d : Fin 128) :
    half (e := .f32) (iblk m c 4 t) a (ix2 r d)
      = m ((c : Thread nD τ).loc main_arg4) (ix2 (rowAt (batchOf t) (keyAt (tileOf t) r)) (gateCol (headOf t a) d)) := by
  rw [half_entry]
  have ht : t.val < 256 := t.isLt
  have ha : a.val < 2 := a.isLt
  blk_point [iblk, where_blocks t]
  · show t.val / 8 * 256 + r.val = 4096 * (t.val / 128) + (256 * (t.val / 8 % 16) + r.val)
    omega
  · show (56 + t.val % 8) * 256 + (128 * a.val + d.val) = 14336 + (128 * (2 * (t.val % 8) + a.val) + d.val)
    omega

theorem key_block (c : Dev nD) (t : Fin cfg0.N) (a : Fin 2) (u : Fin 4096) (d : Fin 128) :
    iblk m c 1 t (ix2 u d)
      = m ((c : Thread nD τ).loc main_arg1) (ix2 (rowAt (batchOf t) u) (groupCol (groupOf (headOf t a)) d)) := by
  have ht : t.val < 256 := t.isLt
  have ha : a.val < 2 := a.isLt
  blk_point [iblk, where_blocks t]
  · show t.val / 128 * 4096 + u.val = 4096 * (t.val / 128) + u.val
    omega
  · show t.val % 8 * 128 + d.val = 128 * ((2 * (t.val % 8) + a.val) / 2) + d.val
    omega

theorem value_block (c : Dev nD) (t : Fin cfg0.N) (a : Fin 2) (u : Fin 4096) (d : Fin 128) :
    iblk m c 2 t (ix2 u d)
      = m ((c : Thread nD τ).loc main_arg2) (ix2 (rowAt (batchOf t) u) (groupCol (groupOf (headOf t a)) d)) := by
  have ht : t.val < 256 := t.isLt
  have ha : a.val < 2 := a.isLt
  blk_point [iblk, where_blocks t]
  · show t.val / 128 * 4096 + u.val = 4096 * (t.val / 128) + u.val
    omega
  · show t.val % 8 * 128 + d.val = 128 * ((2 * (t.val % 8) + a.val) / 2) + d.val
    omega

theorem mean_block (c : Dev nD) (t : Fin cfg0.N) (a : Fin 2) (l : Fin 128) (d : Fin 128) :
    iblk m c 3 t (ix3 0 l d) = V m c main_v1 (ix3 (batchOf t) l (groupCol (groupOf (headOf t a)) d)) := by
  have ht : t.val < 256 := t.isLt
  have ha : a.val < 2 := a.isLt
  blk_point [iblk, where_blocks t]
  · show t.val / 128 + 0 = t.val / 128
    omega
  · show t.val % 8 * 128 + d.val = 128 * ((2 * (t.val % 8) + a.val) / 2) + d.val
    omega

/-- Where an entry of half `a` of a point's tile lies in the result. -/
theorem place_of_entry (t : Fin cfg0.N) (a : Fin 2) (r : Fin 256) (d : Fin 128) (y : ((cfg0.win 5).xblock (cfg0.grid.coords t)).Idx)
    (h0 : (y 0).val = r.val) (h1 : (y 1).val = 128 * a.val + d.val) :
    ((cfg0.win 5).blk t).view.emb y = ix2 (rowAt (batchOf t) (keyAt (tileOf t) r)) (headCol (headOf t a) d) := by
  have ht : t.val < 256 := t.isLt
  refine idx2_ext ?_ ?_
  · blk_simp [where_blocks t]
    rw [h0]
    show t.val / 8 * 256 + r.val = 4096 * (t.val / 128) + (256 * (t.val / 8 % 16) + r.val)
    omega
  · blk_simp [where_blocks t]
    rw [h1]
    show t.val % 8 * 256 + (128 * a.val + d.val) = 128 * (2 * (t.val % 8) + a.val) + d.val
    omega

end Cert.Proof.Moba

end
-- ==== Proof.MobaValue.lean ====
/- The block attention: each tile the kernel writes is that tile of the whole result. -/
module

public import proofs.«01_k».proof.Defs
public import proofs.«01_k».proof.Proof.Gen.MobaIdeal.Value
public import proofs.«01_k».proof.Proof.Gen.MobaRefIdeal.Read
public import proofs.«01_k».proof.Proof.MobaBlocks
public import proofs.«01_k».proof.Proof.Precondition
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.Proof.Moba

open Cert.MobaIdeal Cert.MobaIdeal.Gen Cert.Proof.Select Cert.Proof.MobaRef

variable (m : (ℓ : Loc nD τ sig) → Buf (Elt Ideal) ℓ)

/-- The whole result, of the arguments as launched. -/
abbrev whole (c : Dev nD) : FVec Ideal Cert.MobaRefIdeal.S8192x2048 .bf16 :=
  Cert.MobaRefIdeal.Read.val_main_v115 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- What the kernel writes for one half of a tile, told by the blocks it reads. -/
abbrev halfTile (c : Dev nD) (t : Fin cfg0.N) (a : Fin 2) : FVec Ideal S256x128 .bf16 :=
  let q : FVec Ideal S256x128 .bf16 := half (e := .bf16) (iblk m c 0 t) a
  let st : Running := fold (scoresOf q (blockOf (iblk m c 1 t) ((grid0.coords t) 1)) (k0_pay8 (F := Ideal)))
    (blockOf (iblk m c 2 t) ((grid0.coords t) 1))
    (after q (marks (grid0.coords t) q (k0_pay9 (F := Ideal) (iblk m c 3 t))) (iblk m c 1 t) (iblk m c 2 t) ((grid0.coords t) 1).val)
  gated st.2.1 st.2.2 (half (e := .f32) (iblk m c 4 t) a)

/-- The queries, the keys and the block means are finite. -/
def Finite (c : Dev nD) : Prop :=
  (∀ i, Real' (m ((c : Thread nD τ).loc main_arg0) i)) ∧ (∀ i, Real' (m ((c : Thread nD τ).loc main_arg1) i))
    ∧ ∀ i, Real' (m ((c : Thread nD τ).loc main_arg3) i)

theorem halfTile_entry (c : Dev nD) (hf : Finite m c) (t : Fin cfg0.N) (a : Fin 2) (r : Fin 256) (d : Fin 128) :
    halfTile m c t a (ix2 r d) = whole m c (ix2 (rowAt (batchOf t) (keyAt (tileOf t) r)) (headCol (headOf t a) d)) := by
  refine tile_reference _ _ _ _ _ (batchOf t) (headOf t a) (half (e := .bf16) (iblk m c 0 t) a)
    (k0_pay9 (F := Ideal) (iblk m c 3 t)) (iblk m c 1 t) (iblk m c 2 t) r (grid0.coords t) (tileOf t)
    (coord_one t).symm (half (e := .f32) (iblk m c 4 t) a) d (fun x => ?_) (fun x => ?_) (fun x => ?_) (fun e => query_block m c t a r e) (fun j e => ?_)
    (fun u e => key_block m c t a u e) (fun u e => value_block m c t a u e) (gate_block m c t a r d)
  · have e : x = ix2 (x 0) (x 1) := idx2_ext rfl rfl
    rw [e]
    exact (congrArg Real' (query_block m c t a (x 0) (x 1))).mpr (hf.1 _)
  · have e : x = ix2 (x 0) (x 1) := idx2_ext rfl rfl
    rw [e]
    exact (congrArg Real' ((mean_entry _ (x 0) (x 1)).trans (mean_block m c t a (x 0) (x 1)))).mpr (mean_real m c hf.2.2 _)
  · have e : x = ix2 (x 0) (x 1) := idx2_ext rfl rfl
    rw [e]
    exact (congrArg Real' (key_block m c t a (x 0) (x 1))).mpr (hf.2.1 _)
  · exact ((mean_entry _ (wide j) e).trans (mean_block m c t a (wide j) e)).trans (mean_inside m c (batchOf t) j _)

theorem trips_two (i : grid0.Coords) : (k0_t2_loop i).trips = 0 := by
  have h : ∀ n : Fin 16, Scf.trips (Scalar.addi 0#32 (Scalar.muli (Scalar.divsi (Scalar.subi (BitVec.ofNat 32 n.val) 0#32) 1#32) 1#32))
      (Scalar.addi 0#32 (Scalar.subi (BitVec.ofNat 32 n.val) 0#32)) 1#32 = 0 := by decide
  exact h (i 1)

theorem trips_four (i : grid0.Coords) : (k0_t4_loop i).trips = 0 := trips_two i

/-- The last block of the first head and its gate, as the kernel computes them. -/
theorem finish_first (q : FVec Ideal S256x128 .bf16) (k v : FVec Ideal S256x128 .bf16) (z : FVec Ideal S256x128 .f32)
    (st : Running) :
    k0_pay34 st.1 st.2.1 st.2.2 v (k0_pay33 (k0_pay8 (F := Ideal)) q k) z
      = gated (fold (scoresOf q k (k0_pay8 (F := Ideal))) v st).2.1 (fold (scoresOf q k (k0_pay8 (F := Ideal))) v st).2.2 z := rfl

/-- The last block of the second head and its gate, as the kernel computes them. -/
theorem finish_second (q : FVec Ideal S256x128 .bf16) (k v : FVec Ideal S256x128 .bf16) (z : FVec Ideal S256x128 .f32)
    (st : Running) :
    k0_pay7 (k0_pay8 (F := Ideal)) q st.1 st.2.1 st.2.2 k v z
      = gated (fold (scoresOf q k (k0_pay8 (F := Ideal))) v st).2.1 (fold (scoresOf q k (k0_pay8 (F := Ideal))) v st).2.2 z := rfl

/-- **The array of the kernel after its run** is the whole result, where the arguments are finite. -/
theorem attended (c : Dev nD) (hf : Finite m c) : (dats m 0 c).arrAt 5 (cfgs 0).N = whole m c := by
  refine (dats m 0 c).arrAt_eq_of_covers 5 _ (by decide +kernel) fun t _ y => ?_
  blk_simp
  rw [after0_5]
  unfold outsAt0
  frame_out
  have e1 : Scf.trips 0#32 (Scalar.addi 0#32 (Scalar.muli (Scalar.divsi (Scalar.subi (BitVec.ofNat 32 ((grid0.coords t) 1).val) 0#32) 1#32) 1#32)) 1#32
      = ((grid0.coords t) 1).val := trips_one (grid0.coords t)
  have e2 : Scf.trips (Scalar.addi 0#32 (Scalar.muli (Scalar.divsi (Scalar.subi (BitVec.ofNat 32 ((grid0.coords t) 1).val) 0#32) 1#32) 1#32))
      (Scalar.addi 0#32 (Scalar.subi (BitVec.ofNat 32 ((grid0.coords t) 1).val) 0#32)) 1#32 = 0 := trips_two (grid0.coords t)
  canon_tiles x h
  · rw [e2, e1, st_k0_t4_zero]
    rw [show ((k0_pay41 (F := Ideal), k0_pay42 (F := Ideal), k0_pay43 (F := Ideal)) : Running)
      = (k0_pay18 (F := Ideal), k0_pay19 (F := Ideal), k0_pay20 (F := Ideal)) from rfl]
    rw [state_second _ _ _ _ _ _ _ _ _ _ _ _ _ _ _ _ _ lanes _ _ _ _ _ _ (iblk m c 1 t) (iblk m c 2 t) _ le_rfl, chosen_second,
      load_block (iblk m c 1 t) _ ((grid0.coords t) 1) (k0_off3_eq (grid0.coords t)),
      load_block (iblk m c 2 t) _ ((grid0.coords t) 1) (k0_off3_eq (grid0.coords t))]
    refine (congrFun (finish_second _ _ _ _ _) x).trans ?_
    rw [idx2_ext (x := x) (a := x 0) (b := x 1) rfl rfl]
    exact (halfTile_entry m c hf t 1 (x 0) (x 1)).trans
      (congrArg (whole m c) (place_of_entry t 1 (x 0) (x 1) y h0 h1)).symm
  · rw [e2, e1, st_k0_t2_zero]
    rw [state_first _ _ _ _ _ _ _ _ _ _ _ _ _ _ _ _ _ lanes _ _ _ _ _ _ _ (iblk m c 1 t) (iblk m c 2 t) _ le_rfl, chosen_first,
      load_block (iblk m c 1 t) _ ((grid0.coords t) 1) (k0_off3_eq (grid0.coords t)),
      load_block (iblk m c 2 t) _ ((grid0.coords t) 1) (k0_off3_eq (grid0.coords t))]
    refine (congrFun (finish_first _ _ _ _ _) x).trans ?_
    rw [idx2_ext (x := x) (a := x 0) (b := x 1) rfl rfl]
    exact (halfTile_entry m c hf t 0 (x 0) (x 1)).trans
      (congrArg (whole m c) (place_of_entry t 0 (x 0) (x 1) y h0 (h1.trans (Nat.zero_add _).symm))).symm

/-- Over the extended reals, where the queries, the keys and the block means are finite, the kernel and the reference end
    with equal arrays. -/
theorem algebraic : Cert.algebraic_MobaIdeal_MobaRefIdeal_pre_finite := by
  intro m g m' g' hpre hagree
  have hf : ∀ c, Finite m c := fun c => Precondition.finite _ _ _ _ _ (hpre c)
  refine ⟨fun c => whole m c, ?_, ?_⟩
  · exact (θ_run Cert.MobaIdeal.defs _ _).mono (fun r h c => ⟨(h c).1.trans (attended m c (hf c)), (h c).2⟩) (Cert.MobaIdeal.Value.run_blocks m g)
  · refine (θ_run Cert.MobaRefIdeal.defs _ _).mono (fun r h c => ⟨(h c).1.trans ?_, (h c).2⟩)
      (Cert.MobaRefIdeal.Value.run (F := Ideal) m' g')
    obtain ⟨h0, h1, h2, h3, h4⟩ := hagree c
    refine (Cert.MobaRefIdeal.Read.val_main_v115_eq m' c).trans ?_
    rw [h0, h1, h2, h3, h4]

end Cert.Proof.Moba

end
-- ==== Proof.ProjValue.lean ====
/- The large projection: the tiles the kernel writes make up the product of the two whole matrices. -/
module

public import proofs.«01_k».proof.Defs
public import proofs.«01_k».proof.Proof.Gen.ProjIdeal.Value
public import proofs.«01_k».proof.Proof.Gen.ProjRefIdeal.Read
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.Proof.Proj

open Cert.ProjIdeal Cert.ProjIdeal.Gen
open Cert.ProjRefIdeal.Read (val_main_v0 val_main_v1 val_main_v2)

variable (m : (ℓ : Loc nD τ sig) → Buf (Elt Ideal) ℓ)

/-- Where each of the three blocks of a grid point lies: a row strip, a column strip, the tile where they cross. -/
theorem where_blocks : ∀ t : Fin cfg0.N, win0_0.index t = ![t.val / 24, 0]
    ∧ win0_1.index t = ![0, t.val % 24]
    ∧ win0_2.index t = ![t.val / 24, t.val % 24] :=
  (by decide +kernel : ∀ t : Fin grid0.N, _)

/-- An entry of the tile a grid point writes is the entry of the whole product at the same place. -/
theorem tile_entry (c : Dev nD) (t : Fin cfg0.N) (y) :
    k0_pay1 (iblk m c 0 t) (iblk m c 1 t) y
      = val_main_v2 (F := Ideal) (m ((c : Thread nD τ).loc main_arg0)) (m ((c : Thread nD τ).loc main_arg1))
          (((cfg0.win 2).blk t).view.emb y) := by
  pointwise [k0_pay1, val_main_v2, val_main_v0, val_main_v1]
  blk_point [iblk, V, where_blocks t]

/-- The array of the kernel after its run is the whole product. -/
theorem product (c : Dev nD) : (dats m 0 c).arrAt 2 (cfgs 0).N
    = val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  exact tile_entry m c t y

/-- Over the extended reals, the kernel and the reference end with equal arrays. -/
theorem algebraic : Cert.algebraic_ProjIdeal_ProjRefIdeal := by
  pair_intro
  · run_from Cert.ProjIdeal.Gen.run_main m g
  · hlo_run
    exact (product m c).symm

end Cert.Proof.Proj

end
-- ==== Proof.MergeValue.lean ====
/- The merge of the two branches: each tile the kernel writes is that tile of the whole result. -/
module

public import proofs.«01_k».proof.Defs
public import proofs.«01_k».proof.Proof.Gen.MergeIdeal.Value
public import proofs.«01_k».proof.Proof.Gen.MergeRefIdeal.Read
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.Proof.Merge

open Cert.MergeIdeal Cert.MergeIdeal.Gen
open Cert.MergeRefIdeal.Read

variable (m : (ℓ : Loc nD τ sig) → Buf (Elt Ideal) ℓ)

/-- Where each block of a grid point lies: the tile of the residual, the two row strips of the branches, the two
    column strips of their weights, the two tiles of the gates, the tile of the result. -/
theorem where_blocks : ∀ t : Fin cfg0.N, win0_0.index t = ![t.val / 8, t.val % 8]
    ∧ win0_1.index t = ![t.val / 8, 0]
    ∧ win0_2.index t = ![t.val / 8, 0]
    ∧ win0_3.index t = ![0, 0, t.val % 8]
    ∧ win0_4.index t = ![1, 0, t.val % 8]
    ∧ win0_5.index t = ![t.val / 8, 32 + (t.val % 8)]
    ∧ win0_6.index t = ![t.val / 8, 40 + (t.val % 8)]
    ∧ win0_7.index t = ![t.val / 8, t.val % 8] :=
  (by decide +kernel : ∀ t : Fin grid0.N, _)

/-- The two branches stacked, read at one branch. -/
theorem stacked_entry (a b : Vec Ideal Cert.MergeRefIdeal.S8192x2048 .bf16) (r : Fin 8192) (n : Fin 2) (k : Fin 2048) :
    val_main_v4 (F := Ideal) a b (ix3 r n k) = if n.val = 0 then a (ix2 r k) else b (ix2 r k) := by
  unfold val_main_v4 val_main_v2 val_main_v3 val_main_v0 val_main_v1
  fin_cases n <;> pointwise

/-- The reference read at row `r` and column `e`. -/
theorem reference_entry (x : Vec Ideal Cert.MergeRefIdeal.S8192x4096 .f32) (a b : Vec Ideal Cert.MergeRefIdeal.S8192x2048 .bf16)
    (w : Vec Ideal Cert.MergeRefIdeal.S1x2x2048x4096 .f32) (p : Vec Ideal Cert.MergeRefIdeal.S8192x24576 .f32)
    (y : Cert.MergeRefIdeal.S8192x4096.Idx) (r : Fin 8192) (e : Fin 4096) (hr : (y 0).val = r.val) (he : (y 1).val = e.val) :
    val_main_v18 (F := Ideal) x a b w p y
      = x (ix2 r e)
        + (Ideal.logistic (p (ix2 r ⟨16384 + e.val, by omega⟩)) * (∑ k : Fin 2048, a (ix2 r k) * w (ix4 0 0 k e))
          + Ideal.logistic (p (ix2 r ⟨20480 + e.val, by omega⟩)) * (∑ k : Fin 2048, b (ix2 r k) * w (ix4 0 1 k e))) := by
  have ey : y = ix2 r e := by
    funext c
    apply Fin.ext
    match c with
    | ⟨0, _⟩ => exact hr
    | ⟨1, _⟩ => exact he
  subst ey
  have hrl := r.isLt
  have hel := e.isLt
  simp only [val_main_v18_apply, val_main_v17_apply, val_main_v16_apply, val_main_v15_apply, val_main_v14_apply,
    val_main_v13_apply, val_main_v12_apply, val_main_v11_apply, val_main_v10_apply, val_main_v9_apply,
    val_main_v8_apply, val_main_v7_apply, val_main_v6_apply, val_main_v5_apply, val_main_cst_apply,
    val_main_cst_0_apply, val_main_cst_1_apply]
  have ep : ∀ n : Fin 2, idx_main_v8 (idx_main_v9 (idx_main_v17 (ix2 r e) n))
      = ix2 r ⟨16384 + n.val * 4096 + e.val, by omega⟩ := fun n => by
    have hn := n.isLt
    funext c
    apply Fin.ext
    match c with
    | ⟨0, _⟩ => show ((r.val * 2 + n.val) * 4096 + e.val) / 8192 = r.val; omega
    | ⟨1, _⟩ => show 16384 + ((r.val * 2 + n.val) * 4096 + e.val) % 8192 = 16384 + n.val * 4096 + e.val; omega
  have ew : ∀ (n : Fin 2) (k : Fin 2048), idx_main_v5 (lidx_main_v6 (idx_main_v7 (idx_main_v17 (ix2 r e) n)) k)
      = ix4 0 n k e := fun n k => by
    have hn := n.isLt
    have hk := k.isLt
    funext c
    apply Fin.ext
    match c with
    | ⟨0, _⟩ => rfl
    | ⟨1, _⟩ => show ((n.val * 2048 + k.val) * 4096 + e.val) / 8388608 % 2 = n.val; omega
    | ⟨2, _⟩ => show ((n.val * 2048 + k.val) * 4096 + e.val) / 4096 % 2048 = k.val; omega
    | ⟨3, _⟩ => show ((n.val * 2048 + k.val) * 4096 + e.val) % 4096 = e.val; omega
  have es : ∀ (n : Fin 2) (k : Fin 2048), ridx_main_v6 (idx_main_v7 (idx_main_v17 (ix2 r e) n)) k = ix3 r n k :=
    fun n k => by
      funext c
      match c with
      | ⟨0, _⟩ => rfl
      | ⟨1, _⟩ => rfl
      | ⟨2, _⟩ => rfl
  simp only [ep, ew, es, stacked_entry, Fin.sum_univ_two]
  pointwise
  simp only [mul_comm (w _)]
  rfl

/-- An entry of the tile a grid point writes is the entry of the whole result at the same place. -/
theorem tile_entry (c : Dev nD) (t : Fin cfg0.N) (y) :
    k0_pay1 (iblk m c 1 t) (iblk m c 3 t) (iblk m c 2 t) (iblk m c 4 t) (iblk m c 0 t) (iblk m c 5 t) (iblk m c 6 t) y
      = val_main_v18 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (((cfg0.win 7).blk t).view.emb y) := by
  idx_vars y
  have ht : t.val < 128 := t.isLt
  have hr := y0.isLt
  have he := y1.isLt
  rw [reference_entry _ _ _ _ _ _ ⟨t.val / 8 * 512 + y0.val, by omega⟩ ⟨t.val % 8 * 512 + y1.val, by omega⟩
    (by blk_simp [where_blocks t]) (by blk_simp [where_blocks t])]
  pointwise [k0_pay1]
  blk_point [iblk, V, where_blocks t]

/-- The array of the kernel after its run is the whole merged array. -/
theorem merged (c : Dev nD) : (dats m 0 c).arrAt 7 (cfgs 0).N
    = val_main_v18 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]
  frame_out
  exact tile_entry m c t y

/-- Over the extended reals, the kernel and the reference end with equal arrays. -/
theorem algebraic : Cert.algebraic_MergeIdeal_MergeRefIdeal := by
  pair_intro
  · run_from Cert.MergeIdeal.Gen.run_main m g
  · hlo_run
    obtain ⟨-, ha, hb, -, -⟩ := hagree c
    refine (val_main_v18_eq (m ((c : Thread nD τ).loc main_arg0)) (m' ((c : Thread nD τ).loc Cert.MergeRefIdeal.main_arg1))
      (m' ((c : Thread nD τ).loc Cert.MergeRefIdeal.main_arg2)) (m ((c : Thread nD τ).loc main_arg3))
      (m ((c : Thread nD τ).loc main_arg4))).trans ?_
    exact (congrArg₂ (fun a b => val_main_v18 (F := Ideal) (m ((c : Thread nD τ).loc main_arg0)) a b
      (m ((c : Thread nD τ).loc main_arg3)) (m ((c : Thread nD τ).loc main_arg4))) ha hb).trans (merged m c).symm

end Cert.Proof.Merge

end
-- ==== Proof.NormValue.lean ====
/- The normalisation of the rows: each strip of rows the kernel writes is that strip of the whole result. -/
module

public import proofs.«01_k».proof.Defs
public import proofs.«01_k».proof.Proof.Gen.NormIdeal.Value
public import proofs.«01_k».proof.Proof.Gen.NormRefIdeal.Read
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.Proof.Norm

open Cert.NormIdeal Cert.NormIdeal.Gen
open Cert.NormRefIdeal.Read

variable (m : (ℓ : Loc nD τ sig) → Buf (Elt Ideal) ℓ)

/-- Where each block of a grid point lies: a strip of rows, all the gains, the strip of rows of the result. -/
theorem where_blocks : ∀ t : Fin cfg0.N, win0_0.index t = ![t.val, 0]
    ∧ win0_1.index t = ![0, 0]
    ∧ win0_2.index t = ![t.val, 0] :=
  (by decide +kernel : ∀ t : Fin grid0.N, _)

/-- The reference read at row `y 0` and column `y 1` of the flattened result. -/
theorem reference_entry (x : Vec Ideal Cert.NormRefIdeal.S2x4096x4096 .f32) (g : Vec Ideal Cert.NormRefIdeal.S1x4096 .f32)
    (y : Cert.NormRefIdeal.S8192x4096.Idx) (b : Fin 2) (s : Fin 4096) (e : Fin 4096)
    (hr : (y 0).val = b.val * 4096 + s.val) (he : (y 1).val = e.val) :
    val_main_v15 (F := Ideal) x g y
      = x (ix3 b s e) * Ideal.rsqrt (Ideal.div (∑ k : Fin 4096, x (ix3 b s k) * x (ix3 b s k))
          (Ideal.ofBits .f32 0x45800000#32) + Ideal.ofBits .f32 0x358637BD#32) * g (ix2 0 e) := by
  simp only [val_main_v15_apply, val_main_v14_apply, val_main_v13_apply, val_main_v12_apply, val_main_v11_apply,
    val_main_v10_apply, val_main_v9_apply, val_main_v8_apply, val_main_v7_apply, val_main_v6_apply, val_main_v5_apply,
    val_main_v4_apply, val_main_v3_apply, val_main_v2_apply, val_main_v1_apply, val_main_v0_apply, val_main_cst_apply,
    val_main_cst_0_apply, val_main_cst_1_apply]
  have hb := b.isLt
  have hs := s.isLt
  have hel := e.isLt
  have e3 : idx_main_v15 y = ix3 b s e := by
    funext a
    apply Fin.ext
    match a with
    | ⟨0, _⟩ => show ((y 0).val * 4096 + (y 1).val) / 16777216 = b.val; omega
    | ⟨1, _⟩ => show ((y 0).val * 4096 + (y 1).val) / 4096 % 4096 = s.val; omega
    | ⟨2, _⟩ => show ((y 0).val * 4096 + (y 1).val) % 4096 = e.val; omega
  rw [e3]
  have er : ∀ k, idx_main_v1 (idx_main_v2 (idx_main_v8 (ix3 b s e))) k = ix3 b s k := fun k => by
    funext a
    match a with
    | ⟨0, _⟩ => rfl
    | ⟨1, _⟩ => rfl
    | ⟨2, _⟩ => rfl
  have eg : idx_main_v10 (idx_main_v11 (idx_main_v12 (ix3 b s e))) = ix2 0 e := by
    funext a
    apply Fin.ext
    match a with
    | ⟨0, _⟩ => rfl
    | ⟨1, _⟩ => show e.val % 4096 = e.val; omega
  simp only [er, eg]
  pointwise

/-- An entry of the strip a grid point writes is the entry of the whole result at the same place. -/
theorem strip_entry (c : Dev nD) (t : Fin cfg0.N) (y) :
    k0_pay1 (iblk m c 0 t) (iblk m c 1 t) y
      = val_main_v15 (F := Ideal) (m ((c : Thread nD τ).loc main_arg0)) (m ((c : Thread nD τ).loc main_arg1))
          (((cfg0.win 2).blk t).view.emb y) := by
  idx_vars y
  have ht : t.val < 16 := t.isLt
  have hr := y0.isLt
  rw [reference_entry _ _ _ ⟨t.val / 8, by omega⟩ ⟨t.val % 8 * 512 + y0.val, by omega⟩ y1
    (by blk_simp [where_blocks t]; show _ = t.val / 8 * 4096 + (t.val % 8 * 512 + y0.val); omega) (by blk_simp [where_blocks t])]
  pointwise [k0_pay1]
  blk_point [iblk, V, where_blocks t]

/-- The array of the kernel after its run is the whole normalised array. -/
theorem normalised (c : Dev nD) : (dats m 0 c).arrAt 2 (cfgs 0).N
    = val_main_v15 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  exact strip_entry m c t y

/-- Over the extended reals, the kernel and the reference end with equal arrays. -/
theorem algebraic : Cert.algebraic_NormIdeal_NormRefIdeal := by
  pair_intro
  · run_from Cert.NormIdeal.Gen.run_main m g
  · hlo_run
    exact (normalised m c).symm

end Cert.Proof.Norm

end
-- ==== Proof.Rotary.lean ====
/- The arithmetic of one head of one row: the normalisation by the mean square and the rotary turn. -/
module

public import Idealize.ShloMosaic.Lib.Pointwise
public import Idealize.ShloMosaic.Lib.ValueIdx
public import Idealize.ShloMosaic.PureOps.Ideal.Laws

@[expose] public section

noncomputable section

open Idealize.ShloMosaic
open scoped BigOperators

namespace Cert.Proof.Rotary

/-- A vector divided by the root of its mean square (`size` is the number the sum of squares is divided by), times a gain. -/
def rmsNorm {n : ℕ} (size : EReal) (x g : Fin n → EReal) (e : Fin n) : EReal :=
  x e * Ideal.rsqrt (Ideal.div (∑ k : Fin n, x k * x k) size + Ideal.ofBits .f32 0x358637BD#32) * g e

/-- The length of a row of the layer, as a number. -/
def rowSize : EReal := Ideal.ofBits .f32 0x45800000#32

/-- The length of a head, as a number. -/
def headSize : EReal := Ideal.ofBits .f32 0x43000000#32

/-- The scale of a score, the inverse root of the length of a head. -/
def headScale : EReal := (((Real.sqrt 128)⁻¹ : ℝ) : EReal)

/-- The scale of the scores is one over the root of a head's size. -/
theorem rsqrt_headSize : Ideal.rsqrt headSize = headScale := by
  have h : headSize = ((128 : ℝ) : EReal) := by
    unfold headSize
    simp [Ideal.ofBits, Ideal.ieee, -EReal.coe_mul]
    norm_num
  rw [h, Ideal.rsqrt_coe, if_neg (by norm_num), if_neg (by norm_num)]
  rfl

/-- The number of rows in a strip, as a number. -/
def stripSize : EReal := Ideal.ofBits .f32 0x43800000#32

/-- The scale of the indexer's weights. -/
def weightScale : EReal := Ideal.ofBits .f32 0x3C800000#32

/-- The lane half a head away. -/
def across (j : Fin 128) : Fin 128 := ⟨(j.val + 128 - 64) % 128, Nat.mod_lt _ (by decide)⟩

/-- The turn as the kernel does it: tables over all lanes of the head, the sine's first half negated. -/
def turned (cos sin y : Fin 128 → EReal) (j : Fin 128) : EReal := y j * cos j + y (across j) * sin j

/-- The lower or upper lane of a pair, as a lane of the half. -/
def lane (j : Fin 128) : Fin 64 := ⟨j.val % 64, Nat.mod_lt _ (by decide)⟩

/-- The turn as the reference does it: one angle for a pair of lanes. -/
def turnedPairs (cos sin : Fin 64 → EReal) (y : Fin 128 → EReal) (j : Fin 128) : EReal :=
  if j.val < 64 then y j * cos (lane j) - y (across j) * sin (lane j) else y j * cos (lane j) + y (across j) * sin (lane j)

/-- The two turns agree when the wide tables repeat the narrow ones. -/
theorem turned_eq (cos sin y : Fin 128 → EReal) (c s : Fin 64 → EReal) (hc : ∀ j, cos j = c (lane j))
    (hs : ∀ j, sin j = if j.val < 64 then -s (lane j) else s (lane j)) (j : Fin 128) :
    turned cos sin y j = turnedPairs c s y j := by
  unfold turned turnedPairs
  rw [hc, hs]
  split
  · rw [mul_neg, ← sub_eq_add_neg]
  · rfl

end Cert.Proof.Rotary

end
-- ==== Proof.PostRefA.lean ====
/- The reference read at one entry: the queries and keys of the first branch. -/
module

public import proofs.«01_k».proof.Proof.Gen.PostRefIdeal.Read
public import proofs.«01_k».proof.Proof.Rotary
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open scoped BigOperators

namespace Cert.Proof.PostRef

open Cert.PostRefIdeal Cert.PostRefIdeal.Read
open Cert.Proof.Rotary

variable (x0 : Vec Ideal S8192x24576 .f32) (x1 : Vec Ideal S8192x256 .f32) (x2 x3 : Vec Ideal S4096x64 .f32)
  (x4 x5 x6 x7 : Vec Ideal S1x128 .f32)

/-- The row of the flattened arrays that holds position `s` of sequence `b`. -/
def rowOf (b : Fin 2) (s : Fin 4096) : Fin 8192 := ⟨b.val * 4096 + s.val, by have := b.isLt; have := s.isLt; omega⟩

/-- The sequence a row belongs to. -/
def seqOf (n : Fin 8192) : Fin 2 := ⟨n.val / 4096, by have := n.isLt; omega⟩

/-- The place of a row in its sequence. -/
def posOf (n : Fin 8192) : Fin 4096 := ⟨n.val % 4096, by have := n.isLt; omega⟩

/-- A row is the row of its sequence and its place in it. -/
theorem rowOf_split (n : Fin 8192) : rowOf (seqOf n) (posOf n) = n :=
  Fin.ext (by simp only [rowOf, seqOf, posOf] <;> omega)

/-- Queries of the first branch: a head cut out of its array. -/
theorem heads_q_a (b : Fin 2) (s : Fin 4096) (h : Fin 16) (j : Fin 128) :
    val_main_v4 (F := Ideal) x0 (ix4 b s h j) = x0 (ix2 (rowOf b s) ⟨h.val * 128 + j.val, by have := h.isLt; have := j.isLt; omega⟩) := by
  rw [val_main_v4_apply, val_main_v3_apply, val_main_v1_apply]
  refine congrArg x0 ?_
  have hb := b.isLt
  have hs := s.isLt
  have hh := h.isLt
  have hj := j.isLt
  funext a
  apply Fin.ext
  match a with
  | ⟨0, _⟩ => simp [idx_main_v1, idx_main_v3, idx_main_v4, rowOf]; omega
  | ⟨1, _⟩ => simp [idx_main_v1, idx_main_v3, idx_main_v4, rowOf]; omega

/-- Queries of the first branch: a head normalised. -/
theorem norm_q_a (b : Fin 2) (s : Fin 4096) (h : Fin 16) (j : Fin 128) :
    val_main_v18 (F := Ideal) x0 x4 (ix4 b s h j)
      = rmsNorm headSize (fun i => val_main_v4 (F := Ideal) x0 (ix4 b s h i)) (fun i => x4 (ix2 0 i)) j := by
  unfold rmsNorm headSize
  pointwise [val_main_v18, val_main_v17, val_main_v16, val_main_v15, val_main_v14, val_main_v13, val_main_v12, val_main_v11, val_main_v10, val_main_v9, val_main_v8, val_main_v7, val_main_v6, val_main_v5, val_main_cst_0, val_main_cst_1, val_main_cst_2]

/-- Queries of the first branch: the first half of a turned head. -/
theorem low_q_a (b : Fin 2) (s : Fin 4096) (h : Fin 16) (i : Fin 64) :
    val_main_v29 (F := Ideal) x0 x2 x3 x4 (ix4 b s h i)
      = val_main_v18 (F := Ideal) x0 x4 (ix4 b s h ⟨i.val, by have := i.isLt; omega⟩) * x2 (ix2 s i)
        - val_main_v18 (F := Ideal) x0 x4 (ix4 b s h ⟨64 + i.val, by have := i.isLt; omega⟩) * x3 (ix2 s i) := by
  pointwise [val_main_v29, val_main_v28, val_main_v27, val_main_v26, val_main_v25, val_main_v24, val_main_v23, val_main_v22, val_main_v21, val_main_v20, val_main_v19]

/-- Queries of the first branch: the second half of a turned head. -/
theorem high_q_a (b : Fin 2) (s : Fin 4096) (h : Fin 16) (i : Fin 64) :
    val_main_v36 (F := Ideal) x0 x2 x3 x4 (ix4 b s h i)
      = val_main_v18 (F := Ideal) x0 x4 (ix4 b s h ⟨64 + i.val, by have := i.isLt; omega⟩) * x2 (ix2 s i)
        + val_main_v18 (F := Ideal) x0 x4 (ix4 b s h ⟨i.val, by have := i.isLt; omega⟩) * x3 (ix2 s i) := by
  pointwise [val_main_v36, val_main_v35, val_main_v34, val_main_v33, val_main_v32, val_main_v31, val_main_v30, val_main_v22, val_main_v21, val_main_v20, val_main_v19]

/-- Queries of the first branch: a turned head is its two halves joined. -/
theorem turn_q_a (b : Fin 2) (s : Fin 4096) (h : Fin 16) (j : Fin 128) :
    val_main_v37 (F := Ideal) x0 x2 x3 x4 (ix4 b s h j)
      = turnedPairs (fun i => x2 (ix2 s i)) (fun i => x3 (ix2 s i)) (fun i => val_main_v18 (F := Ideal) x0 x4 (ix4 b s h i)) j := by
  have hj := j.isLt
  have hcat : val_main_v37 (F := Ideal) x0 x2 x3 x4 (ix4 b s h j)
      = if hlt : j.val < 64 then val_main_v29 (F := Ideal) x0 x2 x3 x4 (ix4 b s h ⟨j.val, hlt⟩)
        else val_main_v36 (F := Ideal) x0 x2 x3 x4 (ix4 b s h ⟨j.val - 64, by omega⟩) := by
    pointwise [val_main_v37]
  rw [hcat]
  unfold turnedPairs
  by_cases hlt : j.val < 64
  · rw [dif_pos hlt, if_pos hlt, low_q_a]
    have e1 : lane j = ⟨j.val, hlt⟩ := Fin.ext (by simp only [lane]; omega)
    have e2 : across j = ⟨64 + j.val, by omega⟩ := Fin.ext (by simp only [across]; omega)
    rw [e1, e2]
  · rw [dif_neg hlt, if_neg hlt, high_q_a]
    have e1 : lane j = ⟨j.val - 64, by omega⟩ := Fin.ext (by simp only [lane]; omega)
    have e2 : across j = ⟨j.val - 64, by omega⟩ := Fin.ext (by simp only [across]; omega)
    have e3 : j = ⟨64 + (j.val - 64), by omega⟩ := Fin.ext (by simp only []; omega)
    rw [e1, e2]
    rw [← e3]

/-- Queries of the first branch: an entry in terms of the arguments. -/
theorem entry_q_a (n : Fin 8192) (h : Fin 16) (j : Fin 128) :
    val_main_v37 (F := Ideal) x0 x2 x3 x4 (ix4 (seqOf n) (posOf n) h j)
      = turnedPairs (fun i => x2 (ix2 (posOf n) i)) (fun i => x3 (ix2 (posOf n) i))
          (rmsNorm headSize (fun i => x0 (ix2 n ⟨h.val * 128 + i.val, by have := h.isLt; have := i.isLt; omega⟩))
            (fun i => x4 (ix2 0 i))) j := by
  rw [turn_q_a]
  refine congrArg (fun z => turnedPairs _ _ z j) (funext fun i => ?_)
  rw [norm_q_a]
  refine congrArg (fun z => rmsNorm headSize z _ i) (funext fun k => ?_)
  rw [heads_q_a, rowOf_split]

/-- The queries of the first branch, scaled and rounded. -/
theorem queries_a (n : Fin 8192) (h : Fin 16) (j : Fin 128) (y : S8192x2048.Idx) (hr : (y 0).val = n.val)
    (hj : (y 1).val = h.val * 128 + j.val) :
    val_main_v201 (F := Ideal) x0 x2 x3 x4 y
      = turnedPairs (fun i => x2 (ix2 (posOf n) i)) (fun i => x3 (ix2 (posOf n) i))
          (rmsNorm headSize (fun i => x0 (ix2 n ⟨h.val * 128 + i.val, by have := h.isLt; have := i.isLt; omega⟩))
            (fun i => x4 (ix2 0 i))) j * headScale := by
  have hn := n.isLt
  have hh := h.isLt
  have hl := j.isLt
  have e : idx_main_v200 y = ix4 (seqOf n) (posOf n) h j := by
    funext a
    apply Fin.ext
    match a with
    | ⟨0, _⟩ => simp [idx_main_v200, hr, hj, seqOf, posOf] <;> omega
    | ⟨1, _⟩ => simp [idx_main_v200, hr, hj, seqOf, posOf] <;> omega
    | ⟨2, _⟩ => simp [idx_main_v200, hr, hj, seqOf, posOf] <;> omega
    | ⟨3, _⟩ => simp [idx_main_v200, hr, hj, seqOf, posOf] <;> omega
  rw [val_main_v201_apply, val_main_v200_apply, val_main_v39_apply, e]
  refine congrArg₂ (· * ·) (entry_q_a x0 x2 x3 x4 n h j) ?_
  rw [← rsqrt_headSize]
  unfold headSize
  pointwise [val_main_v38, val_main_v0, val_main_cst]

/-- Keys of the first branch: a head cut out of its array. -/
theorem heads_k_a (b : Fin 2) (s : Fin 4096) (h : Fin 8) (j : Fin 128) :
    val_main_v41 (F := Ideal) x0 (ix4 b s h j) = x0 (ix2 (rowOf b s) ⟨2048 + h.val * 128 + j.val, by have := h.isLt; have := j.isLt; omega⟩) := by
  rw [val_main_v41_apply, val_main_v40_apply, val_main_v1_apply]
  refine congrArg x0 ?_
  have hb := b.isLt
  have hs := s.isLt
  have hh := h.isLt
  have hj := j.isLt
  funext a
  apply Fin.ext
  match a with
  | ⟨0, _⟩ => simp [idx_main_v1, idx_main_v40, idx_main_v41, rowOf]; omega
  | ⟨1, _⟩ => simp [idx_main_v1, idx_main_v40, idx_main_v41, rowOf]; omega

/-- Keys of the first branch: a head normalised. -/
theorem norm_k_a (b : Fin 2) (s : Fin 4096) (h : Fin 8) (j : Fin 128) :
    val_main_v55 (F := Ideal) x0 x5 (ix4 b s h j)
      = rmsNorm headSize (fun i => val_main_v41 (F := Ideal) x0 (ix4 b s h i)) (fun i => x5 (ix2 0 i)) j := by
  unfold rmsNorm headSize
  pointwise [val_main_v55, val_main_v54, val_main_v53, val_main_v52, val_main_v51, val_main_v50, val_main_v49, val_main_v48, val_main_v47, val_main_v46, val_main_v45, val_main_v44, val_main_v43, val_main_v42, val_main_cst_3, val_main_cst_4, val_main_cst_5]

/-- Keys of the first branch: the first half of a turned head. -/
theorem low_k_a (b : Fin 2) (s : Fin 4096) (h : Fin 8) (i : Fin 64) :
    val_main_v66 (F := Ideal) x0 x2 x3 x5 (ix4 b s h i)
      = val_main_v55 (F := Ideal) x0 x5 (ix4 b s h ⟨i.val, by have := i.isLt; omega⟩) * x2 (ix2 s i)
        - val_main_v55 (F := Ideal) x0 x5 (ix4 b s h ⟨64 + i.val, by have := i.isLt; omega⟩) * x3 (ix2 s i) := by
  pointwise [val_main_v66, val_main_v65, val_main_v64, val_main_v63, val_main_v62, val_main_v61, val_main_v60, val_main_v59, val_main_v58, val_main_v57, val_main_v56]

/-- Keys of the first branch: the second half of a turned head. -/
theorem high_k_a (b : Fin 2) (s : Fin 4096) (h : Fin 8) (i : Fin 64) :
    val_main_v73 (F := Ideal) x0 x2 x3 x5 (ix4 b s h i)
      = val_main_v55 (F := Ideal) x0 x5 (ix4 b s h ⟨64 + i.val, by have := i.isLt; omega⟩) * x2 (ix2 s i)
        + val_main_v55 (F := Ideal) x0 x5 (ix4 b s h ⟨i.val, by have := i.isLt; omega⟩) * x3 (ix2 s i) := by
  pointwise [val_main_v73, val_main_v72, val_main_v71, val_main_v70, val_main_v69, val_main_v68, val_main_v67, val_main_v59, val_main_v58, val_main_v57, val_main_v56]

/-- Keys of the first branch: a turned head is its two halves joined. -/
theorem turn_k_a (b : Fin 2) (s : Fin 4096) (h : Fin 8) (j : Fin 128) :
    val_main_v74 (F := Ideal) x0 x2 x3 x5 (ix4 b s h j)
      = turnedPairs (fun i => x2 (ix2 s i)) (fun i => x3 (ix2 s i)) (fun i => val_main_v55 (F := Ideal) x0 x5 (ix4 b s h i)) j := by
  have hj := j.isLt
  have hcat : val_main_v74 (F := Ideal) x0 x2 x3 x5 (ix4 b s h j)
      = if hlt : j.val < 64 then val_main_v66 (F := Ideal) x0 x2 x3 x5 (ix4 b s h ⟨j.val, hlt⟩)
        else val_main_v73 (F := Ideal) x0 x2 x3 x5 (ix4 b s h ⟨j.val - 64, by omega⟩) := by
    pointwise [val_main_v74]
  rw [hcat]
  unfold turnedPairs
  by_cases hlt : j.val < 64
  · rw [dif_pos hlt, if_pos hlt, low_k_a]
    have e1 : lane j = ⟨j.val, hlt⟩ := Fin.ext (by simp only [lane]; omega)
    have e2 : across j = ⟨64 + j.val, by omega⟩ := Fin.ext (by simp only [across]; omega)
    rw [e1, e2]
  · rw [dif_neg hlt, if_neg hlt, high_k_a]
    have e1 : lane j = ⟨j.val - 64, by omega⟩ := Fin.ext (by simp only [lane]; omega)
    have e2 : across j = ⟨j.val - 64, by omega⟩ := Fin.ext (by simp only [across]; omega)
    have e3 : j = ⟨64 + (j.val - 64), by omega⟩ := Fin.ext (by simp only []; omega)
    rw [e1, e2]
    rw [← e3]

/-- Keys of the first branch: an entry in terms of the arguments. -/
theorem entry_k_a (n : Fin 8192) (h : Fin 8) (j : Fin 128) :
    val_main_v74 (F := Ideal) x0 x2 x3 x5 (ix4 (seqOf n) (posOf n) h j)
      = turnedPairs (fun i => x2 (ix2 (posOf n) i)) (fun i => x3 (ix2 (posOf n) i))
          (rmsNorm headSize (fun i => x0 (ix2 n ⟨2048 + h.val * 128 + i.val, by have := h.isLt; have := i.isLt; omega⟩))
            (fun i => x5 (ix2 0 i))) j := by
  rw [turn_k_a]
  refine congrArg (fun z => turnedPairs _ _ z j) (funext fun i => ?_)
  rw [norm_k_a]
  refine congrArg (fun z => rmsNorm headSize z _ i) (funext fun k => ?_)
  rw [heads_k_a, rowOf_split]

/-- The keys of the first branch. -/
theorem keys_a (n : Fin 8192) (h : Fin 8) (j : Fin 128) (y : S8192x1024.Idx) (hr : (y 0).val = n.val)
    (hj : (y 1).val = h.val * 128 + j.val) :
    val_main_v202 (F := Ideal) x0 x2 x3 x5 y
      = turnedPairs (fun i => x2 (ix2 (posOf n) i)) (fun i => x3 (ix2 (posOf n) i))
          (rmsNorm headSize (fun i => x0 (ix2 n ⟨2048 + h.val * 128 + i.val, by have := h.isLt; have := i.isLt; omega⟩))
            (fun i => x5 (ix2 0 i))) j := by
  have hn := n.isLt
  have hh := h.isLt
  have hl := j.isLt
  have e : idx_main_v202 y = ix4 (seqOf n) (posOf n) h j := by
    funext a
    apply Fin.ext
    match a with
    | ⟨0, _⟩ => simp [idx_main_v202, hr, hj, seqOf, posOf] <;> omega
    | ⟨1, _⟩ => simp [idx_main_v202, hr, hj, seqOf, posOf] <;> omega
    | ⟨2, _⟩ => simp [idx_main_v202, hr, hj, seqOf, posOf] <;> omega
    | ⟨3, _⟩ => simp [idx_main_v202, hr, hj, seqOf, posOf] <;> omega
  rw [val_main_v202_apply, e]
  exact entry_k_a x0 x2 x3 x5 n h j

/-- The rounded copy of the keys of the first branch. -/
theorem keys_a_low (n : Fin 8192) (h : Fin 8) (j : Fin 128) (y : S8192x1024.Idx) (hr : (y 0).val = n.val)
    (hj : (y 1).val = h.val * 128 + j.val) :
    val_main_v204 (F := Ideal) x0 x2 x3 x5 y
      = turnedPairs (fun i => x2 (ix2 (posOf n) i)) (fun i => x3 (ix2 (posOf n) i))
          (rmsNorm headSize (fun i => x0 (ix2 n ⟨2048 + h.val * 128 + i.val, by have := h.isLt; have := i.isLt; omega⟩))
            (fun i => x5 (ix2 0 i))) j := by
  have hn := n.isLt
  have hh := h.isLt
  have hl := j.isLt
  have e : idx_main_v203 y = ix4 (seqOf n) (posOf n) h j := by
    funext a
    apply Fin.ext
    match a with
    | ⟨0, _⟩ => simp [idx_main_v203, hr, hj, seqOf, posOf] <;> omega
    | ⟨1, _⟩ => simp [idx_main_v203, hr, hj, seqOf, posOf] <;> omega
    | ⟨2, _⟩ => simp [idx_main_v203, hr, hj, seqOf, posOf] <;> omega
    | ⟨3, _⟩ => simp [idx_main_v203, hr, hj, seqOf, posOf] <;> omega
  rw [val_main_v204_apply, val_main_v203_apply, e]
  exact entry_k_a x0 x2 x3 x5 n h j

end Cert.Proof.PostRef

end
-- ==== Proof.PostRefB.lean ====
/- The reference read at one entry: the queries and keys of the second branch. -/
module

public import proofs.«01_k».proof.Proof.Gen.PostRefIdeal.Read
public import proofs.«01_k».proof.Proof.PostRefA
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open scoped BigOperators

namespace Cert.Proof.PostRef

open Cert.PostRefIdeal Cert.PostRefIdeal.Read
open Cert.Proof.Rotary

variable (x0 : Vec Ideal S8192x24576 .f32) (x1 : Vec Ideal S8192x256 .f32) (x2 x3 : Vec Ideal S4096x64 .f32)
  (x4 x5 x6 x7 : Vec Ideal S1x128 .f32)

/-- Queries of the second branch: a head cut out of its array. -/
theorem heads_q_b (b : Fin 2) (s : Fin 4096) (h : Fin 16) (j : Fin 128) :
    val_main_v123 (F := Ideal) x0 (ix4 b s h j) = x0 (ix2 (rowOf b s) ⟨10240 + h.val * 128 + j.val, by have := h.isLt; have := j.isLt; omega⟩) := by
  rw [val_main_v123_apply, val_main_v122_apply, val_main_v1_apply]
  refine congrArg x0 ?_
  have hb := b.isLt
  have hs := s.isLt
  have hh := h.isLt
  have hj := j.isLt
  funext a
  apply Fin.ext
  match a with
  | ⟨0, _⟩ => simp [idx_main_v1, idx_main_v122, idx_main_v123, rowOf]; omega
  | ⟨1, _⟩ => simp [idx_main_v1, idx_main_v122, idx_main_v123, rowOf]; omega

/-- Queries of the second branch: a head normalised. -/
theorem norm_q_b (b : Fin 2) (s : Fin 4096) (h : Fin 16) (j : Fin 128) :
    val_main_v137 (F := Ideal) x0 x6 (ix4 b s h j)
      = rmsNorm headSize (fun i => val_main_v123 (F := Ideal) x0 (ix4 b s h i)) (fun i => x6 (ix2 0 i)) j := by
  unfold rmsNorm headSize
  pointwise [val_main_v137, val_main_v136, val_main_v135, val_main_v134, val_main_v133, val_main_v132, val_main_v131, val_main_v130, val_main_v129, val_main_v128, val_main_v127, val_main_v126, val_main_v125, val_main_v124, val_main_cst_7, val_main_cst_8, val_main_cst_9]

/-- Queries of the second branch: the first half of a turned head. -/
theorem low_q_b (b : Fin 2) (s : Fin 4096) (h : Fin 16) (i : Fin 64) :
    val_main_v148 (F := Ideal) x0 x2 x3 x6 (ix4 b s h i)
      = val_main_v137 (F := Ideal) x0 x6 (ix4 b s h ⟨i.val, by have := i.isLt; omega⟩) * x2 (ix2 s i)
        - val_main_v137 (F := Ideal) x0 x6 (ix4 b s h ⟨64 + i.val, by have := i.isLt; omega⟩) * x3 (ix2 s i) := by
  pointwise [val_main_v148, val_main_v147, val_main_v146, val_main_v145, val_main_v144, val_main_v143, val_main_v142, val_main_v141, val_main_v140, val_main_v139, val_main_v138]

/-- Queries of the second branch: the second half of a turned head. -/
theorem high_q_b (b : Fin 2) (s : Fin 4096) (h : Fin 16) (i : Fin 64) :
    val_main_v155 (F := Ideal) x0 x2 x3 x6 (ix4 b s h i)
      = val_main_v137 (F := Ideal) x0 x6 (ix4 b s h ⟨64 + i.val, by have := i.isLt; omega⟩) * x2 (ix2 s i)
        + val_main_v137 (F := Ideal) x0 x6 (ix4 b s h ⟨i.val, by have := i.isLt; omega⟩) * x3 (ix2 s i) := by
  pointwise [val_main_v155, val_main_v154, val_main_v153, val_main_v152, val_main_v151, val_main_v150, val_main_v149, val_main_v141, val_main_v140, val_main_v139, val_main_v138]

/-- Queries of the second branch: a turned head is its two halves joined. -/
theorem turn_q_b (b : Fin 2) (s : Fin 4096) (h : Fin 16) (j : Fin 128) :
    val_main_v156 (F := Ideal) x0 x2 x3 x6 (ix4 b s h j)
      = turnedPairs (fun i => x2 (ix2 s i)) (fun i => x3 (ix2 s i)) (fun i => val_main_v137 (F := Ideal) x0 x6 (ix4 b s h i)) j := by
  have hj := j.isLt
  have hcat : val_main_v156 (F := Ideal) x0 x2 x3 x6 (ix4 b s h j)
      = if hlt : j.val < 64 then val_main_v148 (F := Ideal) x0 x2 x3 x6 (ix4 b s h ⟨j.val, hlt⟩)
        else val_main_v155 (F := Ideal) x0 x2 x3 x6 (ix4 b s h ⟨j.val - 64, by omega⟩) := by
    pointwise [val_main_v156]
  rw [hcat]
  unfold turnedPairs
  by_cases hlt : j.val < 64
  · rw [dif_pos hlt, if_pos hlt, low_q_b]
    have e1 : lane j = ⟨j.val, hlt⟩ := Fin.ext (by simp only [lane]; omega)
    have e2 : across j = ⟨64 + j.val, by omega⟩ := Fin.ext (by simp only [across]; omega)
    rw [e1, e2]
  · rw [dif_neg hlt, if_neg hlt, high_q_b]
    have e1 : lane j = ⟨j.val - 64, by omega⟩ := Fin.ext (by simp only [lane]; omega)
    have e2 : across j = ⟨j.val - 64, by omega⟩ := Fin.ext (by simp only [across]; omega)
    have e3 : j = ⟨64 + (j.val - 64), by omega⟩ := Fin.ext (by simp only []; omega)
    rw [e1, e2]
    rw [← e3]

/-- Queries of the second branch: an entry in terms of the arguments. -/
theorem entry_q_b (n : Fin 8192) (h : Fin 16) (j : Fin 128) :
    val_main_v156 (F := Ideal) x0 x2 x3 x6 (ix4 (seqOf n) (posOf n) h j)
      = turnedPairs (fun i => x2 (ix2 (posOf n) i)) (fun i => x3 (ix2 (posOf n) i))
          (rmsNorm headSize (fun i => x0 (ix2 n ⟨10240 + h.val * 128 + i.val, by have := h.isLt; have := i.isLt; omega⟩))
            (fun i => x6 (ix2 0 i))) j := by
  rw [turn_q_b]
  refine congrArg (fun z => turnedPairs _ _ z j) (funext fun i => ?_)
  rw [norm_q_b]
  refine congrArg (fun z => rmsNorm headSize z _ i) (funext fun k => ?_)
  rw [heads_q_b, rowOf_split]

/-- The queries of the second branch, scaled and rounded. -/
theorem queries_b (n : Fin 8192) (h : Fin 16) (j : Fin 128) (y : S8192x2048.Idx) (hr : (y 0).val = n.val)
    (hj : (y 1).val = h.val * 128 + j.val) :
    val_main_v215 (F := Ideal) x0 x2 x3 x6 y
      = turnedPairs (fun i => x2 (ix2 (posOf n) i)) (fun i => x3 (ix2 (posOf n) i))
          (rmsNorm headSize (fun i => x0 (ix2 n ⟨10240 + h.val * 128 + i.val, by have := h.isLt; have := i.isLt; omega⟩))
            (fun i => x6 (ix2 0 i))) j * headScale := by
  have hn := n.isLt
  have hh := h.isLt
  have hl := j.isLt
  have e : idx_main_v214 y = ix4 (seqOf n) (posOf n) h j := by
    funext a
    apply Fin.ext
    match a with
    | ⟨0, _⟩ => simp [idx_main_v214, hr, hj, seqOf, posOf] <;> omega
    | ⟨1, _⟩ => simp [idx_main_v214, hr, hj, seqOf, posOf] <;> omega
    | ⟨2, _⟩ => simp [idx_main_v214, hr, hj, seqOf, posOf] <;> omega
    | ⟨3, _⟩ => simp [idx_main_v214, hr, hj, seqOf, posOf] <;> omega
  rw [val_main_v215_apply, val_main_v214_apply, val_main_v158_apply, e]
  refine congrArg₂ (· * ·) (entry_q_b x0 x2 x3 x6 n h j) ?_
  rw [← rsqrt_headSize]
  unfold headSize
  pointwise [val_main_v157, val_main_v0, val_main_cst]

/-- Keys of the second branch: a head cut out of its array. -/
theorem heads_k_b (b : Fin 2) (s : Fin 4096) (h : Fin 8) (j : Fin 128) :
    val_main_v160 (F := Ideal) x0 (ix4 b s h j) = x0 (ix2 (rowOf b s) ⟨12288 + h.val * 128 + j.val, by have := h.isLt; have := j.isLt; omega⟩) := by
  rw [val_main_v160_apply, val_main_v159_apply, val_main_v1_apply]
  refine congrArg x0 ?_
  have hb := b.isLt
  have hs := s.isLt
  have hh := h.isLt
  have hj := j.isLt
  funext a
  apply Fin.ext
  match a with
  | ⟨0, _⟩ => simp [idx_main_v1, idx_main_v159, idx_main_v160, rowOf]; omega
  | ⟨1, _⟩ => simp [idx_main_v1, idx_main_v159, idx_main_v160, rowOf]; omega

/-- Keys of the second branch: a head normalised. -/
theorem norm_k_b (b : Fin 2) (s : Fin 4096) (h : Fin 8) (j : Fin 128) :
    val_main_v174 (F := Ideal) x0 x7 (ix4 b s h j)
      = rmsNorm headSize (fun i => val_main_v160 (F := Ideal) x0 (ix4 b s h i)) (fun i => x7 (ix2 0 i)) j := by
  unfold rmsNorm headSize
  pointwise [val_main_v174, val_main_v173, val_main_v172, val_main_v171, val_main_v170, val_main_v169, val_main_v168, val_main_v167, val_main_v166, val_main_v165, val_main_v164, val_main_v163, val_main_v162, val_main_v161, val_main_cst_10, val_main_cst_11, val_main_cst_12]

/-- Keys of the second branch: the first half of a turned head. -/
theorem low_k_b (b : Fin 2) (s : Fin 4096) (h : Fin 8) (i : Fin 64) :
    val_main_v185 (F := Ideal) x0 x2 x3 x7 (ix4 b s h i)
      = val_main_v174 (F := Ideal) x0 x7 (ix4 b s h ⟨i.val, by have := i.isLt; omega⟩) * x2 (ix2 s i)
        - val_main_v174 (F := Ideal) x0 x7 (ix4 b s h ⟨64 + i.val, by have := i.isLt; omega⟩) * x3 (ix2 s i) := by
  pointwise [val_main_v185, val_main_v184, val_main_v183, val_main_v182, val_main_v181, val_main_v180, val_main_v179, val_main_v178, val_main_v177, val_main_v176, val_main_v175]

/-- Keys of the second branch: the second half of a turned head. -/
theorem high_k_b (b : Fin 2) (s : Fin 4096) (h : Fin 8) (i : Fin 64) :
    val_main_v192 (F := Ideal) x0 x2 x3 x7 (ix4 b s h i)
      = val_main_v174 (F := Ideal) x0 x7 (ix4 b s h ⟨64 + i.val, by have := i.isLt; omega⟩) * x2 (ix2 s i)
        + val_main_v174 (F := Ideal) x0 x7 (ix4 b s h ⟨i.val, by have := i.isLt; omega⟩) * x3 (ix2 s i) := by
  pointwise [val_main_v192, val_main_v191, val_main_v190, val_main_v189, val_main_v188, val_main_v187, val_main_v186, val_main_v178, val_main_v177, val_main_v176, val_main_v175]

/-- Keys of the second branch: a turned head is its two halves joined. -/
theorem turn_k_b (b : Fin 2) (s : Fin 4096) (h : Fin 8) (j : Fin 128) :
    val_main_v193 (F := Ideal) x0 x2 x3 x7 (ix4 b s h j)
      = turnedPairs (fun i => x2 (ix2 s i)) (fun i => x3 (ix2 s i)) (fun i => val_main_v174 (F := Ideal) x0 x7 (ix4 b s h i)) j := by
  have hj := j.isLt
  have hcat : val_main_v193 (F := Ideal) x0 x2 x3 x7 (ix4 b s h j)
      = if hlt : j.val < 64 then val_main_v185 (F := Ideal) x0 x2 x3 x7 (ix4 b s h ⟨j.val, hlt⟩)
        else val_main_v192 (F := Ideal) x0 x2 x3 x7 (ix4 b s h ⟨j.val - 64, by omega⟩) := by
    pointwise [val_main_v193]
  rw [hcat]
  unfold turnedPairs
  by_cases hlt : j.val < 64
  · rw [dif_pos hlt, if_pos hlt, low_k_b]
    have e1 : lane j = ⟨j.val, hlt⟩ := Fin.ext (by simp only [lane]; omega)
    have e2 : across j = ⟨64 + j.val, by omega⟩ := Fin.ext (by simp only [across]; omega)
    rw [e1, e2]
  · rw [dif_neg hlt, if_neg hlt, high_k_b]
    have e1 : lane j = ⟨j.val - 64, by omega⟩ := Fin.ext (by simp only [lane]; omega)
    have e2 : across j = ⟨j.val - 64, by omega⟩ := Fin.ext (by simp only [across]; omega)
    have e3 : j = ⟨64 + (j.val - 64), by omega⟩ := Fin.ext (by simp only []; omega)
    rw [e1, e2]
    rw [← e3]

/-- Keys of the second branch: an entry in terms of the arguments. -/
theorem entry_k_b (n : Fin 8192) (h : Fin 8) (j : Fin 128) :
    val_main_v193 (F := Ideal) x0 x2 x3 x7 (ix4 (seqOf n) (posOf n) h j)
      = turnedPairs (fun i => x2 (ix2 (posOf n) i)) (fun i => x3 (ix2 (posOf n) i))
          (rmsNorm headSize (fun i => x0 (ix2 n ⟨12288 + h.val * 128 + i.val, by have := h.isLt; have := i.isLt; omega⟩))
            (fun i => x7 (ix2 0 i))) j := by
  rw [turn_k_b]
  refine congrArg (fun z => turnedPairs _ _ z j) (funext fun i => ?_)
  rw [norm_k_b]
  refine congrArg (fun z => rmsNorm headSize z _ i) (funext fun k => ?_)
  rw [heads_k_b, rowOf_split]

/-- The keys of the second branch. -/
theorem keys_b (n : Fin 8192) (h : Fin 8) (j : Fin 128) (y : S8192x1024.Idx) (hr : (y 0).val = n.val)
    (hj : (y 1).val = h.val * 128 + j.val) :
    val_main_v216 (F := Ideal) x0 x2 x3 x7 y
      = turnedPairs (fun i => x2 (ix2 (posOf n) i)) (fun i => x3 (ix2 (posOf n) i))
          (rmsNorm headSize (fun i => x0 (ix2 n ⟨12288 + h.val * 128 + i.val, by have := h.isLt; have := i.isLt; omega⟩))
            (fun i => x7 (ix2 0 i))) j := by
  have hn := n.isLt
  have hh := h.isLt
  have hl := j.isLt
  have e : idx_main_v216 y = ix4 (seqOf n) (posOf n) h j := by
    funext a
    apply Fin.ext
    match a with
    | ⟨0, _⟩ => simp [idx_main_v216, hr, hj, seqOf, posOf] <;> omega
    | ⟨1, _⟩ => simp [idx_main_v216, hr, hj, seqOf, posOf] <;> omega
    | ⟨2, _⟩ => simp [idx_main_v216, hr, hj, seqOf, posOf] <;> omega
    | ⟨3, _⟩ => simp [idx_main_v216, hr, hj, seqOf, posOf] <;> omega
  rw [val_main_v216_apply, e]
  exact entry_k_b x0 x2 x3 x7 n h j

/-- The rounded copy of the keys of the second branch. -/
theorem keys_b_low (n : Fin 8192) (h : Fin 8) (j : Fin 128) (y : S8192x1024.Idx) (hr : (y 0).val = n.val)
    (hj : (y 1).val = h.val * 128 + j.val) :
    val_main_v218 (F := Ideal) x0 x2 x3 x7 y
      = turnedPairs (fun i => x2 (ix2 (posOf n) i)) (fun i => x3 (ix2 (posOf n) i))
          (rmsNorm headSize (fun i => x0 (ix2 n ⟨12288 + h.val * 128 + i.val, by have := h.isLt; have := i.isLt; omega⟩))
            (fun i => x7 (ix2 0 i))) j := by
  have hn := n.isLt
  have hh := h.isLt
  have hl := j.isLt
  have e : idx_main_v217 y = ix4 (seqOf n) (posOf n) h j := by
    funext a
    apply Fin.ext
    match a with
    | ⟨0, _⟩ => simp [idx_main_v217, hr, hj, seqOf, posOf] <;> omega
    | ⟨1, _⟩ => simp [idx_main_v217, hr, hj, seqOf, posOf] <;> omega
    | ⟨2, _⟩ => simp [idx_main_v217, hr, hj, seqOf, posOf] <;> omega
    | ⟨3, _⟩ => simp [idx_main_v217, hr, hj, seqOf, posOf] <;> omega
  rw [val_main_v218_apply, val_main_v217_apply, e]
  exact entry_k_b x0 x2 x3 x7 n h j

/-- Row `r` of strip `t`. -/
def stripRow (t : Fin 32) (r : Fin 256) : Fin 8192 := ⟨t.val * 256 + r.val, by have := t.isLt; have := r.isLt; omega⟩

/-- The means of the keys of the second branch over blocks of 256 rows. -/
theorem means_b (t : Fin 32) (h : Fin 8) (j : Fin 128) (y : S32x1x1024.Idx) (hr : (y 0).val = t.val)
    (hj : (y 2).val = h.val * 128 + j.val) :
    val_main_v199 (F := Ideal) x0 x2 x3 x7 y
      = Ideal.div (∑ r : Fin 256, val_main_v193 (F := Ideal) x0 x2 x3 x7 (ix4 (seqOf (stripRow t r)) (posOf (stripRow t r)) h j)) stripSize := by
  have ht := t.isLt
  have hh := h.isLt
  have hl := j.isLt
  idx_vars y
  obtain rfl : y0 = t := Fin.ext hr
  rw [show y2 = ⟨h.val * 128 + j.val, by omega⟩ from Fin.ext hj]
  unfold stripSize
  pointwise [val_main_v199, val_main_v198, val_main_v197, val_main_v196, val_main_cst_13, val_main_cst_14]
  refine congrArg (fun z => Ideal.div z _) (Finset.sum_congr rfl fun r _ => ?_)
  rw [val_main_v195_apply]
  refine congrArg (val_main_v193 (F := Ideal) x0 x2 x3 x7) ?_
  have hrl := r.isLt
  funext a
  apply Fin.ext
  match a with
  | ⟨0, _⟩ => simp [idx_main_v195, seqOf, posOf, stripRow] <;> omega
  | ⟨1, _⟩ => simp [idx_main_v195, seqOf, posOf, stripRow] <;> omega
  | ⟨2, _⟩ => simp [idx_main_v195, seqOf, posOf, stripRow] <;> omega
  | ⟨3, _⟩ => simp [idx_main_v195, seqOf, posOf, stripRow] <;> omega

end Cert.Proof.PostRef

end
-- ==== Proof.PostBlocks.lean ====
/- What the blocks of a grid point hold: strips of the arguments, and of the two tables the first operations widen. -/
module

public import proofs.«01_k».proof.Proof.Gen.PostIdeal.Value
public import proofs.«01_k».proof.Proof.PostRefB
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.Proof.Post

open Cert.PostIdeal Cert.PostIdeal.Gen
open Cert.Proof.Rotary Cert.Proof.PostRef

variable (m : (ℓ : Loc nD τ sig) → Buf (Elt Ideal) ℓ)

/-- The large part of the projection, as given. -/
abbrev projArg (c : Dev nD) : Vec Ideal S8192x24576 .f32 := m ((c : Thread nD τ).loc main_arg0)

/-- The small part of the projection, as given. -/
abbrev smallArg (c : Dev nD) : Vec Ideal S8192x256 .f32 := m ((c : Thread nD τ).loc main_arg1)

/-- The table of cosines, as given. -/
abbrev cosArg (c : Dev nD) : Vec Ideal S4096x64 .f32 := m ((c : Thread nD τ).loc main_arg2)

/-- The table of sines, as given. -/
abbrev sinArg (c : Dev nD) : Vec Ideal S4096x64 .f32 := m ((c : Thread nD τ).loc main_arg3)

/-- One of the gains, as given. -/
abbrev gain4 (c : Dev nD) : Vec Ideal S1x128 .f32 := m ((c : Thread nD τ).loc main_arg4)

/-- One of the gains, as given. -/
abbrev gain5 (c : Dev nD) : Vec Ideal S1x128 .f32 := m ((c : Thread nD τ).loc main_arg5)

/-- One of the gains, as given. -/
abbrev gain6 (c : Dev nD) : Vec Ideal S1x128 .f32 := m ((c : Thread nD τ).loc main_arg6)

/-- One of the gains, as given. -/
abbrev gain7 (c : Dev nD) : Vec Ideal S1x128 .f32 := m ((c : Thread nD τ).loc main_arg7)

/-- Where the blocks read at a grid point lie. -/
theorem where_read : ∀ t : Fin cfg0.N, win0_0.index t = ![t.val, 0] ∧ win0_1.index t = ![t.val, 1]
    ∧ win0_2.index t = ![t.val, 5] ∧ win0_3.index t = ![t.val, 6] ∧ win0_4.index t = ![t.val, 0]
    ∧ win0_5.index t = ![t.val % 16, 0] ∧ win0_6.index t = ![t.val % 16, 0]
    ∧ win0_7.index t = ![0, 0] ∧ win0_8.index t = ![0, 0] ∧ win0_9.index t = ![0, 0] ∧ win0_10.index t = ![0, 0] :=
  (by decide +kernel : ∀ t : Fin grid0.N, _)

/-- Where the blocks written at a grid point lie. -/
theorem where_written : ∀ t : Fin cfg0.N, win0_11.index t = ![t.val, 0] ∧ win0_12.index t = ![t.val, 0]
    ∧ win0_13.index t = ![t.val, 0] ∧ win0_14.index t = ![t.val, 0] ∧ win0_15.index t = ![t.val, 0]
    ∧ win0_16.index t = ![t.val, 0] ∧ win0_17.index t = ![t.val, 0] ∧ win0_18.index t = ![t.val, 0]
    ∧ win0_19.index t = ![t.val, 0] ∧ win0_20.index t = ![t.val, 0] ∧ win0_21.index t = ![t.val, 0]
    ∧ win0_22.index t = ![t.val, 0] ∧ win0_23.index t = ![t.val, 0] ∧ win0_24.index t = ![t.val, 0]
    ∧ win0_25.index t = ![t.val, 0, 0] :=
  (by decide +kernel : ∀ t : Fin grid0.N, _)

/-- The table of cosines, each row written twice. -/
theorem cos_table (c : Dev nD) : V m c main_v0
    = concatenate S4096x128 1 [⟨S4096x64, m ((c : Thread nD τ).loc main_arg2)⟩, ⟨S4096x64, m ((c : Thread nD τ).loc main_arg2)⟩]
        concatenates_S4096x64_S4096x64_S4096x128_d1 := by
  unfold V hostOps0
  after_results

/-- The table of sines, each row written twice, the first time negated. -/
theorem sin_table (c : Dev nD) : V m c main_v2
    = concatenate S4096x128 1 [⟨S4096x64, Host.negf (F := Ideal) (φ := .f32) (m ((c : Thread nD τ).loc main_arg3))⟩, ⟨S4096x64, m ((c : Thread nD τ).loc main_arg3)⟩]
        concatenates_S4096x64_S4096x64_S4096x128_d1 := by
  unfold V hostOps0
  after_results

/-- An entry of the widened table of cosines. -/
theorem cos_at (c : Dev nD) (s : Fin 4096) (j : Fin 128) : V m c main_v0 (ix2 s j) = cosArg m c (ix2 s (lane j)) := by
  rw [cos_table]
  show _ = m ((c : Thread nD τ).loc main_arg2) (ix2 s (lane j))
  generalize m ((c : Thread nD τ).loc main_arg2) = x
  have hj := j.isLt
  by_cases h : j.val < 64
  · have e : lane j = ⟨j.val, h⟩ := Fin.ext (by simp only [lane]; omega)
    rw [e]
    pointwise
    rw [dif_pos h]
  · have e : lane j = ⟨j.val - 64, by omega⟩ := Fin.ext (by simp only [lane]; omega)
    rw [e]
    pointwise
    rw [dif_neg h]

/-- An entry of the widened table of sines. -/
theorem sin_at (c : Dev nD) (s : Fin 4096) (j : Fin 128) :
    V m c main_v2 (ix2 s j) = if j.val < 64 then - sinArg m c (ix2 s (lane j)) else sinArg m c (ix2 s (lane j)) := by
  rw [sin_table]
  unfold sinArg
  generalize m ((c : Thread nD τ).loc main_arg3) = x
  have hj := j.isLt
  by_cases h : j.val < 64
  · have e : lane j = ⟨j.val, h⟩ := Fin.ext (by simp only [lane]; omega)
    rw [e, if_pos h]
    pointwise
    rw [dif_pos h]
  · have e : lane j = ⟨j.val - 64, by omega⟩ := Fin.ext (by simp only [lane]; omega)
    rw [e, if_neg h]
    pointwise
    rw [dif_neg h]

/-- The strip of a grid point. -/
def stripAt (t : Fin cfg0.N) : Fin 32 := ⟨t.val, t.isLt⟩

/-- The block of cosines holds the rows of the table that belong to the strip. -/
theorem cos_block (c : Dev nD) (t : Fin cfg0.N) (r : Fin 256) (j : Fin 128) :
    iblk m c 5 t (ix2 r j) = cosArg m c (ix2 (posOf (stripRow (stripAt t) r)) (lane j)) := by
  refine Eq.trans ?_ (cos_at m c (posOf (stripRow (stripAt t) r)) j)
  have ht : t.val < 32 := t.isLt
  unfold iblk
  refine congrArg (V m c main_v0) ?_
  funext a
  apply Fin.ext
  match a with
  | ⟨0, _⟩ => blk_simp [where_read t]; have hr := r.isLt; show _ = (t.val * 256 + r.val) % 4096; omega
  | ⟨1, _⟩ => blk_simp [where_read t]

/-- The block of sines holds the rows of the table that belong to the strip. -/
theorem sin_block (c : Dev nD) (t : Fin cfg0.N) (r : Fin 256) (j : Fin 128) :
    iblk m c 6 t (ix2 r j) = if j.val < 64 then - sinArg m c (ix2 (posOf (stripRow (stripAt t) r)) (lane j))
      else sinArg m c (ix2 (posOf (stripRow (stripAt t) r)) (lane j)) := by
  refine Eq.trans ?_ (sin_at m c (posOf (stripRow (stripAt t) r)) j)
  have ht : t.val < 32 := t.isLt
  unfold iblk
  refine congrArg (V m c main_v2) ?_
  funext a
  apply Fin.ext
  match a with
  | ⟨0, _⟩ => blk_simp [where_read t]; have hr := r.isLt; show _ = (t.val * 256 + r.val) % 4096; omega
  | ⟨1, _⟩ => blk_simp [where_read t]

/-- A strip of the projection, from column 0. -/
theorem heads_block (c : Dev nD) (t : Fin cfg0.N) (r : Fin 256) (q : Fin 4096) :
    iblk m c 0 t (ix2 r q) = projArg m c (ix2 (stripRow (stripAt t) r) ⟨q.val, by have := q.isLt; omega⟩) := by
  refine Eq.trans ?_ (congrFun (V_main_arg0 m c) (ix2 (stripRow (stripAt t) r) ⟨q.val, by have := q.isLt; omega⟩))
  have ht : t.val < 32 := t.isLt
  unfold iblk
  refine congrArg (V m c main_arg0) ?_
  funext a
  apply Fin.ext
  match a with
  | ⟨0, _⟩ => blk_simp [where_read t]; rfl
  | ⟨1, _⟩ => blk_simp [where_read t]

/-- A strip of the projection, from column 4096. -/
theorem index_block (c : Dev nD) (t : Fin cfg0.N) (r : Fin 256) (q : Fin 4096) :
    iblk m c 1 t (ix2 r q) = projArg m c (ix2 (stripRow (stripAt t) r) ⟨4096 + q.val, by have := q.isLt; omega⟩) := by
  refine Eq.trans ?_ (congrFun (V_main_arg0 m c) (ix2 (stripRow (stripAt t) r) ⟨4096 + q.val, by have := q.isLt; omega⟩))
  have ht : t.val < 32 := t.isLt
  unfold iblk
  refine congrArg (V m c main_arg0) ?_
  funext a
  apply Fin.ext
  match a with
  | ⟨0, _⟩ => blk_simp [where_read t]; rfl
  | ⟨1, _⟩ => blk_simp [where_read t]

/-- A strip of the projection, from column 10240. -/
theorem second_queries_block (c : Dev nD) (t : Fin cfg0.N) (r : Fin 256) (q : Fin 2048) :
    iblk m c 2 t (ix2 r q) = projArg m c (ix2 (stripRow (stripAt t) r) ⟨10240 + q.val, by have := q.isLt; omega⟩) := by
  refine Eq.trans ?_ (congrFun (V_main_arg0 m c) (ix2 (stripRow (stripAt t) r) ⟨10240 + q.val, by have := q.isLt; omega⟩))
  have ht : t.val < 32 := t.isLt
  unfold iblk
  refine congrArg (V m c main_arg0) ?_
  funext a
  apply Fin.ext
  match a with
  | ⟨0, _⟩ => blk_simp [where_read t]; rfl
  | ⟨1, _⟩ => blk_simp [where_read t]

/-- A strip of the projection, from column 12288. -/
theorem second_keys_block (c : Dev nD) (t : Fin cfg0.N) (r : Fin 256) (q : Fin 2048) :
    iblk m c 3 t (ix2 r q) = projArg m c (ix2 (stripRow (stripAt t) r) ⟨12288 + q.val, by have := q.isLt; omega⟩) := by
  refine Eq.trans ?_ (congrFun (V_main_arg0 m c) (ix2 (stripRow (stripAt t) r) ⟨12288 + q.val, by have := q.isLt; omega⟩))
  have ht : t.val < 32 := t.isLt
  unfold iblk
  refine congrArg (V m c main_arg0) ?_
  funext a
  apply Fin.ext
  match a with
  | ⟨0, _⟩ => blk_simp [where_read t]; rfl
  | ⟨1, _⟩ => blk_simp [where_read t]

/-- A strip of the small part of the projection. -/
theorem small_block (c : Dev nD) (t : Fin cfg0.N) (r : Fin 256) (q : Fin 256) :
    iblk m c 4 t (ix2 r q) = smallArg m c (ix2 (stripRow (stripAt t) r) q) := by
  refine Eq.trans ?_ (congrFun (V_main_arg1 m c) (ix2 (stripRow (stripAt t) r) q))
  have ht : t.val < 32 := t.isLt
  unfold iblk
  refine congrArg (V m c main_arg1) ?_
  funext a
  apply Fin.ext
  match a with
  | ⟨0, _⟩ => blk_simp [where_read t]; rfl
  | ⟨1, _⟩ => blk_simp [where_read t]

/-- One of the gains is read whole. -/
theorem gain_block4 (c : Dev nD) (t : Fin cfg0.N) (i : Fin 128) :
    iblk m c 7 t (ix2 0 i) = gain4 m c (ix2 0 i) := by
  refine Eq.trans ?_ (congrFun (V_main_arg4 m c) (ix2 0 i))
  have ht : t.val < 32 := t.isLt
  unfold iblk
  refine congrArg (V m c main_arg4) ?_
  funext a
  apply Fin.ext
  match a with
  | ⟨0, _⟩ => blk_simp [where_read t]
  | ⟨1, _⟩ => blk_simp [where_read t]

/-- One of the gains is read whole. -/
theorem gain_block5 (c : Dev nD) (t : Fin cfg0.N) (i : Fin 128) :
    iblk m c 8 t (ix2 0 i) = gain5 m c (ix2 0 i) := by
  refine Eq.trans ?_ (congrFun (V_main_arg5 m c) (ix2 0 i))
  have ht : t.val < 32 := t.isLt
  unfold iblk
  refine congrArg (V m c main_arg5) ?_
  funext a
  apply Fin.ext
  match a with
  | ⟨0, _⟩ => blk_simp [where_read t]
  | ⟨1, _⟩ => blk_simp [where_read t]

/-- One of the gains is read whole. -/
theorem gain_block6 (c : Dev nD) (t : Fin cfg0.N) (i : Fin 128) :
    iblk m c 9 t (ix2 0 i) = gain6 m c (ix2 0 i) := by
  refine Eq.trans ?_ (congrFun (V_main_arg6 m c) (ix2 0 i))
  have ht : t.val < 32 := t.isLt
  unfold iblk
  refine congrArg (V m c main_arg6) ?_
  funext a
  apply Fin.ext
  match a with
  | ⟨0, _⟩ => blk_simp [where_read t]
  | ⟨1, _⟩ => blk_simp [where_read t]

/-- One of the gains is read whole. -/
theorem gain_block7 (c : Dev nD) (t : Fin cfg0.N) (i : Fin 128) :
    iblk m c 10 t (ix2 0 i) = gain7 m c (ix2 0 i) := by
  refine Eq.trans ?_ (congrFun (V_main_arg7 m c) (ix2 0 i))
  have ht : t.val < 32 := t.isLt
  unfold iblk
  refine congrArg (V m c main_arg7) ?_
  funext a
  apply Fin.ext
  match a with
  | ⟨0, _⟩ => blk_simp [where_read t]
  | ⟨1, _⟩ => blk_simp [where_read t]

/-- A head turned by the strip's tables is the head turned pair by pair by the rows of the arguments. -/
theorem turned_block (c : Dev nD) (t : Fin cfg0.N) (r : Fin 256) (y z : Fin 128 → EReal) (hy : y = z) (j : Fin 128) :
    turned (fun i => iblk m c 5 t (ix2 r i)) (fun i => iblk m c 6 t (ix2 r i)) y j
      = turnedPairs (fun i => cosArg m c (ix2 (posOf (stripRow (stripAt t) r)) i))
          (fun i => sinArg m c (ix2 (posOf (stripRow (stripAt t) r)) i)) z j := by
  subst hy
  exact turned_eq _ _ _ _ _ (fun i => cos_block m c t r i) (fun i => sin_block m c t r i) j

end Cert.Proof.Post

end
-- ==== Proof.PostHead.lean ====
/- What the kernel computes for one head of a strip of rows: the head's normalisation and its turn. -/
module

public import proofs.«01_k».proof.Proof.Gen.PostIdeal.Frame
public import proofs.«01_k».proof.Proof.Rotary
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.Proof.Post

open Cert.PostIdeal Cert.PostIdeal.Gen
open Cert.Proof.Rotary

/-- One normalised and turned head at row `r` and lane `j`. -/
theorem head_entry (c s : FVec Ideal S256x128 .f32) (g : Vec Ideal S1x128 .f32) (y : Vec Ideal S256x128 .f32)
    (r : Fin 256) (j : Fin 128) :
    k0_pay32 c s g y (ix2 r j)
      = turned (fun i => c (ix2 r i)) (fun i => s (ix2 r i))
          (rmsNorm headSize (fun i => y (ix2 r i)) (fun i => g (ix2 0 i))) j := by
  unfold turned rmsNorm headSize across
  pointwise [k0_pay32]

/-- A normalised and turned head, from what its operands hold at the row. -/
theorem head_at (c s : FVec Ideal S256x128 .f32) (g : Vec Ideal S1x128 .f32) (y : Vec Ideal S256x128 .f32)
    (r : Fin 256) (j : Fin 128) (cos sin row gain : Fin 128 → EReal) (hc : ∀ i, c (ix2 r i) = cos i)
    (hs : ∀ i, s (ix2 r i) = sin i) (hy : ∀ i, y (ix2 r i) = row i) (hg : ∀ i, g (ix2 0 i) = gain i) :
    k0_pay32 c s g y (ix2 r j) = turned cos sin (rmsNorm headSize row gain) j := by
  rw [head_entry]
  simp only [hc, hs, hy, hg]

/-- A normalised and turned head of the queries, scaled and rounded. -/
theorem query_at (c s : FVec Ideal S256x128 .f32) (g : Vec Ideal S1x128 .f32) (y : Vec Ideal S256x128 .f32)
    (r : Fin 256) (j : Fin 128) (cos sin row gain : Fin 128 → EReal) (hc : ∀ i, c (ix2 r i) = cos i)
    (hs : ∀ i, s (ix2 r i) = sin i) (hy : ∀ i, y (ix2 r i) = row i) (hg : ∀ i, g (ix2 0 i) = gain i) :
    k0_pay25 c s g y (ix2 r j) = turned cos sin (rmsNorm headSize row gain) j * headScale := by
  rw [← head_at c s g y r j cos sin row gain hc hs hy hg]
  rfl

/-- A turned head without a normalisation, from what its operands hold at the row. -/
theorem turn_at (c s : FVec Ideal S256x128 .f32) (y : Vec Ideal S256x128 .f32)
    (r : Fin 256) (j : Fin 128) (cos sin row : Fin 128 → EReal) (hc : ∀ i, c (ix2 r i) = cos i)
    (hs : ∀ i, s (ix2 r i) = sin i) (hy : ∀ i, y (ix2 r i) = row i) :
    k0_pay88 c s y (ix2 r j) = turned cos sin row j := by
  unfold turned across
  rw [← hc, ← hs, ← hy, ← hy]
  pointwise [k0_pay88]

/-- The mean of a head over the rows of the strip. -/
theorem mean_at (c s : FVec Ideal S256x128 .f32) (g : Vec Ideal S1x128 .f32) (y : Vec Ideal S256x128 .f32)
    (j : Fin 128) (cos sin row : Fin 256 → Fin 128 → EReal) (gain : Fin 128 → EReal) (hc : ∀ r i, c (ix2 r i) = cos r i)
    (hs : ∀ r i, s (ix2 r i) = sin r i) (hy : ∀ r i, y (ix2 r i) = row r i) (hg : ∀ i, g (ix2 0 i) = gain i) :
    k0_pay115 c s g y (ix3 0 0 j)
      = Ideal.div (∑ r : Fin 256, turned (cos r) (sin r) (rmsNorm headSize (row r) gain) j) stripSize := by
  have e : ∀ r, turned (cos r) (sin r) (rmsNorm headSize (row r) gain) j = k0_pay32 c s g y (ix2 r j) := fun r =>
    (head_at c s g y r j _ _ _ _ (hc r) (hs r) (hy r) hg).symm
  simp only [e]
  unfold stripSize
  pointwise [k0_pay115, k0_pay113, k0_pay32]

end Cert.Proof.Post

end
-- ==== Proof.PostKeysA.lean ====
/- The keys and values of the first branch in a strip of rows. -/
module

public import proofs.«01_k».proof.Proof.PostHead

@[expose] public section

set_option maxRecDepth 16384

noncomputable section

open Idealize.ShloMosaic Idealize.ShloMosaic.TcCoe Idealize.SL.Sem
open Idealize.ShloMosaic.Pipeline (Dat)
open scoped BigOperators

namespace Cert.Proof.Post

open Cert.PostIdeal Cert.PostIdeal.Gen
open Cert.Proof.Rotary

variable (x0 x1 : Vec Ideal S256x4096 .f32) (x2 x3 : Vec Ideal S256x2048 .f32) (x4 : Vec Ideal S256x256 .f32)
  (x5 x6 : Vec Ideal S256x128 .f32) (x7 x8 x9 x10 : Vec Ideal S1x128 .f32)

/-- The table of cosines as the heads read it. -/
theorem cos_read (r : Fin 256) (i : Fin 128) : k0_pay3 (View.ld x5 r0_0) (ix2 r i) = x5 (ix2 r i) := by
  pointwise [k0_pay3]
  blk_ext

/-- The table of sines as the heads read it. -/
theorem sin_read (r : Fin 256) (i : Fin 128) : k0_pay4 (View.ld x6 r0_0) (ix2 r i) = x6 (ix2 r i) := by
  pointwise [k0_pay4]
  blk_ext

/-- A gain as the heads read it. -/
theorem gain_read (i : Fin 128) : View.ld x8 r0_1 (ix2 0 i) = x8 (ix2 0 i) := by
  pointwise
  blk_ext

/-- The first branch's keys of a strip. -/
theorem keys_a (r : Fin 256) (h : Fin 8) (j : Fin 128) (y : S256x1024.Idx) (hr : (y 0).val = r.val)
    (hj : (y 1).val = h.val * 128 + j.val) :
    out0_12 x0 x1 x2 x3 x4 x5 x6 x7 x8 x9 x10 y
      = turned (fun i => x5 (ix2 r i)) (fun i => x6 (ix2 r i))
          (rmsNorm headSize (fun i => x0 (ix2 r ⟨2048 + h.val * 128 + i.val, by have := h.isLt; have := i.isLt; omega⟩))
            (fun i => x8 (ix2 0 i))) j := by
  have hl := h.isLt
  have jl := j.isLt
  unfold_out out0_12
  canon_tiles x hx
  all_goals
    idx_vars x
    obtain rfl : x0 = r := Fin.ext (by omega)
    obtain rfl : x1 = j := Fin.ext (by omega)
    refine head_at _ _ _ _ _ _ _ _ _ _ (cos_read _ _) (sin_read _ _) (fun i => ?_) (gain_read _)
    pointwise
    blk_ext

/-- The rounded copy of the first branch's keys of a strip. -/
theorem keys_a_low (r : Fin 256) (h : Fin 8) (j : Fin 128) (y : S256x1024.Idx) (hr : (y 0).val = r.val)
    (hj : (y 1).val = h.val * 128 + j.val) :
    out0_13 x0 x1 x2 x3 x4 x5 x6 x7 x8 x9 x10 y
      = turned (fun i => x5 (ix2 r i)) (fun i => x6 (ix2 r i))
          (rmsNorm headSize (fun i => x0 (ix2 r ⟨2048 + h.val * 128 + i.val, by have := h.isLt; have := i.isLt; omega⟩))
            (fun i => x8 (ix2 0 i))) j := by
  have hl := h.isLt
  have jl := j.isLt
  unfold_out out0_13
  canon_tiles x hx
  all_goals
    idx_vars x
    obtain rfl : x0 = r := Fin.ext (by omega)
    obtain rfl : x1 = j := Fin.ext (by omega)
    refine head_at _ _ _ _ _ _ _ _ _ _ (cos_read _ _) (sin_read _ _) (fun i => ?_) (gain_read _)
    pointwise
    blk_ext

/-- The first branch's values of a strip. -/
theorem values_a (r : Fin 256) (h : Fin 8) (j : Fin 128) (y : S256x1024.Idx) (hr : (y 0).val = r.val)
    (hj : (y 1).val = h.val * 128 + j.val) :
    out0_14 x0 x1 x2 x3 x4 x5 x6 x7 x8 x9 x10 y
      = x0 (ix2 r ⟨3072 + h.val * 128 + j.val, by have := h.isLt; have := j.isLt; omega⟩) := by
  have hl := h.isLt
  have jl := j.isLt
  unfold_out out0_14
  canon_tiles x hx
  all_goals
    idx_vars x
    obtain rfl : x0 = r := Fin.ext (by omega)
    obtain rfl : x1 = j := Fin.ext (by omega)
    pointwise
    blk_ext

/-- The rounded copy of the first branch's values of a strip. -/
theorem values_a_low (r : Fin 256) (h : Fin 8) (j : Fin 128) (y : S256x1024.Idx) (hr : (y 0).val = r.val)
    (hj : (y 1).val = h.val * 128 + j.val) :
    out0_15 x0 x1 x2 x3 x4 x5 x6 x7 x8 x9 x10 y
      = x0 (ix2 r ⟨3072 + h.val * 128 + j.val, by have := h.isLt; have := j.isLt; omega⟩) := by
  have hl := h.isLt
  have jl := j.isLt
  unfold_out out0_15
  canon_tiles x hx
  all_goals
    idx_vars x
    obtain rfl : x0 = r := Fin.ext (by omega)
    obtain rfl : x1 = j := Fin.ext (by omega)
    pointwise [k0_pay51, k0_pay47, k0_pay44, k0_pay41, k0_pay38, k0_pay34, k0_pay31, k0_pay28]
    blk_ext

end Cert.Proof.Post

end
-- ==== Proof.PostQueries.lean ====
/- The queries of both branches in a strip of rows. -/
module

public import proofs.«01_k».proof.Proof.PostKeysA

@[expose] public section

set_option maxRecDepth 16384

noncomputable section

open Idealize.ShloMosaic Idealize.ShloMosaic.TcCoe Idealize.SL.Sem
open Idealize.ShloMosaic.Pipeline (Dat)
open scoped BigOperators

namespace Cert.Proof.Post

open Cert.PostIdeal Cert.PostIdeal.Gen
open Cert.Proof.Rotary

variable (x0 x1 : Vec Ideal S256x4096 .f32) (x2 x3 : Vec Ideal S256x2048 .f32) (x4 : Vec Ideal S256x256 .f32)
  (x5 x6 : Vec Ideal S256x128 .f32) (x7 x8 x9 x10 : Vec Ideal S1x128 .f32)

/-- The first branch's queries of a strip. -/
theorem queries_a (r : Fin 256) (h : Fin 16) (j : Fin 128) (y : S256x2048.Idx) (hr : (y 0).val = r.val)
    (hj : (y 1).val = h.val * 128 + j.val) :
    out0_11 x0 x1 x2 x3 x4 x5 x6 x7 x8 x9 x10 y
      = turned (fun i => x5 (ix2 r i)) (fun i => x6 (ix2 r i))
          (rmsNorm headSize (fun i => x0 (ix2 r ⟨h.val * 128 + i.val, by have := h.isLt; have := i.isLt; omega⟩))
            (fun i => x7 (ix2 0 i))) j * headScale := by
  have hl := h.isLt
  have jl := j.isLt
  unfold_out out0_11
  canon_tiles x hx
  all_goals
    idx_vars x
    obtain rfl : x0 = r := Fin.ext (by omega)
    obtain rfl : x1 = j := Fin.ext (by omega)
    refine query_at _ _ _ _ _ _ _ _ _ _ (cos_read _ _) (sin_read _ _) (fun i => ?_) (gain_read _)
    pointwise
    blk_ext

/-- The second branch's queries of a strip. -/
theorem queries_b (r : Fin 256) (h : Fin 16) (j : Fin 128) (y : S256x2048.Idx) (hr : (y 0).val = r.val)
    (hj : (y 1).val = h.val * 128 + j.val) :
    out0_20 x0 x1 x2 x3 x4 x5 x6 x7 x8 x9 x10 y
      = turned (fun i => x5 (ix2 r i)) (fun i => x6 (ix2 r i))
          (rmsNorm headSize (fun i => x2 (ix2 r ⟨h.val * 128 + i.val, by have := h.isLt; have := i.isLt; omega⟩))
            (fun i => x9 (ix2 0 i))) j * headScale := by
  have hl := h.isLt
  have jl := j.isLt
  unfold_out out0_20
  canon_tiles x hx
  all_goals
    idx_vars x
    obtain rfl : x0 = r := Fin.ext (by omega)
    obtain rfl : x1 = j := Fin.ext (by omega)
    refine query_at _ _ _ _ _ _ _ _ _ _ (cos_read _ _) (sin_read _ _) (fun i => ?_) (gain_read _)
    pointwise
    blk_ext

end Cert.Proof.Post

end
-- ==== Proof.PostArrQA.lean ====
/- The array of the queries of the first branch after the run. -/
module

public import proofs.«01_k».proof.Proof.PostBlocks
public import proofs.«01_k».proof.Proof.PostQueries
public import proofs.«01_k».proof.Proof.PostRefA
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.Proof.Post

open Cert.PostIdeal Cert.PostIdeal.Gen
open Cert.PostRefIdeal.Read
open Cert.Proof.Rotary
open Cert.Proof.PostRef (posOf seqOf stripRow)

variable (m : (ℓ : Loc nD τ sig) → Buf (Elt Ideal) ℓ)

/-- The queries of the first branch, whole. -/
theorem array_queries_a (c : Dev nD) : (dats m 0 c).arrAt 11 (cfgs 0).N
    = val_main_v201 (F := Ideal) (projArg m c) (cosArg m c) (sinArg m c) (gain4 m c) := by
  refine (dats m 0 c).arrAt_eq_of_covers 11 _ (by decide +kernel) fun t _ y => ?_
  blk_simp
  rw [after0_11]
  have hy : (y 1).val < 2048 := (y 1).isLt
  refine (queries_a _ _ _ _ _ _ _ _ _ _ _ (y 0) ⟨(y 1).val / 128, by omega⟩ ⟨(y 1).val % 128, Nat.mod_lt _ (by decide)⟩ y rfl
    (by show (y 1).val = (y 1).val / 128 * 128 + (y 1).val % 128; omega)).trans ?_
  refine Eq.trans ?_ (PostRef.queries_a (projArg m c) (cosArg m c) (sinArg m c) (gain4 m c) (stripRow (stripAt t) (y 0)) ⟨(y 1).val / 128, by omega⟩ ⟨(y 1).val % 128, Nat.mod_lt _ (by decide)⟩ _
    (by blk_simp [where_written t]; rfl)
    (by blk_simp [where_written t]; show (y 1).val = (y 1).val / 128 * 128 + (y 1).val % 128; omega)).symm
  refine congrArg (· * headScale) ?_
  refine turned_block m c t (y 0) _ _ (funext fun i => ?_) _
  refine congrArg₂ (fun a b => rmsNorm headSize a b i) (funext fun k => ?_) (funext fun k => gain_block4 m c t k)
  exact ((heads_block m c t (y 0) _).trans (congrArg (fun q => projArg m c (ix2 _ q)) (Fin.ext (by first | rfl | (simp only []; omega)))))

end Cert.Proof.Post

end
-- ==== Proof.PostArrKA.lean ====
/- The arrays of the keys of the first branch after the run. -/
module

public import proofs.«01_k».proof.Proof.PostBlocks
public import proofs.«01_k».proof.Proof.PostKeysA
public import proofs.«01_k».proof.Proof.PostRefA
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.Proof.Post

open Cert.PostIdeal Cert.PostIdeal.Gen
open Cert.PostRefIdeal.Read
open Cert.Proof.Rotary
open Cert.Proof.PostRef (posOf seqOf stripRow)

variable (m : (ℓ : Loc nD τ sig) → Buf (Elt Ideal) ℓ)

/-- The keys of the first branch, whole. -/
theorem array_keys_a (c : Dev nD) : (dats m 0 c).arrAt 12 (cfgs 0).N
    = val_main_v202 (F := Ideal) (projArg m c) (cosArg m c) (sinArg m c) (gain5 m c) := by
  refine (dats m 0 c).arrAt_eq_of_covers 12 _ (by decide +kernel) fun t _ y => ?_
  blk_simp
  rw [after0_12]
  have hy : (y 1).val < 1024 := (y 1).isLt
  refine (keys_a _ _ _ _ _ _ _ _ _ _ _ (y 0) ⟨(y 1).val / 128, by omega⟩ ⟨(y 1).val % 128, Nat.mod_lt _ (by decide)⟩ y rfl
    (by show (y 1).val = (y 1).val / 128 * 128 + (y 1).val % 128; omega)).trans ?_
  refine Eq.trans ?_ (PostRef.keys_a (projArg m c) (cosArg m c) (sinArg m c) (gain5 m c) (stripRow (stripAt t) (y 0)) ⟨(y 1).val / 128, by omega⟩ ⟨(y 1).val % 128, Nat.mod_lt _ (by decide)⟩ _
    (by blk_simp [where_written t]; rfl)
    (by blk_simp [where_written t]; show (y 1).val = (y 1).val / 128 * 128 + (y 1).val % 128; omega)).symm
  refine turned_block m c t (y 0) _ _ (funext fun i => ?_) _
  refine congrArg₂ (fun a b => rmsNorm headSize a b i) (funext fun k => ?_) (funext fun k => gain_block5 m c t k)
  exact ((heads_block m c t (y 0) _).trans (congrArg (fun q => projArg m c (ix2 _ q)) (Fin.ext (by first | rfl | (simp only []; omega)))))

/-- The rounded keys of the first branch, whole. -/
theorem array_keys_a_low (c : Dev nD) : (dats m 0 c).arrAt 13 (cfgs 0).N
    = val_main_v204 (F := Ideal) (projArg m c) (cosArg m c) (sinArg m c) (gain5 m c) := by
  refine (dats m 0 c).arrAt_eq_of_covers 13 _ (by decide +kernel) fun t _ y => ?_
  blk_simp
  rw [after0_13]
  have hy : (y 1).val < 1024 := (y 1).isLt
  refine (keys_a_low _ _ _ _ _ _ _ _ _ _ _ (y 0) ⟨(y 1).val / 128, by omega⟩ ⟨(y 1).val % 128, Nat.mod_lt _ (by decide)⟩ y rfl
    (by show (y 1).val = (y 1).val / 128 * 128 + (y 1).val % 128; omega)).trans ?_
  refine Eq.trans ?_ (PostRef.keys_a_low (projArg m c) (cosArg m c) (sinArg m c) (gain5 m c) (stripRow (stripAt t) (y 0)) ⟨(y 1).val / 128, by omega⟩ ⟨(y 1).val % 128, Nat.mod_lt _ (by decide)⟩ _
    (by blk_simp [where_written t]; rfl)
    (by blk_simp [where_written t]; show (y 1).val = (y 1).val / 128 * 128 + (y 1).val % 128; omega)).symm
  refine turned_block m c t (y 0) _ _ (funext fun i => ?_) _
  refine congrArg₂ (fun a b => rmsNorm headSize a b i) (funext fun k => ?_) (funext fun k => gain_block5 m c t k)
  exact ((heads_block m c t (y 0) _).trans (congrArg (fun q => projArg m c (ix2 _ q)) (Fin.ext (by first | rfl | (simp only []; omega)))))

end Cert.Proof.Post

end
-- ==== Proof.PostKeysB.lean ====
/- The keys and values of the second branch in a strip of rows. -/
module

public import proofs.«01_k».proof.Proof.PostKeysA

@[expose] public section

set_option maxRecDepth 16384

noncomputable section

open Idealize.ShloMosaic Idealize.ShloMosaic.TcCoe Idealize.SL.Sem
open Idealize.ShloMosaic.Pipeline (Dat)
open scoped BigOperators

namespace Cert.Proof.Post

open Cert.PostIdeal Cert.PostIdeal.Gen
open Cert.Proof.Rotary

variable (x0 x1 : Vec Ideal S256x4096 .f32) (x2 x3 : Vec Ideal S256x2048 .f32) (x4 : Vec Ideal S256x256 .f32)
  (x5 x6 : Vec Ideal S256x128 .f32) (x7 x8 x9 x10 : Vec Ideal S1x128 .f32)

/-- The second branch's keys of a strip. -/
theorem keys_b (r : Fin 256) (h : Fin 8) (j : Fin 128) (y : S256x1024.Idx) (hr : (y 0).val = r.val)
    (hj : (y 1).val = h.val * 128 + j.val) :
    out0_21 x0 x1 x2 x3 x4 x5 x6 x7 x8 x9 x10 y
      = turned (fun i => x5 (ix2 r i)) (fun i => x6 (ix2 r i))
          (rmsNorm headSize (fun i => x3 (ix2 r ⟨h.val * 128 + i.val, by have := h.isLt; have := i.isLt; omega⟩))
            (fun i => x10 (ix2 0 i))) j := by
  have hl := h.isLt
  have jl := j.isLt
  unfold_out out0_21
  canon_tiles x hx
  all_goals
    idx_vars x
    obtain rfl : x0 = r := Fin.ext (by omega)
    obtain rfl : x1 = j := Fin.ext (by omega)
    refine head_at _ _ _ _ _ _ _ _ _ _ (cos_read _ _) (sin_read _ _) (fun i => ?_) (gain_read _)
    pointwise
    blk_ext

/-- The rounded copy of the second branch's keys of a strip. -/
theorem keys_b_low (r : Fin 256) (h : Fin 8) (j : Fin 128) (y : S256x1024.Idx) (hr : (y 0).val = r.val)
    (hj : (y 1).val = h.val * 128 + j.val) :
    out0_22 x0 x1 x2 x3 x4 x5 x6 x7 x8 x9 x10 y
      = turned (fun i => x5 (ix2 r i)) (fun i => x6 (ix2 r i))
          (rmsNorm headSize (fun i => x3 (ix2 r ⟨h.val * 128 + i.val, by have := h.isLt; have := i.isLt; omega⟩))
            (fun i => x10 (ix2 0 i))) j := by
  have hl := h.isLt
  have jl := j.isLt
  unfold_out out0_22
  canon_tiles x hx
  all_goals
    idx_vars x
    obtain rfl : x0 = r := Fin.ext (by omega)
    obtain rfl : x1 = j := Fin.ext (by omega)
    refine head_at _ _ _ _ _ _ _ _ _ _ (cos_read _ _) (sin_read _ _) (fun i => ?_) (gain_read _)
    pointwise
    blk_ext

/-- The second branch's values of a strip. -/
theorem values_b (r : Fin 256) (h : Fin 8) (j : Fin 128) (y : S256x1024.Idx) (hr : (y 0).val = r.val)
    (hj : (y 1).val = h.val * 128 + j.val) :
    out0_23 x0 x1 x2 x3 x4 x5 x6 x7 x8 x9 x10 y
      = x3 (ix2 r ⟨1024 + h.val * 128 + j.val, by have := h.isLt; have := j.isLt; omega⟩) := by
  have hl := h.isLt
  have jl := j.isLt
  unfold_out out0_23
  canon_tiles x hx
  all_goals
    idx_vars x
    obtain rfl : x0 = r := Fin.ext (by omega)
    obtain rfl : x1 = j := Fin.ext (by omega)
    pointwise
    blk_ext

/-- The rounded copy of the second branch's values of a strip. -/
theorem values_b_low (r : Fin 256) (h : Fin 8) (j : Fin 128) (y : S256x1024.Idx) (hr : (y 0).val = r.val)
    (hj : (y 1).val = h.val * 128 + j.val) :
    out0_24 x0 x1 x2 x3 x4 x5 x6 x7 x8 x9 x10 y
      = x3 (ix2 r ⟨1024 + h.val * 128 + j.val, by have := h.isLt; have := j.isLt; omega⟩) := by
  have hl := h.isLt
  have jl := j.isLt
  unfold_out out0_24
  canon_tiles x hx
  all_goals
    idx_vars x
    obtain rfl : x0 = r := Fin.ext (by omega)
    obtain rfl : x1 = j := Fin.ext (by omega)
    pointwise [k0_pay2, k0_pay143, k0_pay138, k0_pay133, k0_pay128, k0_pay124, k0_pay120, k0_pay116]
    blk_ext

end Cert.Proof.Post

end
-- ==== Proof.PostIndex.lean ====
/- The indexer's queries, keys and weights, and the means of the second branch's keys, in a strip of rows. -/
module

public import proofs.«01_k».proof.Proof.PostKeysA

@[expose] public section

set_option maxRecDepth 16384

noncomputable section

open Idealize.ShloMosaic Idealize.ShloMosaic.TcCoe Idealize.SL.Sem
open Idealize.ShloMosaic.Pipeline (Dat)
open scoped BigOperators

namespace Cert.Proof.Post

open Cert.PostIdeal Cert.PostIdeal.Gen
open Cert.Proof.Rotary

variable (x0 x1 : Vec Ideal S256x4096 .f32) (x2 x3 : Vec Ideal S256x2048 .f32) (x4 : Vec Ideal S256x256 .f32)
  (x5 x6 : Vec Ideal S256x128 .f32) (x7 x8 x9 x10 : Vec Ideal S1x128 .f32)

/-- The indexer's queries of a strip. -/
theorem index_queries (r : Fin 256) (h : Fin 32) (j : Fin 128) (y : S256x4096.Idx) (hr : (y 0).val = r.val)
    (hj : (y 1).val = h.val * 128 + j.val) :
    out0_16 x0 x1 x2 x3 x4 x5 x6 x7 x8 x9 x10 y
      = turned (fun i => x5 (ix2 r i)) (fun i => x6 (ix2 r i))
          (fun i => x1 (ix2 r ⟨h.val * 128 + i.val, by have := h.isLt; have := i.isLt; omega⟩)) j := by
  have hl := h.isLt
  have jl := j.isLt
  unfold_out out0_16
  canon_tiles x hx
  all_goals
    idx_vars x
    obtain rfl : x0 = r := Fin.ext (by omega)
    obtain rfl : x1 = j := Fin.ext (by omega)
    refine turn_at _ _ _ _ _ _ _ _ (cos_read _ _) (sin_read _ _) (fun i => ?_)
    pointwise
    blk_ext

/-- The indexer's keys of a strip. -/
theorem index_keys (r : Fin 256) (j : Fin 128) (y : S256x128.Idx) (hr : (y 0).val = r.val) (hj : (y 1).val = j.val) :
    out0_17 x0 x1 x2 x3 x4 x5 x6 x7 x8 x9 x10 y
      = turned (fun i => x5 (ix2 r i)) (fun i => x6 (ix2 r i))
          (fun i => x4 (ix2 r ⟨i.val, by have := i.isLt; omega⟩)) j := by
  unfold_out out0_17
  canon_tiles x hx
  idx_vars x
  obtain rfl : x0 = r := Fin.ext (by omega)
  obtain rfl : x1 = j := Fin.ext (by omega)
  refine turn_at _ _ _ _ _ _ _ _ (cos_read _ _) (sin_read _ _) (fun i => ?_)
  pointwise
  blk_ext

/-- The rounded copy of the indexer's keys of a strip. -/
theorem index_keys_low (r : Fin 256) (j : Fin 128) (y : S256x128.Idx) (hr : (y 0).val = r.val) (hj : (y 1).val = j.val) :
    out0_18 x0 x1 x2 x3 x4 x5 x6 x7 x8 x9 x10 y
      = turned (fun i => x5 (ix2 r i)) (fun i => x6 (ix2 r i))
          (fun i => x4 (ix2 r ⟨i.val, by have := i.isLt; omega⟩)) j := by
  unfold_out out0_18
  canon_tiles x hx
  idx_vars x
  obtain rfl : x0 = r := Fin.ext (by omega)
  obtain rfl : x1 = j := Fin.ext (by omega)
  refine turn_at _ _ _ _ _ _ _ _ (cos_read _ _) (sin_read _ _) (fun i => ?_)
  pointwise
  blk_ext

/-- The indexer's weights of a strip. -/
theorem index_weights (r : Fin 256) (j : Fin 128) (y : S256x128.Idx) (hr : (y 0).val = r.val) (hj : (y 1).val = j.val) :
    out0_19 x0 x1 x2 x3 x4 x5 x6 x7 x8 x9 x10 y
      = x4 (ix2 r ⟨128 + j.val, by have := j.isLt; omega⟩) * weightScale := by
  unfold_out out0_19
  canon_tiles x hx
  idx_vars x
  obtain rfl : x0 = r := Fin.ext (by omega)
  obtain rfl : x1 = j := Fin.ext (by omega)
  unfold weightScale
  pointwise [k0_pay90]
  blk_ext

/-- The means of the second branch's keys over the strip. -/
theorem means_b (h : Fin 8) (j : Fin 128) (y : S1x1x1024.Idx) (hj : (y 2).val = h.val * 128 + j.val) :
    out0_25 x0 x1 x2 x3 x4 x5 x6 x7 x8 x9 x10 y
      = Ideal.div (∑ r : Fin 256, turned (fun i => x5 (ix2 r i)) (fun i => x6 (ix2 r i))
          (rmsNorm headSize (fun i => x3 (ix2 r ⟨h.val * 128 + i.val, by have := h.isLt; have := i.isLt; omega⟩))
            (fun i => x10 (ix2 0 i))) j) stripSize := by
  have hl := h.isLt
  have jl := j.isLt
  unfold_out out0_25
  canon_tiles x hx
  all_goals
    idx_vars x
    obtain rfl : x2 = j := Fin.ext (by omega)
    obtain rfl : x0 = 0 := Subsingleton.elim _ _
    obtain rfl : x1 = 0 := Subsingleton.elim _ _
    refine mean_at _ _ _ _ _ (fun r i => x5 (ix2 r i)) (fun r i => x6 (ix2 r i)) _ _ (fun r => cos_read _ _) (fun r => sin_read _ _) (fun r i => ?_) (gain_read _)
    pointwise
    blk_ext

end Cert.Proof.Post

end
-- ==== Proof.PostRefV.lean ====
/- The reference read at one entry: the values and the weights. -/
module

public import proofs.«01_k».proof.Proof.Gen.PostRefIdeal.Read
public import proofs.«01_k».proof.Proof.PostRefA
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open scoped BigOperators

namespace Cert.Proof.PostRef

open Cert.PostRefIdeal Cert.PostRefIdeal.Read
open Cert.Proof.Rotary

variable (x0 : Vec Ideal S8192x24576 .f32) (x1 : Vec Ideal S8192x256 .f32) (x2 x3 : Vec Ideal S4096x64 .f32)
  (x4 x5 x6 x7 : Vec Ideal S1x128 .f32)

/-- The values of the first branch. -/
theorem values_a (n : Fin 8192) (q : Fin 1024) (y : S8192x1024.Idx) (hr : (y 0).val = n.val) (hj : (y 1).val = q.val) :
    val_main_v205 (F := Ideal) x0 y = x0 (ix2 n ⟨3072 + q.val, by have := q.isLt; omega⟩) := by
  have hn := n.isLt
  have hq := q.isLt
  rw [val_main_v205_apply, val_main_v75_apply, val_main_v1_apply]
  refine congrArg x0 ?_
  funext a
  apply Fin.ext
  match a with
  | ⟨0, _⟩ => simp [idx_main_v205, idx_main_v75, idx_main_v1, hr, hj]; omega
  | ⟨1, _⟩ => simp [idx_main_v205, idx_main_v75, idx_main_v1, hr, hj]; omega

/-- The rounded copy of the values of the first branch. -/
theorem values_a_low (n : Fin 8192) (q : Fin 1024) (y : S8192x1024.Idx) (hr : (y 0).val = n.val) (hj : (y 1).val = q.val) :
    val_main_v207 (F := Ideal) x0 y = x0 (ix2 n ⟨3072 + q.val, by have := q.isLt; omega⟩) := by
  have hn := n.isLt
  have hq := q.isLt
  rw [val_main_v207_apply, val_main_v206_apply, val_main_v75_apply, val_main_v1_apply]
  refine congrArg x0 ?_
  funext a
  apply Fin.ext
  match a with
  | ⟨0, _⟩ => simp [idx_main_v206, idx_main_v75, idx_main_v1, hr, hj]; omega
  | ⟨1, _⟩ => simp [idx_main_v206, idx_main_v75, idx_main_v1, hr, hj]; omega

/-- The values of the second branch. -/
theorem values_b (n : Fin 8192) (q : Fin 1024) (y : S8192x1024.Idx) (hr : (y 0).val = n.val) (hj : (y 1).val = q.val) :
    val_main_v219 (F := Ideal) x0 y = x0 (ix2 n ⟨13312 + q.val, by have := q.isLt; omega⟩) := by
  have hn := n.isLt
  have hq := q.isLt
  rw [val_main_v219_apply, val_main_v194_apply, val_main_v1_apply]
  refine congrArg x0 ?_
  funext a
  apply Fin.ext
  match a with
  | ⟨0, _⟩ => simp [idx_main_v219, idx_main_v194, idx_main_v1, hr, hj]; omega
  | ⟨1, _⟩ => simp [idx_main_v219, idx_main_v194, idx_main_v1, hr, hj]; omega

/-- The rounded copy of the values of the second branch. -/
theorem values_b_low (n : Fin 8192) (q : Fin 1024) (y : S8192x1024.Idx) (hr : (y 0).val = n.val) (hj : (y 1).val = q.val) :
    val_main_v221 (F := Ideal) x0 y = x0 (ix2 n ⟨13312 + q.val, by have := q.isLt; omega⟩) := by
  have hn := n.isLt
  have hq := q.isLt
  rw [val_main_v221_apply, val_main_v220_apply, val_main_v194_apply, val_main_v1_apply]
  refine congrArg x0 ?_
  funext a
  apply Fin.ext
  match a with
  | ⟨0, _⟩ => simp [idx_main_v220, idx_main_v194, idx_main_v1, hr, hj]; omega
  | ⟨1, _⟩ => simp [idx_main_v220, idx_main_v194, idx_main_v1, hr, hj]; omega

/-- The weights of the indexer, scaled. -/
theorem index_weights (n : Fin 8192) (q : Fin 128) (y : S8192x128.Idx) (hr : (y 0).val = n.val) (hj : (y 1).val = q.val) :
    val_main_v213 (F := Ideal) x1 y = x1 (ix2 n ⟨128 + q.val, by have := q.isLt; omega⟩) * weightScale := by
  have hn := n.isLt
  have hq := q.isLt
  rw [val_main_v213_apply, val_main_v121_apply, val_main_v119_apply, val_main_v2_apply]
  refine congrArg₂ (· * ·) (congrArg x1 ?_) ?_
  · funext a
    apply Fin.ext
    match a with
    | ⟨0, _⟩ => simp [idx_main_v213, idx_main_v119, idx_main_v2, hr, hj] <;> omega
    | ⟨1, _⟩ => simp [idx_main_v213, idx_main_v119, idx_main_v2, hr, hj]; omega
  · unfold weightScale
    pointwise [val_main_v120, val_main_cst_6]

end Cert.Proof.PostRef

end
-- ==== Proof.PostArrV.lean ====
/- The arrays of the values and of the weights after the run. -/
module

public import proofs.«01_k».proof.Proof.PostBlocks
public import proofs.«01_k».proof.Proof.PostKeysA
public import proofs.«01_k».proof.Proof.PostKeysB
public import proofs.«01_k».proof.Proof.PostIndex
public import proofs.«01_k».proof.Proof.PostRefV
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.Proof.Post

open Cert.PostIdeal Cert.PostIdeal.Gen
open Cert.PostRefIdeal.Read
open Cert.Proof.Rotary
open Cert.Proof.PostRef (posOf seqOf stripRow)

variable (m : (ℓ : Loc nD τ sig) → Buf (Elt Ideal) ℓ)

/-- The values of the first branch, whole. -/
theorem array_values_a (c : Dev nD) : (dats m 0 c).arrAt 14 (cfgs 0).N = val_main_v205 (F := Ideal) (projArg m c) := by
  refine (dats m 0 c).arrAt_eq_of_covers 14 _ (by decide +kernel) fun t _ y => ?_
  blk_simp
  rw [after0_14]
  have hy : (y 1).val < 1024 := (y 1).isLt
  refine (values_a _ _ _ _ _ _ _ _ _ _ _ (y 0) ⟨(y 1).val / 128, by omega⟩ ⟨(y 1).val % 128, Nat.mod_lt _ (by decide)⟩ y rfl
    (by show (y 1).val = (y 1).val / 128 * 128 + (y 1).val % 128; omega)).trans ?_
  refine Eq.trans ?_ (PostRef.values_a (projArg m c) (stripRow (stripAt t) (y 0)) (y 1) _
    (by blk_simp [where_written t]; rfl) (by blk_simp [where_written t])).symm
  exact ((heads_block m c t (y 0) _).trans (congrArg (fun q => projArg m c (ix2 _ q)) (Fin.ext (by first | rfl | (simp only []; omega)))))

/-- The rounded values of the first branch, whole. -/
theorem array_values_a_low (c : Dev nD) : (dats m 0 c).arrAt 15 (cfgs 0).N = val_main_v207 (F := Ideal) (projArg m c) := by
  refine (dats m 0 c).arrAt_eq_of_covers 15 _ (by decide +kernel) fun t _ y => ?_
  blk_simp
  rw [after0_15]
  have hy : (y 1).val < 1024 := (y 1).isLt
  refine (values_a_low _ _ _ _ _ _ _ _ _ _ _ (y 0) ⟨(y 1).val / 128, by omega⟩ ⟨(y 1).val % 128, Nat.mod_lt _ (by decide)⟩ y rfl
    (by show (y 1).val = (y 1).val / 128 * 128 + (y 1).val % 128; omega)).trans ?_
  refine Eq.trans ?_ (PostRef.values_a_low (projArg m c) (stripRow (stripAt t) (y 0)) (y 1) _
    (by blk_simp [where_written t]; rfl) (by blk_simp [where_written t])).symm
  exact ((heads_block m c t (y 0) _).trans (congrArg (fun q => projArg m c (ix2 _ q)) (Fin.ext (by first | rfl | (simp only []; omega)))))

/-- The values of the second branch, whole. -/
theorem array_values_b (c : Dev nD) : (dats m 0 c).arrAt 23 (cfgs 0).N = val_main_v219 (F := Ideal) (projArg m c) := by
  refine (dats m 0 c).arrAt_eq_of_covers 23 _ (by decide +kernel) fun t _ y => ?_
  blk_simp
  rw [after0_23]
  have hy : (y 1).val < 1024 := (y 1).isLt
  refine (values_b _ _ _ _ _ _ _ _ _ _ _ (y 0) ⟨(y 1).val / 128, by omega⟩ ⟨(y 1).val % 128, Nat.mod_lt _ (by decide)⟩ y rfl
    (by show (y 1).val = (y 1).val / 128 * 128 + (y 1).val % 128; omega)).trans ?_
  refine Eq.trans ?_ (PostRef.values_b (projArg m c) (stripRow (stripAt t) (y 0)) (y 1) _
    (by blk_simp [where_written t]; rfl) (by blk_simp [where_written t])).symm
  exact ((second_keys_block m c t (y 0) _).trans (congrArg (fun q => projArg m c (ix2 _ q)) (Fin.ext (by first | rfl | (simp only []; omega)))))

/-- The rounded values of the second branch, whole. -/
theorem array_values_b_low (c : Dev nD) : (dats m 0 c).arrAt 24 (cfgs 0).N = val_main_v221 (F := Ideal) (projArg m c) := by
  refine (dats m 0 c).arrAt_eq_of_covers 24 _ (by decide +kernel) fun t _ y => ?_
  blk_simp
  rw [after0_24]
  have hy : (y 1).val < 1024 := (y 1).isLt
  refine (values_b_low _ _ _ _ _ _ _ _ _ _ _ (y 0) ⟨(y 1).val / 128, by omega⟩ ⟨(y 1).val % 128, Nat.mod_lt _ (by decide)⟩ y rfl
    (by show (y 1).val = (y 1).val / 128 * 128 + (y 1).val % 128; omega)).trans ?_
  refine Eq.trans ?_ (PostRef.values_b_low (projArg m c) (stripRow (stripAt t) (y 0)) (y 1) _
    (by blk_simp [where_written t]; rfl) (by blk_simp [where_written t])).symm
  exact ((second_keys_block m c t (y 0) _).trans (congrArg (fun q => projArg m c (ix2 _ q)) (Fin.ext (by first | rfl | (simp only []; omega)))))

/-- The weights of the indexer, whole. -/
theorem array_index_weights (c : Dev nD) : (dats m 0 c).arrAt 19 (cfgs 0).N = val_main_v213 (F := Ideal) (smallArg m c) := by
  refine (dats m 0 c).arrAt_eq_of_covers 19 _ (by decide +kernel) fun t _ y => ?_
  blk_simp
  rw [after0_19]
  have hy : (y 1).val < 128 := (y 1).isLt
  refine (index_weights _ _ _ _ _ _ _ _ _ _ _ (y 0) (y 1) y rfl rfl).trans ?_
  refine Eq.trans ?_ (PostRef.index_weights (smallArg m c) (stripRow (stripAt t) (y 0)) (y 1) _
    (by blk_simp [where_written t]; rfl) (by blk_simp [where_written t])).symm
  refine congrArg (· * weightScale) ?_
  exact small_block m c t (y 0) _

end Cert.Proof.Post

end
-- ==== Proof.PostRefI.lean ====
/- The reference read at one entry: the indexer. -/
module

public import proofs.«01_k».proof.Proof.Gen.PostRefIdeal.Read
public import proofs.«01_k».proof.Proof.PostRefA
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open scoped BigOperators

namespace Cert.Proof.PostRef

open Cert.PostRefIdeal Cert.PostRefIdeal.Read
open Cert.Proof.Rotary

variable (x0 : Vec Ideal S8192x24576 .f32) (x1 : Vec Ideal S8192x256 .f32) (x2 x3 : Vec Ideal S4096x64 .f32)
  (x4 x5 x6 x7 : Vec Ideal S1x128 .f32)

/-- Queries of the indexer: a head cut out of its array. -/
theorem heads_i_q (b : Fin 2) (s : Fin 4096) (h : Fin 32) (j : Fin 128) :
    val_main_v77 (F := Ideal) x0 (ix4 b s h j) = x0 (ix2 (rowOf b s) ⟨4096 + h.val * 128 + j.val, by have := h.isLt; have := j.isLt; omega⟩) := by
  rw [val_main_v77_apply, val_main_v76_apply, val_main_v1_apply]
  refine congrArg x0 ?_
  have hb := b.isLt
  have hs := s.isLt
  have hh := h.isLt
  have hj := j.isLt
  funext a
  apply Fin.ext
  match a with
  | ⟨0, _⟩ => simp [idx_main_v1, idx_main_v76, idx_main_v77, rowOf]; omega
  | ⟨1, _⟩ => simp [idx_main_v1, idx_main_v76, idx_main_v77, rowOf]; omega

/-- Queries of the indexer: the first half of a turned head. -/
theorem low_i_q (b : Fin 2) (s : Fin 4096) (h : Fin 32) (i : Fin 64) :
    val_main_v88 (F := Ideal) x0 x2 x3 (ix4 b s h i)
      = val_main_v77 (F := Ideal) x0 (ix4 b s h ⟨i.val, by have := i.isLt; omega⟩) * x2 (ix2 s i)
        - val_main_v77 (F := Ideal) x0 (ix4 b s h ⟨64 + i.val, by have := i.isLt; omega⟩) * x3 (ix2 s i) := by
  pointwise [val_main_v88, val_main_v87, val_main_v86, val_main_v85, val_main_v84, val_main_v83, val_main_v82, val_main_v81, val_main_v80, val_main_v79, val_main_v78]

/-- Queries of the indexer: the second half of a turned head. -/
theorem high_i_q (b : Fin 2) (s : Fin 4096) (h : Fin 32) (i : Fin 64) :
    val_main_v95 (F := Ideal) x0 x2 x3 (ix4 b s h i)
      = val_main_v77 (F := Ideal) x0 (ix4 b s h ⟨64 + i.val, by have := i.isLt; omega⟩) * x2 (ix2 s i)
        + val_main_v77 (F := Ideal) x0 (ix4 b s h ⟨i.val, by have := i.isLt; omega⟩) * x3 (ix2 s i) := by
  pointwise [val_main_v95, val_main_v94, val_main_v93, val_main_v92, val_main_v91, val_main_v90, val_main_v89, val_main_v81, val_main_v80, val_main_v79, val_main_v78]

/-- Queries of the indexer: a turned head is its two halves joined. -/
theorem turn_i_q (b : Fin 2) (s : Fin 4096) (h : Fin 32) (j : Fin 128) :
    val_main_v96 (F := Ideal) x0 x2 x3 (ix4 b s h j)
      = turnedPairs (fun i => x2 (ix2 s i)) (fun i => x3 (ix2 s i)) (fun i => val_main_v77 (F := Ideal) x0 (ix4 b s h i)) j := by
  have hj := j.isLt
  have hcat : val_main_v96 (F := Ideal) x0 x2 x3 (ix4 b s h j)
      = if hlt : j.val < 64 then val_main_v88 (F := Ideal) x0 x2 x3 (ix4 b s h ⟨j.val, hlt⟩)
        else val_main_v95 (F := Ideal) x0 x2 x3 (ix4 b s h ⟨j.val - 64, by omega⟩) := by
    pointwise [val_main_v96]
  rw [hcat]
  unfold turnedPairs
  by_cases hlt : j.val < 64
  · rw [dif_pos hlt, if_pos hlt, low_i_q]
    have e1 : lane j = ⟨j.val, hlt⟩ := Fin.ext (by simp only [lane]; omega)
    have e2 : across j = ⟨64 + j.val, by omega⟩ := Fin.ext (by simp only [across]; omega)
    rw [e1, e2]
  · rw [dif_neg hlt, if_neg hlt, high_i_q]
    have e1 : lane j = ⟨j.val - 64, by omega⟩ := Fin.ext (by simp only [lane]; omega)
    have e2 : across j = ⟨j.val - 64, by omega⟩ := Fin.ext (by simp only [across]; omega)
    have e3 : j = ⟨64 + (j.val - 64), by omega⟩ := Fin.ext (by simp only []; omega)
    rw [e1, e2]
    rw [← e3]

/-- Queries of the indexer: an entry in terms of the arguments. -/
theorem entry_i_q (n : Fin 8192) (h : Fin 32) (j : Fin 128) :
    val_main_v96 (F := Ideal) x0 x2 x3 (ix4 (seqOf n) (posOf n) h j)
      = turnedPairs (fun i => x2 (ix2 (posOf n) i)) (fun i => x3 (ix2 (posOf n) i))
          (fun i => x0 (ix2 n ⟨4096 + h.val * 128 + i.val, by have := h.isLt; have := i.isLt; omega⟩)) j := by
  rw [turn_i_q]
  refine congrArg (fun z => turnedPairs _ _ z j) (funext fun i => ?_)
  rw [heads_i_q, rowOf_split]

/-- The queries of the indexer, rounded. -/
theorem index_queries (n : Fin 8192) (h : Fin 32) (j : Fin 128) (y : S8192x4096.Idx) (hr : (y 0).val = n.val)
    (hj : (y 1).val = h.val * 128 + j.val) :
    val_main_v209 (F := Ideal) x0 x2 x3 y
      = turnedPairs (fun i => x2 (ix2 (posOf n) i)) (fun i => x3 (ix2 (posOf n) i))
          (fun i => x0 (ix2 n ⟨4096 + h.val * 128 + i.val, by have := h.isLt; have := i.isLt; omega⟩)) j := by
  have hn := n.isLt
  have hh := h.isLt
  have hl := j.isLt
  have e : idx_main_v208 y = ix4 (seqOf n) (posOf n) h j := by
    funext a
    apply Fin.ext
    match a with
    | ⟨0, _⟩ => simp [idx_main_v208, hr, hj, seqOf, posOf] <;> omega
    | ⟨1, _⟩ => simp [idx_main_v208, hr, hj, seqOf, posOf] <;> omega
    | ⟨2, _⟩ => simp [idx_main_v208, hr, hj, seqOf, posOf] <;> omega
    | ⟨3, _⟩ => simp [idx_main_v208, hr, hj, seqOf, posOf] <;> omega
  rw [val_main_v209_apply, val_main_v208_apply, e]
  exact entry_i_q x0 x2 x3 n h j

/-- Keys of the indexer: a head cut out of its array. -/
theorem heads_i_k (b : Fin 2) (s : Fin 4096) (h : Fin 1) (j : Fin 128) :
    val_main_v98 (F := Ideal) x1 (ix4 b s h j) = x1 (ix2 (rowOf b s) ⟨j.val, by have := j.isLt; omega⟩) := by
  rw [val_main_v98_apply, val_main_v97_apply, val_main_v2_apply]
  refine congrArg x1 ?_
  have hb := b.isLt
  have hs := s.isLt
  have hh := h.isLt
  have hj := j.isLt
  funext a
  apply Fin.ext
  match a with
  | ⟨0, _⟩ => simp [idx_main_v2, idx_main_v97, idx_main_v98, rowOf]; omega
  | ⟨1, _⟩ => simp [idx_main_v2, idx_main_v97, idx_main_v98, rowOf]; omega

/-- Keys of the indexer: the first half of a turned head. -/
theorem low_i_k (b : Fin 2) (s : Fin 4096) (h : Fin 1) (i : Fin 64) :
    val_main_v109 (F := Ideal) x1 x2 x3 (ix4 b s h i)
      = val_main_v98 (F := Ideal) x1 (ix4 b s h ⟨i.val, by have := i.isLt; omega⟩) * x2 (ix2 s i)
        - val_main_v98 (F := Ideal) x1 (ix4 b s h ⟨64 + i.val, by have := i.isLt; omega⟩) * x3 (ix2 s i) := by
  obtain rfl : h = 0 := Subsingleton.elim _ _
  pointwise [val_main_v109, val_main_v108, val_main_v107, val_main_v106, val_main_v105, val_main_v104, val_main_v103, val_main_v102, val_main_v101, val_main_v100, val_main_v99]

/-- Keys of the indexer: the second half of a turned head. -/
theorem high_i_k (b : Fin 2) (s : Fin 4096) (h : Fin 1) (i : Fin 64) :
    val_main_v116 (F := Ideal) x1 x2 x3 (ix4 b s h i)
      = val_main_v98 (F := Ideal) x1 (ix4 b s h ⟨64 + i.val, by have := i.isLt; omega⟩) * x2 (ix2 s i)
        + val_main_v98 (F := Ideal) x1 (ix4 b s h ⟨i.val, by have := i.isLt; omega⟩) * x3 (ix2 s i) := by
  obtain rfl : h = 0 := Subsingleton.elim _ _
  pointwise [val_main_v116, val_main_v115, val_main_v114, val_main_v113, val_main_v112, val_main_v111, val_main_v110, val_main_v102, val_main_v101, val_main_v100, val_main_v99]

/-- Keys of the indexer: a turned head is its two halves joined. -/
theorem turn_i_k (b : Fin 2) (s : Fin 4096) (h : Fin 1) (j : Fin 128) :
    val_main_v117 (F := Ideal) x1 x2 x3 (ix4 b s h j)
      = turnedPairs (fun i => x2 (ix2 s i)) (fun i => x3 (ix2 s i)) (fun i => val_main_v98 (F := Ideal) x1 (ix4 b s h i)) j := by
  obtain rfl : h = 0 := Subsingleton.elim _ _
  have hj := j.isLt
  have hcat : val_main_v117 (F := Ideal) x1 x2 x3 (ix4 b s 0 j)
      = if hlt : j.val < 64 then val_main_v109 (F := Ideal) x1 x2 x3 (ix4 b s 0 ⟨j.val, hlt⟩)
        else val_main_v116 (F := Ideal) x1 x2 x3 (ix4 b s 0 ⟨j.val - 64, by omega⟩) := by
    pointwise [val_main_v117]
  rw [hcat]
  unfold turnedPairs
  by_cases hlt : j.val < 64
  · rw [dif_pos hlt, if_pos hlt, low_i_k]
    have e1 : lane j = ⟨j.val, hlt⟩ := Fin.ext (by simp only [lane]; omega)
    have e2 : across j = ⟨64 + j.val, by omega⟩ := Fin.ext (by simp only [across]; omega)
    rw [e1, e2]
  · rw [dif_neg hlt, if_neg hlt, high_i_k]
    have e1 : lane j = ⟨j.val - 64, by omega⟩ := Fin.ext (by simp only [lane]; omega)
    have e2 : across j = ⟨j.val - 64, by omega⟩ := Fin.ext (by simp only [across]; omega)
    have e3 : j = ⟨64 + (j.val - 64), by omega⟩ := Fin.ext (by simp only []; omega)
    rw [e1, e2]
    rw [← e3]

/-- Keys of the indexer: an entry in terms of the arguments. -/
theorem entry_i_k (n : Fin 8192) (h : Fin 1) (j : Fin 128) :
    val_main_v117 (F := Ideal) x1 x2 x3 (ix4 (seqOf n) (posOf n) h j)
      = turnedPairs (fun i => x2 (ix2 (posOf n) i)) (fun i => x3 (ix2 (posOf n) i))
          (fun i => x1 (ix2 n ⟨i.val, by have := i.isLt; omega⟩)) j := by
  rw [turn_i_k]
  refine congrArg (fun z => turnedPairs _ _ z j) (funext fun i => ?_)
  rw [heads_i_k, rowOf_split]

/-- The keys of the indexer. -/
theorem index_keys (n : Fin 8192) (j : Fin 128) (y : S8192x128.Idx) (hr : (y 0).val = n.val)
    (hj : (y 1).val = j.val) :
    val_main_v210 (F := Ideal) x1 x2 x3 y
      = turnedPairs (fun i => x2 (ix2 (posOf n) i)) (fun i => x3 (ix2 (posOf n) i))
          (fun i => x1 (ix2 n ⟨i.val, by have := i.isLt; omega⟩)) j := by
  have hn := n.isLt
  have hl := j.isLt
  have e : idx_main_v118 (idx_main_v210 y) = ix4 (seqOf n) (posOf n) 0 j := by
    funext a
    apply Fin.ext
    match a with
    | ⟨0, _⟩ => simp [idx_main_v210, idx_main_v118, hr, hj, seqOf, posOf] <;> omega
    | ⟨1, _⟩ => simp [idx_main_v210, idx_main_v118, hr, hj, seqOf, posOf] <;> omega
    | ⟨2, _⟩ => simp [idx_main_v210, idx_main_v118, hr, hj, seqOf, posOf] <;> omega
    | ⟨3, _⟩ => simp [idx_main_v210, idx_main_v118, hr, hj, seqOf, posOf] <;> omega
  rw [val_main_v210_apply, val_main_v118_apply, e]
  exact entry_i_k x1 x2 x3 n 0 j

/-- The rounded copy of the keys of the indexer. -/
theorem index_keys_low (n : Fin 8192) (j : Fin 128) (y : S8192x128.Idx) (hr : (y 0).val = n.val)
    (hj : (y 1).val = j.val) :
    val_main_v212 (F := Ideal) x1 x2 x3 y
      = turnedPairs (fun i => x2 (ix2 (posOf n) i)) (fun i => x3 (ix2 (posOf n) i))
          (fun i => x1 (ix2 n ⟨i.val, by have := i.isLt; omega⟩)) j := by
  have hn := n.isLt
  have hl := j.isLt
  have e : idx_main_v118 (idx_main_v211 y) = ix4 (seqOf n) (posOf n) 0 j := by
    funext a
    apply Fin.ext
    match a with
    | ⟨0, _⟩ => simp [idx_main_v211, idx_main_v118, hr, hj, seqOf, posOf] <;> omega
    | ⟨1, _⟩ => simp [idx_main_v211, idx_main_v118, hr, hj, seqOf, posOf] <;> omega
    | ⟨2, _⟩ => simp [idx_main_v211, idx_main_v118, hr, hj, seqOf, posOf] <;> omega
    | ⟨3, _⟩ => simp [idx_main_v211, idx_main_v118, hr, hj, seqOf, posOf] <;> omega
  rw [val_main_v212_apply, val_main_v211_apply, val_main_v118_apply, e]
  exact entry_i_k x1 x2 x3 n 0 j

end Cert.Proof.PostRef

end
-- ==== Proof.PostArrI.lean ====
/- The arrays of the indexer after the run. -/
module

public import proofs.«01_k».proof.Proof.PostBlocks
public import proofs.«01_k».proof.Proof.PostIndex
public import proofs.«01_k».proof.Proof.PostRefI
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.Proof.Post

open Cert.PostIdeal Cert.PostIdeal.Gen
open Cert.PostRefIdeal.Read
open Cert.Proof.Rotary
open Cert.Proof.PostRef (posOf seqOf stripRow)

variable (m : (ℓ : Loc nD τ sig) → Buf (Elt Ideal) ℓ)

/-- The queries of the indexer, whole. -/
theorem array_index_queries (c : Dev nD) : (dats m 0 c).arrAt 16 (cfgs 0).N
    = val_main_v209 (F := Ideal) (projArg m c) (cosArg m c) (sinArg m c) := by
  refine (dats m 0 c).arrAt_eq_of_covers 16 _ (by decide +kernel) fun t _ y => ?_
  blk_simp
  rw [after0_16]
  have hy : (y 1).val < 4096 := (y 1).isLt
  refine (index_queries _ _ _ _ _ _ _ _ _ _ _ (y 0) ⟨(y 1).val / 128, by omega⟩ ⟨(y 1).val % 128, Nat.mod_lt _ (by decide)⟩ y rfl
    (by show (y 1).val = (y 1).val / 128 * 128 + (y 1).val % 128; omega)).trans ?_
  refine Eq.trans ?_ (PostRef.index_queries (projArg m c) (cosArg m c) (sinArg m c) (stripRow (stripAt t) (y 0)) ⟨(y 1).val / 128, by omega⟩ ⟨(y 1).val % 128, Nat.mod_lt _ (by decide)⟩ _
    (by blk_simp [where_written t]; rfl)
    (by blk_simp [where_written t]; show (y 1).val = (y 1).val / 128 * 128 + (y 1).val % 128; omega)).symm
  refine turned_block m c t (y 0) _ _ (funext fun i => ?_) _
  exact ((index_block m c t (y 0) _).trans (congrArg (fun q => projArg m c (ix2 _ q)) (Fin.ext (by first | rfl | (simp only []; omega)))))

/-- The keys of the indexer, whole. -/
theorem array_index_keys (c : Dev nD) : (dats m 0 c).arrAt 17 (cfgs 0).N
    = val_main_v210 (F := Ideal) (smallArg m c) (cosArg m c) (sinArg m c) := by
  refine (dats m 0 c).arrAt_eq_of_covers 17 _ (by decide +kernel) fun t _ y => ?_
  blk_simp
  rw [after0_17]
  have hy : (y 1).val < 128 := (y 1).isLt
  refine (index_keys _ _ _ _ _ _ _ _ _ _ _ (y 0) ⟨(y 1).val % 128, Nat.mod_lt _ (by decide)⟩ y rfl
    (by show (y 1).val = (y 1).val % 128; omega)).trans ?_
  refine Eq.trans ?_ (PostRef.index_keys (smallArg m c) (cosArg m c) (sinArg m c) (stripRow (stripAt t) (y 0)) ⟨(y 1).val % 128, Nat.mod_lt _ (by decide)⟩ _
    (by blk_simp [where_written t]; rfl)
    (by blk_simp [where_written t]; show (y 1).val = (y 1).val % 128; omega)).symm
  refine turned_block m c t (y 0) _ _ (funext fun i => ?_) _
  exact small_block m c t (y 0) _

/-- The rounded keys of the indexer, whole. -/
theorem array_index_keys_low (c : Dev nD) : (dats m 0 c).arrAt 18 (cfgs 0).N
    = val_main_v212 (F := Ideal) (smallArg m c) (cosArg m c) (sinArg m c) := by
  refine (dats m 0 c).arrAt_eq_of_covers 18 _ (by decide +kernel) fun t _ y => ?_
  blk_simp
  rw [after0_18]
  have hy : (y 1).val < 128 := (y 1).isLt
  refine (index_keys_low _ _ _ _ _ _ _ _ _ _ _ (y 0) ⟨(y 1).val % 128, Nat.mod_lt _ (by decide)⟩ y rfl
    (by show (y 1).val = (y 1).val % 128; omega)).trans ?_
  refine Eq.trans ?_ (PostRef.index_keys_low (smallArg m c) (cosArg m c) (sinArg m c) (stripRow (stripAt t) (y 0)) ⟨(y 1).val % 128, Nat.mod_lt _ (by decide)⟩ _
    (by blk_simp [where_written t]; rfl)
    (by blk_simp [where_written t]; show (y 1).val = (y 1).val % 128; omega)).symm
  refine turned_block m c t (y 0) _ _ (funext fun i => ?_) _
  exact small_block m c t (y 0) _

end Cert.Proof.Post

end
-- ==== Proof.PostArrQB.lean ====
/- The array of the queries of the second branch after the run. -/
module

public import proofs.«01_k».proof.Proof.PostBlocks
public import proofs.«01_k».proof.Proof.PostQueries
public import proofs.«01_k».proof.Proof.PostRefB
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.Proof.Post

open Cert.PostIdeal Cert.PostIdeal.Gen
open Cert.PostRefIdeal.Read
open Cert.Proof.Rotary
open Cert.Proof.PostRef (posOf seqOf stripRow)

variable (m : (ℓ : Loc nD τ sig) → Buf (Elt Ideal) ℓ)

/-- The queries of the second branch, whole. -/
theorem array_queries_b (c : Dev nD) : (dats m 0 c).arrAt 20 (cfgs 0).N
    = val_main_v215 (F := Ideal) (projArg m c) (cosArg m c) (sinArg m c) (gain6 m c) := by
  refine (dats m 0 c).arrAt_eq_of_covers 20 _ (by decide +kernel) fun t _ y => ?_
  blk_simp
  rw [after0_20]
  have hy : (y 1).val < 2048 := (y 1).isLt
  refine (queries_b _ _ _ _ _ _ _ _ _ _ _ (y 0) ⟨(y 1).val / 128, by omega⟩ ⟨(y 1).val % 128, Nat.mod_lt _ (by decide)⟩ y rfl
    (by show (y 1).val = (y 1).val / 128 * 128 + (y 1).val % 128; omega)).trans ?_
  refine Eq.trans ?_ (PostRef.queries_b (projArg m c) (cosArg m c) (sinArg m c) (gain6 m c) (stripRow (stripAt t) (y 0)) ⟨(y 1).val / 128, by omega⟩ ⟨(y 1).val % 128, Nat.mod_lt _ (by decide)⟩ _
    (by blk_simp [where_written t]; rfl)
    (by blk_simp [where_written t]; show (y 1).val = (y 1).val / 128 * 128 + (y 1).val % 128; omega)).symm
  refine congrArg (· * headScale) ?_
  refine turned_block m c t (y 0) _ _ (funext fun i => ?_) _
  refine congrArg₂ (fun a b => rmsNorm headSize a b i) (funext fun k => ?_) (funext fun k => gain_block6 m c t k)
  exact ((second_queries_block m c t (y 0) _).trans (congrArg (fun q => projArg m c (ix2 _ q)) (Fin.ext (by first | rfl | (simp only []; omega)))))

end Cert.Proof.Post

end
-- ==== Proof.PostArrKB.lean ====
/- The arrays of the keys of the second branch after the run, and of their means. -/
module

public import proofs.«01_k».proof.Proof.PostBlocks
public import proofs.«01_k».proof.Proof.PostKeysB
public import proofs.«01_k».proof.Proof.PostIndex
public import proofs.«01_k».proof.Proof.PostRefB
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.Proof.Post

open Cert.PostIdeal Cert.PostIdeal.Gen
open Cert.PostRefIdeal.Read
open Cert.Proof.Rotary
open Cert.Proof.PostRef (posOf seqOf stripRow)

variable (m : (ℓ : Loc nD τ sig) → Buf (Elt Ideal) ℓ)

/-- The keys of the second branch, whole. -/
theorem array_keys_b (c : Dev nD) : (dats m 0 c).arrAt 21 (cfgs 0).N
    = val_main_v216 (F := Ideal) (projArg m c) (cosArg m c) (sinArg m c) (gain7 m c) := by
  refine (dats m 0 c).arrAt_eq_of_covers 21 _ (by decide +kernel) fun t _ y => ?_
  blk_simp
  rw [after0_21]
  have hy : (y 1).val < 1024 := (y 1).isLt
  refine (keys_b _ _ _ _ _ _ _ _ _ _ _ (y 0) ⟨(y 1).val / 128, by omega⟩ ⟨(y 1).val % 128, Nat.mod_lt _ (by decide)⟩ y rfl
    (by show (y 1).val = (y 1).val / 128 * 128 + (y 1).val % 128; omega)).trans ?_
  refine Eq.trans ?_ (PostRef.keys_b (projArg m c) (cosArg m c) (sinArg m c) (gain7 m c) (stripRow (stripAt t) (y 0)) ⟨(y 1).val / 128, by omega⟩ ⟨(y 1).val % 128, Nat.mod_lt _ (by decide)⟩ _
    (by blk_simp [where_written t]; rfl)
    (by blk_simp [where_written t]; show (y 1).val = (y 1).val / 128 * 128 + (y 1).val % 128; omega)).symm
  refine turned_block m c t (y 0) _ _ (funext fun i => ?_) _
  refine congrArg₂ (fun a b => rmsNorm headSize a b i) (funext fun k => ?_) (funext fun k => gain_block7 m c t k)
  exact ((second_keys_block m c t (y 0) _).trans (congrArg (fun q => projArg m c (ix2 _ q)) (Fin.ext (by first | rfl | (simp only []; omega)))))

/-- The rounded keys of the second branch, whole. -/
theorem array_keys_b_low (c : Dev nD) : (dats m 0 c).arrAt 22 (cfgs 0).N
    = val_main_v218 (F := Ideal) (projArg m c) (cosArg m c) (sinArg m c) (gain7 m c) := by
  refine (dats m 0 c).arrAt_eq_of_covers 22 _ (by decide +kernel) fun t _ y => ?_
  blk_simp
  rw [after0_22]
  have hy : (y 1).val < 1024 := (y 1).isLt
  refine (keys_b_low _ _ _ _ _ _ _ _ _ _ _ (y 0) ⟨(y 1).val / 128, by omega⟩ ⟨(y 1).val % 128, Nat.mod_lt _ (by decide)⟩ y rfl
    (by show (y 1).val = (y 1).val / 128 * 128 + (y 1).val % 128; omega)).trans ?_
  refine Eq.trans ?_ (PostRef.keys_b_low (projArg m c) (cosArg m c) (sinArg m c) (gain7 m c) (stripRow (stripAt t) (y 0)) ⟨(y 1).val / 128, by omega⟩ ⟨(y 1).val % 128, Nat.mod_lt _ (by decide)⟩ _
    (by blk_simp [where_written t]; rfl)
    (by blk_simp [where_written t]; show (y 1).val = (y 1).val / 128 * 128 + (y 1).val % 128; omega)).symm
  refine turned_block m c t (y 0) _ _ (funext fun i => ?_) _
  refine congrArg₂ (fun a b => rmsNorm headSize a b i) (funext fun k => ?_) (funext fun k => gain_block7 m c t k)
  exact ((second_keys_block m c t (y 0) _).trans (congrArg (fun q => projArg m c (ix2 _ q)) (Fin.ext (by first | rfl | (simp only []; omega)))))

/-- The block means of the keys of the second branch, whole. -/
theorem array_means_b (c : Dev nD) : (dats m 0 c).arrAt 25 (cfgs 0).N = val_main_v199 (F := Ideal) (projArg m c) (cosArg m c) (sinArg m c) (gain7 m c) := by
  refine (dats m 0 c).arrAt_eq_of_covers 25 _ (by decide +kernel) fun t _ y => ?_
  blk_simp
  rw [after0_25]
  have hy : (y 2).val < 1024 := (y 2).isLt
  have hz : (y 0).val < 1 := (y 0).isLt
  refine (means_b _ _ _ _ _ _ _ _ _ _ _ ⟨(y 2).val / 128, by omega⟩ ⟨(y 2).val % 128, Nat.mod_lt _ (by decide)⟩ y
    (by show (y 2).val = (y 2).val / 128 * 128 + (y 2).val % 128; omega)).trans ?_
  refine Eq.trans ?_ (PostRef.means_b (projArg m c) (cosArg m c) (sinArg m c) (gain7 m c) (stripAt t) ⟨(y 2).val / 128, by omega⟩ ⟨(y 2).val % 128, Nat.mod_lt _ (by decide)⟩ _
    (by blk_simp [where_written t]; rfl)
    (by blk_simp [where_written t]; show (y 2).val = (y 2).val / 128 * 128 + (y 2).val % 128; omega)).symm
  refine congrArg (fun z => Ideal.div z stripSize) (Finset.sum_congr rfl fun r _ => ?_)
  refine Eq.trans ?_ (PostRef.entry_k_b (projArg m c) (cosArg m c) (sinArg m c) (gain7 m c) (stripRow (stripAt t) r) _ _).symm
  refine turned_block m c t r _ _ (funext fun i => ?_) _
  refine congrArg₂ (fun a b => rmsNorm headSize a b i) (funext fun k => ?_) (funext fun k => gain_block7 m c t k)
  exact ((second_keys_block m c t r _).trans (congrArg (fun q => projArg m c (ix2 _ q)) (Fin.ext (by first | rfl | (simp only []; omega)))))

end Cert.Proof.Post

end
-- ==== Proof.PostValue.lean ====
/- The arrays after the two runs are the same, result by result. -/
module

public import proofs.«01_k».proof.Defs
public import proofs.«01_k».proof.Proof.PostArrQA
public import proofs.«01_k».proof.Proof.PostArrKA
public import proofs.«01_k».proof.Proof.PostArrV
public import proofs.«01_k».proof.Proof.PostArrI
public import proofs.«01_k».proof.Proof.PostArrQB
public import proofs.«01_k».proof.Proof.PostArrKB

@[expose] public section

set_option maxRecDepth 16384

noncomputable section

open Idealize.ShloMosaic Idealize.ShloMosaic.TcCoe Idealize.SL.Sem
open Idealize.ShloMosaic.Pipeline (Dat)

namespace Cert.Proof.Post

open Cert.PostIdeal Cert.PostIdeal.Gen
open Cert.PostRefIdeal.Read

/-- A function of three arguments at equal arguments. -/
theorem same_three {α β γ δ : Sort _} (f : α → β → γ → δ) {a a' : α} {b b' : β} {c c' : γ} (ha : a = a') (hb : b = b')
    (hc : c = c') : f a b c = f a' b' c' := by
  subst ha hb hc
  rfl

/-- A function of four arguments at equal arguments. -/
theorem same_four {α β γ δ ε : Sort _} (f : α → β → γ → δ → ε) {a a' : α} {b b' : β} {c c' : γ} {d d' : δ} (ha : a = a')
    (hb : b = b') (hc : c = c') (hd : d = d') : f a b c d = f a' b' c' d' := by
  subst ha hb hc hd
  rfl

/-- Over the extended reals, the kernel and the reference end with equal arrays. -/
theorem algebraic : Cert.algebraic_PostIdeal_PostRefIdeal := by
  intro m g m' g' hpre hagree
  refine ⟨
    fun c => val_main_v201 (F := Ideal) (projArg m c) (cosArg m c) (sinArg m c) (gain4 m c),
    fun c => val_main_v202 (F := Ideal) (projArg m c) (cosArg m c) (sinArg m c) (gain5 m c),
    fun c => val_main_v204 (F := Ideal) (projArg m c) (cosArg m c) (sinArg m c) (gain5 m c),
    fun c => val_main_v205 (F := Ideal) (projArg m c),
    fun c => val_main_v207 (F := Ideal) (projArg m c),
    fun c => val_main_v209 (F := Ideal) (projArg m c) (cosArg m c) (sinArg m c),
    fun c => val_main_v210 (F := Ideal) (smallArg m c) (cosArg m c) (sinArg m c),
    fun c => val_main_v212 (F := Ideal) (smallArg m c) (cosArg m c) (sinArg m c),
    fun c => val_main_v213 (F := Ideal) (smallArg m c),
    fun c => val_main_v215 (F := Ideal) (projArg m c) (cosArg m c) (sinArg m c) (gain6 m c),
    fun c => val_main_v216 (F := Ideal) (projArg m c) (cosArg m c) (sinArg m c) (gain7 m c),
    fun c => val_main_v218 (F := Ideal) (projArg m c) (cosArg m c) (sinArg m c) (gain7 m c),
    fun c => val_main_v219 (F := Ideal) (projArg m c),
    fun c => val_main_v221 (F := Ideal) (projArg m c),
    fun c => val_main_v199 (F := Ideal) (projArg m c) (cosArg m c) (sinArg m c) (gain7 m c), ?_, ?_⟩
  · refine (θ_run Cert.PostIdeal.defs _ _).mono (fun r h c => ?_) (Cert.PostIdeal.Value.run_blocks m g)
    have h := h c
    exact ⟨h.1.trans (array_queries_a m c),
      h.2.1.trans (array_keys_a m c),
      h.2.2.1.trans (array_keys_a_low m c),
      h.2.2.2.1.trans (array_values_a m c),
      h.2.2.2.2.1.trans (array_values_a_low m c),
      h.2.2.2.2.2.1.trans (array_index_queries m c),
      h.2.2.2.2.2.2.1.trans (array_index_keys m c),
      h.2.2.2.2.2.2.2.1.trans (array_index_keys_low m c),
      h.2.2.2.2.2.2.2.2.1.trans (array_index_weights m c),
      h.2.2.2.2.2.2.2.2.2.1.trans (array_queries_b m c),
      h.2.2.2.2.2.2.2.2.2.2.1.trans (array_keys_b m c),
      h.2.2.2.2.2.2.2.2.2.2.2.1.trans (array_keys_b_low m c),
      h.2.2.2.2.2.2.2.2.2.2.2.2.1.trans (array_values_b m c),
      h.2.2.2.2.2.2.2.2.2.2.2.2.2.1.trans (array_values_b_low m c),
      h.2.2.2.2.2.2.2.2.2.2.2.2.2.2.1.trans (array_means_b m c),
      h.2.2.2.2.2.2.2.2.2.2.2.2.2.2.2⟩
  · refine (θ_run Cert.PostRefIdeal.defs _ _).mono (fun r h c => ?_) (Cert.PostRefIdeal.Value.run (F := Ideal) m' g')
    have h := h c
    obtain ⟨h0, h1, h2, h3, h4, h5, h6, h7⟩ := hagree c
    exact ⟨h.1.trans ((val_main_v201_eq (StableHlo.launchContents m' c)).trans (same_four (val_main_v201 (F := Ideal)) h0 h2 h3 h4)),
      h.2.1.trans ((val_main_v202_eq (StableHlo.launchContents m' c)).trans (same_four (val_main_v202 (F := Ideal)) h0 h2 h3 h5)),
      h.2.2.1.trans ((val_main_v204_eq (StableHlo.launchContents m' c)).trans (same_four (val_main_v204 (F := Ideal)) h0 h2 h3 h5)),
      h.2.2.2.1.trans ((val_main_v205_eq (StableHlo.launchContents m' c)).trans (congrArg (val_main_v205 (F := Ideal)) h0)),
      h.2.2.2.2.1.trans ((val_main_v207_eq (StableHlo.launchContents m' c)).trans (congrArg (val_main_v207 (F := Ideal)) h0)),
      h.2.2.2.2.2.1.trans ((val_main_v209_eq (StableHlo.launchContents m' c)).trans (same_three (val_main_v209 (F := Ideal)) h0 h2 h3)),
      h.2.2.2.2.2.2.1.trans ((val_main_v210_eq (StableHlo.launchContents m' c)).trans (same_three (val_main_v210 (F := Ideal)) h1 h2 h3)),
      h.2.2.2.2.2.2.2.1.trans ((val_main_v212_eq (StableHlo.launchContents m' c)).trans (same_three (val_main_v212 (F := Ideal)) h1 h2 h3)),
      h.2.2.2.2.2.2.2.2.1.trans ((val_main_v213_eq (StableHlo.launchContents m' c)).trans (congrArg (val_main_v213 (F := Ideal)) h1)),
      h.2.2.2.2.2.2.2.2.2.1.trans ((val_main_v215_eq (StableHlo.launchContents m' c)).trans (same_four (val_main_v215 (F := Ideal)) h0 h2 h3 h6)),
      h.2.2.2.2.2.2.2.2.2.2.1.trans ((val_main_v216_eq (StableHlo.launchContents m' c)).trans (same_four (val_main_v216 (F := Ideal)) h0 h2 h3 h7)),
      h.2.2.2.2.2.2.2.2.2.2.2.1.trans ((val_main_v218_eq (StableHlo.launchContents m' c)).trans (same_four (val_main_v218 (F := Ideal)) h0 h2 h3 h7)),
      h.2.2.2.2.2.2.2.2.2.2.2.2.1.trans ((val_main_v219_eq (StableHlo.launchContents m' c)).trans (congrArg (val_main_v219 (F := Ideal)) h0)),
      h.2.2.2.2.2.2.2.2.2.2.2.2.2.1.trans ((val_main_v221_eq (StableHlo.launchContents m' c)).trans (congrArg (val_main_v221 (F := Ideal)) h0)),
      h.2.2.2.2.2.2.2.2.2.2.2.2.2.2.1.trans ((val_main_v199_eq (StableHlo.launchContents m' c)).trans (same_four (val_main_v199 (F := Ideal)) h0 h2 h3 h7)),
      h.2.2.2.2.2.2.2.2.2.2.2.2.2.2.2⟩

end Cert.Proof.Post

end
-- ==== Proof.lean ====
/- The claims of this certificate put together. -/
module

public import proofs.«01_k».proof.Defs
public import proofs.«01_k».proof.Proof.Gen.Moba.Frame
public import proofs.«01_k».proof.Proof.Gen.MobaIdeal.Frame
public import proofs.«01_k».proof.Proof.Gen.Proj.Frame
public import proofs.«01_k».proof.Proof.Gen.ProjIdeal.Frame
public import proofs.«01_k».proof.Proof.Gen.Merge.Frame
public import proofs.«01_k».proof.Proof.Gen.MergeIdeal.Frame
public import proofs.«01_k».proof.Proof.Gen.Post.Frame
public import proofs.«01_k».proof.Proof.Gen.PostIdeal.Frame
public import proofs.«01_k».proof.Proof.Gen.PostIdeal.Value
public import proofs.«01_k».proof.Proof.Gen.PostRefIdeal
public import proofs.«01_k».proof.Proof.Gen.PostRefIdeal.Read
public import proofs.«01_k».proof.Proof.Gen.Norm.Frame
public import proofs.«01_k».proof.Proof.Gen.NormIdeal.Frame
public import proofs.«01_k».proof.Proof.Gen.MobaIdeal.Value
public import proofs.«01_k».proof.Proof.Gen.ProjIdeal.Value
public import proofs.«01_k».proof.Proof.Gen.MergeIdeal.Value
public import proofs.«01_k».proof.Proof.Gen.NormIdeal.Value
public import proofs.«01_k».proof.Proof.Gen.MobaRefIdeal
public import proofs.«01_k».proof.Proof.Gen.MobaRefIdeal.Read
public import proofs.«01_k».proof.Proof.Gen.ProjRefIdeal
public import proofs.«01_k».proof.Proof.Gen.ProjRefIdeal.Read
public import proofs.«01_k».proof.Proof.Gen.MergeRefIdeal
public import proofs.«01_k».proof.Proof.Gen.MergeRefIdeal.Read
public import proofs.«01_k».proof.Proof.Gen.NormRefIdeal
public import proofs.«01_k».proof.Proof.Gen.NormRefIdeal.Read
public import proofs.«01_k».proof.Proof.Precondition
public import proofs.«01_k».proof.Proof.MobaValue
public import proofs.«01_k».proof.Proof.ProjValue
public import proofs.«01_k».proof.Proof.MergeValue
public import proofs.«01_k».proof.Proof.NormValue
public import proofs.«01_k».proof.Proof.PostValue
public import Idealize.ShloMosaic.Lib.Claim

@[expose] public section

noncomputable section

namespace Cert.Proof

open Idealize.ShloMosaic Idealize.SL.Sem

/-- The reference `MobaRef` runs, keeps its arguments, and has no semaphore that could count. -/
theorem reference_at_rest_moba : Cert.quiescent_MobaRefIdeal := fun m ρ _ =>
  (θ_run Cert.MobaRefIdeal.defs _ _).mono (fun r h => ⟨fun c => (h c).2, sem_eq_zero_of_no_sems (by decide) r.2⟩)
    (Cert.MobaRefIdeal.Value.run (F := Ideal) m ρ)

/-- The same under the precondition of the block attention. -/
theorem reference_at_rest_moba_finite : Cert.quiescent_MobaRefIdeal_pre_finite := fun m ρ _ =>
  reference_at_rest_moba m ρ trivial

/-- The reference `ProjRef` runs, keeps its arguments, and has no semaphore that could count. -/
theorem reference_at_rest_proj : Cert.quiescent_ProjRefIdeal := fun m ρ _ =>
  (θ_run Cert.ProjRefIdeal.defs _ _).mono (fun r h => ⟨fun c => (h c).2, sem_eq_zero_of_no_sems (by decide) r.2⟩)
    (Cert.ProjRefIdeal.Value.run (F := Ideal) m ρ)

/-- The reference `MergeRef` runs, keeps its arguments, and has no semaphore that could count. -/
theorem reference_at_rest_merge : Cert.quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

/-- The reference `NormRef` runs, keeps its arguments, and has no semaphore that could count. -/
theorem reference_at_rest_norm : Cert.quiescent_NormRefIdeal := fun m ρ _ =>
  (θ_run Cert.NormRefIdeal.defs _ _).mono (fun r h => ⟨fun c => (h c).2, sem_eq_zero_of_no_sems (by decide) r.2⟩)
    (Cert.NormRefIdeal.Value.run (F := Ideal) m ρ)

/-- The reference `PostRef` runs, keeps its arguments, and has no semaphore that could count. -/
theorem reference_at_rest_post : Cert.quiescent_PostRefIdeal := fun m ρ _ =>
  (θ_run Cert.PostRefIdeal.defs _ _).mono
    (fun r h => ⟨fun c => (h c).2.2.2.2.2.2.2.2.2.2.2.2.2.2.2, sem_eq_zero_of_no_sems (by decide) r.2⟩)
    (Cert.PostRefIdeal.Value.run (F := Ideal) m ρ)

/-- Every claim of the certificate. -/
theorem claim : Cert.Claim :=
  ⟨inferInstance, inferInstance, inferInstance, inferInstance, inferInstance, inferInstance, inferInstance, inferInstance,
    inferInstance, inferInstance, inferInstance, inferInstance, inferInstance, inferInstance, inferInstance, inferInstance,
    fun m ρ _ => Cert.Moba.Gen.frame m ρ, fun m ρ _ => Cert.MobaIdeal.Gen.frame m ρ,
    fun m ρ _ => Cert.MobaIdeal.Gen.frame m ρ,
    reference_at_rest_moba, reference_at_rest_moba_finite,
    fun m ρ _ => Cert.Proj.Gen.frame m ρ, fun m ρ _ => Cert.ProjIdeal.Gen.frame m ρ,
    reference_at_rest_proj,
    fun m ρ _ => Cert.Merge.Gen.frame m ρ, fun m ρ _ => Cert.MergeIdeal.Gen.frame m ρ,
    reference_at_rest_merge,
    fun m ρ _ => Cert.Norm.Gen.frame m ρ, fun m ρ _ => Cert.NormIdeal.Gen.frame m ρ,
    reference_at_rest_norm,
    fun m ρ _ => Cert.Post.Gen.frame m ρ, fun m ρ _ => Cert.PostIdeal.Gen.frame m ρ,
    reference_at_rest_post,
    IdealRules.named_const.statement _ "mask" .f32 0xF149F2CA#32 ⊥ rfl,
    Moba.algebraic, trivial, Proj.algebraic, trivial, Merge.algebraic, trivial, Norm.algebraic,
    IdealRules.named_const.statement _ "scale" .f32 0x3DB504F3#32 (((Real.sqrt 128)⁻¹ : ℝ) : EReal) rfl, Post.algebraic⟩

end Cert.Proof

end
